-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutIn (m : (ℓ : Loc Cert.OutIn.nD Cert.OutIn.τ Cert.OutIn.sig) → Buf (Elt Bits) ℓ) : Prop :=
  True

def Pre_OutInIdeal (m : (ℓ : Loc Cert.OutInIdeal.nD Cert.OutInIdeal.τ Cert.OutInIdeal.sig) → Buf (Elt Ideal) ℓ) : Prop :=
  True

def Pre_OutInIdeal_finite_delta [hPre_finite_delta : Cert.Pre_finite_delta.Facts] (m : (ℓ : Loc Cert.OutInIdeal.nD Cert.OutInIdeal.τ Cert.OutInIdeal.sig) → Buf (Elt Ideal) ℓ) : Prop :=
  ∀ c : Dev Cert.OutInIdeal.nD,
    (Cert.Pre_finite_delta.fn (F := Ideal) (m ((c.tc : Thread Cert.OutInIdeal.nD Cert.OutInIdeal.τ).loc Cert.OutInIdeal.main_arg0)) (m ((c.tc : Thread Cert.OutInIdeal.nD Cert.OutInIdeal.τ).loc Cert.OutInIdeal.main_arg1)) (m ((c.tc : Thread Cert.OutInIdeal.nD Cert.OutInIdeal.τ).loc Cert.OutInIdeal.main_arg2)) (m ((c.tc : Thread Cert.OutInIdeal.nD Cert.OutInIdeal.τ).loc Cert.OutInIdeal.main_arg3)) (m ((c.tc : Thread Cert.OutInIdeal.nD Cert.OutInIdeal.τ).loc Cert.OutInIdeal.main_arg4)) (m ((c.tc : Thread Cert.OutInIdeal.nD Cert.OutInIdeal.τ).loc Cert.OutInIdeal.main_arg5)) (m ((c.tc : Thread Cert.OutInIdeal.nD Cert.OutInIdeal.τ).loc Cert.OutInIdeal.main_arg6)) (m ((c.tc : Thread Cert.OutInIdeal.nD Cert.OutInIdeal.τ).loc Cert.OutInIdeal.main_arg7)) (m ((c.tc : Thread Cert.OutInIdeal.nD Cert.OutInIdeal.τ).loc Cert.OutInIdeal.main_arg8)) (m ((c.tc : Thread Cert.OutInIdeal.nD Cert.OutInIdeal.τ).loc Cert.OutInIdeal.main_arg9)) (m ((c.tc : Thread Cert.OutInIdeal.nD Cert.OutInIdeal.τ).loc Cert.OutInIdeal.main_arg10)) (m ((c.tc : Thread Cert.OutInIdeal.nD Cert.OutInIdeal.τ).loc Cert.OutInIdeal.main_arg11))) = (fun _ => 1#1)

def Pre_OutInRefIdeal (m : (ℓ : Loc Cert.OutInRefIdeal.nD Cert.OutInRefIdeal.τ Cert.OutInRefIdeal.sig) → Buf (Elt Ideal) ℓ) : Prop :=
  True

def Pre_OutInRefIdeal_finite_delta [hPre_finite_delta : Cert.Pre_finite_delta.Facts] (m : (ℓ : Loc Cert.OutInRefIdeal.nD Cert.OutInRefIdeal.τ Cert.OutInRefIdeal.sig) → Buf (Elt Ideal) ℓ) : Prop :=
  ∀ c : Dev Cert.OutInRefIdeal.nD,
    (Cert.Pre_finite_delta.fn (F := Ideal) (m ((c.tc : Thread Cert.OutInRefIdeal.nD Cert.OutInRefIdeal.τ).loc Cert.OutInRefIdeal.main_arg0)) (m ((c.tc : Thread Cert.OutInRefIdeal.nD Cert.OutInRefIdeal.τ).loc Cert.OutInRefIdeal.main_arg1)) (m ((c.tc : Thread Cert.OutInRefIdeal.nD Cert.OutInRefIdeal.τ).loc Cert.OutInRefIdeal.main_arg2)) (m ((c.tc : Thread Cert.OutInRefIdeal.nD Cert.OutInRefIdeal.τ).loc Cert.OutInRefIdeal.main_arg3)) (m ((c.tc : Thread Cert.OutInRefIdeal.nD Cert.OutInRefIdeal.τ).loc Cert.OutInRefIdeal.main_arg4)) (m ((c.tc : Thread Cert.OutInRefIdeal.nD Cert.OutInRefIdeal.τ).loc Cert.OutInRefIdeal.main_arg5)) (m ((c.tc : Thread Cert.OutInRefIdeal.nD Cert.OutInRefIdeal.τ).loc Cert.OutInRefIdeal.main_arg6)) (m ((c.tc : Thread Cert.OutInRefIdeal.nD Cert.OutInRefIdeal.τ).loc Cert.OutInRefIdeal.main_arg7)) (m ((c.tc : Thread Cert.OutInRefIdeal.nD Cert.OutInRefIdeal.τ).loc Cert.OutInRefIdeal.main_arg8)) (m ((c.tc : Thread Cert.OutInRefIdeal.nD Cert.OutInRefIdeal.τ).loc Cert.OutInRefIdeal.main_arg9)) (m ((c.tc : Thread Cert.OutInRefIdeal.nD Cert.OutInRefIdeal.τ).loc Cert.OutInRefIdeal.main_arg10)) (m ((c.tc : Thread Cert.OutInRefIdeal.nD Cert.OutInRefIdeal.τ).loc Cert.OutInRefIdeal.main_arg11))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_last [hPre_finite_last : Cert.Pre_finite_last.Facts] (m : (ℓ : Loc Cert.LastIdeal.nD Cert.LastIdeal.τ Cert.LastIdeal.sig) → Buf (Elt Ideal) ℓ) : Prop :=
  ∀ c : Dev Cert.LastIdeal.nD,
    (Cert.Pre_finite_last.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite_last [hPre_finite_last : Cert.Pre_finite_last.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite_last.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10))) = (fun _ => 1#1)

def Pre_Natten (m : (ℓ : Loc Cert.Natten.nD Cert.Natten.τ Cert.Natten.sig) → Buf (Elt Bits) ℓ) : Prop :=
  True

def Pre_NattenIdeal (m : (ℓ : Loc Cert.NattenIdeal.nD Cert.NattenIdeal.τ Cert.NattenIdeal.sig) → Buf (Elt Ideal) ℓ) : Prop :=
  True

def Pre_NattenIdeal_finite_scores [hPre_finite_scores : Cert.Pre_finite_scores.Facts] (m : (ℓ : Loc Cert.NattenIdeal.nD Cert.NattenIdeal.τ Cert.NattenIdeal.sig) → Buf (Elt Ideal) ℓ) : Prop :=
  ∀ c : Dev Cert.NattenIdeal.nD,
    (Cert.Pre_finite_scores.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1)) (m ((c.tc : Thread Cert.NattenIdeal.nD Cert.NattenIdeal.τ).loc Cert.NattenIdeal.main_arg2))) = (fun _ => 1#1)

def Pre_NattenRefIdeal (m : (ℓ : Loc Cert.NattenRefIdeal.nD Cert.NattenRefIdeal.τ Cert.NattenRefIdeal.sig) → Buf (Elt Ideal) ℓ) : Prop :=
  True

def Pre_NattenRefIdeal_finite_scores [hPre_finite_scores : Cert.Pre_finite_scores.Facts] (m : (ℓ : Loc Cert.NattenRefIdeal.nD Cert.NattenRefIdeal.τ Cert.NattenRefIdeal.sig) → Buf (Elt Ideal) ℓ) : Prop :=
  ∀ c : Dev Cert.NattenRefIdeal.nD,
    (Cert.Pre_finite_scores.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1)) (m ((c.tc : Thread Cert.NattenRefIdeal.nD Cert.NattenRefIdeal.τ).loc Cert.NattenRefIdeal.main_arg2))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_OutIn [hOutIn : Cert.OutIn.Facts] : Prop :=
  ∀ (m : (ℓ : Loc Cert.OutIn.nD Cert.OutIn.τ Cert.OutIn.sig) → Buf (Elt Bits) ℓ) (g : Dev Cert.OutIn.nD → PrngReg), Pre_OutIn m →
    θ_run (Cert.OutIn.defs (F := Bits)) (onTc (τ := Cert.OutIn.τ) (Cert.OutIn.main (F := Bits))) ⟨m, fun _ => 0, g⟩ (fun r => (∀ c : Dev Cert.OutIn.nD,
      r.2.mem ((c.tc : Thread Cert.OutIn.nD Cert.OutIn.τ).loc Cert.OutIn.main_arg0) = m ((c.tc : Thread Cert.OutIn.nD Cert.OutIn.τ).loc Cert.OutIn.main_arg0)
      ∧ r.2.mem ((c.tc : Thread Cert.OutIn.nD Cert.OutIn.τ).loc Cert.OutIn.main_arg1) = m ((c.tc : Thread Cert.OutIn.nD Cert.OutIn.τ).loc Cert.OutIn.main_arg1)
      ∧ r.2.mem ((c.tc : Thread Cert.OutIn.nD Cert.OutIn.τ).loc Cert.OutIn.main_arg2) = m ((c.tc : Thread Cert.OutIn.nD Cert.OutIn.τ).loc Cert.OutIn.main_arg2)
      ∧ r.2.mem ((c.tc : Thread Cert.OutIn.nD Cert.OutIn.τ).loc Cert.OutIn.main_arg3) = m ((c.tc : Thread Cert.OutIn.nD Cert.OutIn.τ).loc Cert.OutIn.main_arg3)
      ∧ r.2.mem ((c.tc : Thread Cert.OutIn.nD Cert.OutIn.τ).loc Cert.OutIn.main_arg4) = m ((c.tc : Thread Cert.OutIn.nD Cert.OutIn.τ).loc Cert.OutIn.main_arg4)
      ∧ r.2.mem ((c.tc : Thread Cert.OutIn.nD Cert.OutIn.τ).loc Cert.OutIn.main_arg5) = m ((c.tc : Thread Cert.OutIn.nD Cert.OutIn.τ).loc Cert.OutIn.main_arg5)
      ∧ r.2.mem ((c.tc : Thread Cert.OutIn.nD Cert.OutIn.τ).loc Cert.OutIn.main_arg6) = m ((c.tc : Thread Cert.OutIn.nD Cert.OutIn.τ).loc Cert.OutIn.main_arg6)
      ∧ r.2.mem ((c.tc : Thread Cert.OutIn.nD Cert.OutIn.τ).loc Cert.OutIn.main_arg7) = m ((c.tc : Thread Cert.OutIn.nD Cert.OutIn.τ).loc Cert.OutIn.main_arg7)
      ∧ r.2.mem ((c.tc : Thread Cert.OutIn.nD Cert.OutIn.τ).loc Cert.OutIn.main_arg8) = m ((c.tc : Thread Cert.OutIn.nD Cert.OutIn.τ).loc Cert.OutIn.main_arg8)
      ∧ r.2.mem ((c.tc : Thread Cert.OutIn.nD Cert.OutIn.τ).loc Cert.OutIn.main_arg9) = m ((c.tc : Thread Cert.OutIn.nD Cert.OutIn.τ).loc Cert.OutIn.main_arg9)
      ∧ r.2.mem ((c.tc : Thread Cert.OutIn.nD Cert.OutIn.τ).loc Cert.OutIn.main_arg10) = m ((c.tc : Thread Cert.OutIn.nD Cert.OutIn.τ).loc Cert.OutIn.main_arg10)
      ∧ r.2.mem ((c.tc : Thread Cert.OutIn.nD Cert.OutIn.τ).loc Cert.OutIn.main_arg11) = m ((c.tc : Thread Cert.OutIn.nD Cert.OutIn.τ).loc Cert.OutIn.main_arg11))
      ∧ r.2.sem = fun _ => 0)

def quiescent_OutInIdeal [hOutInIdeal : Cert.OutInIdeal.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
      ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
      ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
      ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
      ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
      ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6)
      ∧ r.2.mem ((c.tc : Thread Cert.OutInIdeal.nD Cert.OutInIdeal.τ).loc Cert.OutInIdeal.main_arg7) = m ((c.tc : Thread Cert.OutInIdeal.nD Cert.OutInIdeal.τ).loc Cert.OutInIdeal.main_arg7)
      ∧ r.2.mem ((c.tc : Thread Cert.OutInIdeal.nD Cert.OutInIdeal.τ).loc Cert.OutInIdeal.main_arg8) = m ((c.tc : Thread Cert.OutInIdeal.nD Cert.OutInIdeal.τ).loc Cert.OutInIdeal.main_arg8)
      ∧ r.2.mem ((c.tc : Thread Cert.OutInIdeal.nD Cert.OutInIdeal.τ).loc Cert.OutInIdeal.main_arg9) = m ((c.tc : Thread Cert.OutInIdeal.nD Cert.OutInIdeal.τ).loc Cert.OutInIdeal.main_arg9)
      ∧ r.2.mem ((c.tc : Thread Cert.OutInIdeal.nD Cert.OutInIdeal.τ).loc Cert.OutInIdeal.main_arg10) = m ((c.tc : Thread Cert.OutInIdeal.nD Cert.OutInIdeal.τ).loc Cert.OutInIdeal.main_arg10)
      ∧ r.2.mem ((c.tc : Thread Cert.OutInIdeal.nD Cert.OutInIdeal.τ).loc Cert.OutInIdeal.main_arg11) = m ((c.tc : Thread Cert.OutInIdeal.nD Cert.OutInIdeal.τ).loc Cert.OutInIdeal.main_arg11))
      ∧ r.2.sem = fun _ => 0)

def quiescent_OutInIdeal_pre_finite_delta [hOutInIdeal : Cert.OutInIdeal.Facts] [hPre_finite_delta : Cert.Pre_finite_delta.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal_finite_delta m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
      ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
      ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
      ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
      ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
      ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6)
      ∧ r.2.mem ((c.tc : Thread Cert.OutInIdeal.nD Cert.OutInIdeal.τ).loc Cert.OutInIdeal.main_arg7) = m ((c.tc : Thread Cert.OutInIdeal.nD Cert.OutInIdeal.τ).loc Cert.OutInIdeal.main_arg7)
      ∧ r.2.mem ((c.tc : Thread Cert.OutInIdeal.nD Cert.OutInIdeal.τ).loc Cert.OutInIdeal.main_arg8) = m ((c.tc : Thread Cert.OutInIdeal.nD Cert.OutInIdeal.τ).loc Cert.OutInIdeal.main_arg8)
      ∧ r.2.mem ((c.tc : Thread Cert.OutInIdeal.nD Cert.OutInIdeal.τ).loc Cert.OutInIdeal.main_arg9) = m ((c.tc : Thread Cert.OutInIdeal.nD Cert.OutInIdeal.τ).loc Cert.OutInIdeal.main_arg9)
      ∧ r.2.mem ((c.tc : Thread Cert.OutInIdeal.nD Cert.OutInIdeal.τ).loc Cert.OutInIdeal.main_arg10) = m ((c.tc : Thread Cert.OutInIdeal.nD Cert.OutInIdeal.τ).loc Cert.OutInIdeal.main_arg10)
      ∧ r.2.mem ((c.tc : Thread Cert.OutInIdeal.nD Cert.OutInIdeal.τ).loc Cert.OutInIdeal.main_arg11) = m ((c.tc : Thread Cert.OutInIdeal.nD Cert.OutInIdeal.τ).loc Cert.OutInIdeal.main_arg11))
      ∧ r.2.sem = fun _ => 0)

def quiescent_OutInRefIdeal [hOutInRefIdeal : Cert.OutInRefIdeal.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1)
      ∧ r.2.mem ((c.tc : Thread Cert.OutInRefIdeal.nD Cert.OutInRefIdeal.τ).loc Cert.OutInRefIdeal.main_arg2) = m ((c.tc : Thread Cert.OutInRefIdeal.nD Cert.OutInRefIdeal.τ).loc Cert.OutInRefIdeal.main_arg2)
      ∧ r.2.mem ((c.tc : Thread Cert.OutInRefIdeal.nD Cert.OutInRefIdeal.τ).loc Cert.OutInRefIdeal.main_arg3) = m ((c.tc : Thread Cert.OutInRefIdeal.nD Cert.OutInRefIdeal.τ).loc Cert.OutInRefIdeal.main_arg3)
      ∧ r.2.mem ((c.tc : Thread Cert.OutInRefIdeal.nD Cert.OutInRefIdeal.τ).loc Cert.OutInRefIdeal.main_arg4) = m ((c.tc : Thread Cert.OutInRefIdeal.nD Cert.OutInRefIdeal.τ).loc Cert.OutInRefIdeal.main_arg4)
      ∧ r.2.mem ((c.tc : Thread Cert.OutInRefIdeal.nD Cert.OutInRefIdeal.τ).loc Cert.OutInRefIdeal.main_arg5) = m ((c.tc : Thread Cert.OutInRefIdeal.nD Cert.OutInRefIdeal.τ).loc Cert.OutInRefIdeal.main_arg5)
      ∧ r.2.mem ((c.tc : Thread Cert.OutInRefIdeal.nD Cert.OutInRefIdeal.τ).loc Cert.OutInRefIdeal.main_arg6) = m ((c.tc : Thread Cert.OutInRefIdeal.nD Cert.OutInRefIdeal.τ).loc Cert.OutInRefIdeal.main_arg6)
      ∧ r.2.mem ((c.tc : Thread Cert.OutInRefIdeal.nD Cert.OutInRefIdeal.τ).loc Cert.OutInRefIdeal.main_arg7) = m ((c.tc : Thread Cert.OutInRefIdeal.nD Cert.OutInRefIdeal.τ).loc Cert.OutInRefIdeal.main_arg7)
      ∧ r.2.mem ((c.tc : Thread Cert.OutInRefIdeal.nD Cert.OutInRefIdeal.τ).loc Cert.OutInRefIdeal.main_arg8) = m ((c.tc : Thread Cert.OutInRefIdeal.nD Cert.OutInRefIdeal.τ).loc Cert.OutInRefIdeal.main_arg8)
      ∧ r.2.mem ((c.tc : Thread Cert.OutInRefIdeal.nD Cert.OutInRefIdeal.τ).loc Cert.OutInRefIdeal.main_arg9) = m ((c.tc : Thread Cert.OutInRefIdeal.nD Cert.OutInRefIdeal.τ).loc Cert.OutInRefIdeal.main_arg9)
      ∧ r.2.mem ((c.tc : Thread Cert.OutInRefIdeal.nD Cert.OutInRefIdeal.τ).loc Cert.OutInRefIdeal.main_arg10) = m ((c.tc : Thread Cert.OutInRefIdeal.nD Cert.OutInRefIdeal.τ).loc Cert.OutInRefIdeal.main_arg10)
      ∧ r.2.mem ((c.tc : Thread Cert.OutInRefIdeal.nD Cert.OutInRefIdeal.τ).loc Cert.OutInRefIdeal.main_arg11) = m ((c.tc : Thread Cert.OutInRefIdeal.nD Cert.OutInRefIdeal.τ).loc Cert.OutInRefIdeal.main_arg11))
      ∧ r.2.sem = fun _ => 0)

def quiescent_OutInRefIdeal_pre_finite_delta [hOutInRefIdeal : Cert.OutInRefIdeal.Facts] [hPre_finite_delta : Cert.Pre_finite_delta.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal_finite_delta m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1)
      ∧ r.2.mem ((c.tc : Thread Cert.OutInRefIdeal.nD Cert.OutInRefIdeal.τ).loc Cert.OutInRefIdeal.main_arg2) = m ((c.tc : Thread Cert.OutInRefIdeal.nD Cert.OutInRefIdeal.τ).loc Cert.OutInRefIdeal.main_arg2)
      ∧ r.2.mem ((c.tc : Thread Cert.OutInRefIdeal.nD Cert.OutInRefIdeal.τ).loc Cert.OutInRefIdeal.main_arg3) = m ((c.tc : Thread Cert.OutInRefIdeal.nD Cert.OutInRefIdeal.τ).loc Cert.OutInRefIdeal.main_arg3)
      ∧ r.2.mem ((c.tc : Thread Cert.OutInRefIdeal.nD Cert.OutInRefIdeal.τ).loc Cert.OutInRefIdeal.main_arg4) = m ((c.tc : Thread Cert.OutInRefIdeal.nD Cert.OutInRefIdeal.τ).loc Cert.OutInRefIdeal.main_arg4)
      ∧ r.2.mem ((c.tc : Thread Cert.OutInRefIdeal.nD Cert.OutInRefIdeal.τ).loc Cert.OutInRefIdeal.main_arg5) = m ((c.tc : Thread Cert.OutInRefIdeal.nD Cert.OutInRefIdeal.τ).loc Cert.OutInRefIdeal.main_arg5)
      ∧ r.2.mem ((c.tc : Thread Cert.OutInRefIdeal.nD Cert.OutInRefIdeal.τ).loc Cert.OutInRefIdeal.main_arg6) = m ((c.tc : Thread Cert.OutInRefIdeal.nD Cert.OutInRefIdeal.τ).loc Cert.OutInRefIdeal.main_arg6)
      ∧ r.2.mem ((c.tc : Thread Cert.OutInRefIdeal.nD Cert.OutInRefIdeal.τ).loc Cert.OutInRefIdeal.main_arg7) = m ((c.tc : Thread Cert.OutInRefIdeal.nD Cert.OutInRefIdeal.τ).loc Cert.OutInRefIdeal.main_arg7)
      ∧ r.2.mem ((c.tc : Thread Cert.OutInRefIdeal.nD Cert.OutInRefIdeal.τ).loc Cert.OutInRefIdeal.main_arg8) = m ((c.tc : Thread Cert.OutInRefIdeal.nD Cert.OutInRefIdeal.τ).loc Cert.OutInRefIdeal.main_arg8)
      ∧ r.2.mem ((c.tc : Thread Cert.OutInRefIdeal.nD Cert.OutInRefIdeal.τ).loc Cert.OutInRefIdeal.main_arg9) = m ((c.tc : Thread Cert.OutInRefIdeal.nD Cert.OutInRefIdeal.τ).loc Cert.OutInRefIdeal.main_arg9)
      ∧ r.2.mem ((c.tc : Thread Cert.OutInRefIdeal.nD Cert.OutInRefIdeal.τ).loc Cert.OutInRefIdeal.main_arg10) = m ((c.tc : Thread Cert.OutInRefIdeal.nD Cert.OutInRefIdeal.τ).loc Cert.OutInRefIdeal.main_arg10)
      ∧ r.2.mem ((c.tc : Thread Cert.OutInRefIdeal.nD Cert.OutInRefIdeal.τ).loc Cert.OutInRefIdeal.main_arg11) = m ((c.tc : Thread Cert.OutInRefIdeal.nD Cert.OutInRefIdeal.τ).loc Cert.OutInRefIdeal.main_arg11))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastIdeal_pre_finite_last [hLastIdeal : Cert.LastIdeal.Facts] [hPre_finite_last : Cert.Pre_finite_last.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_last m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10))
      ∧ r.2.sem = fun _ => 0)

def quiescent_LastRefIdeal_pre_finite_last [hLastRefIdeal : Cert.LastRefIdeal.Facts] [hPre_finite_last : Cert.Pre_finite_last.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite_last m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10))
      ∧ r.2.sem = fun _ => 0)

def quiescent_Natten [hNatten : Cert.Natten.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1)
      ∧ r.2.mem ((c.tc : Thread Cert.Natten.nD Cert.Natten.τ).loc Cert.Natten.main_arg2) = m ((c.tc : Thread Cert.Natten.nD Cert.Natten.τ).loc Cert.Natten.main_arg2))
      ∧ r.2.sem = fun _ => 0)

def quiescent_NattenIdeal [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ r.2.sem = fun _ => 0)

def quiescent_NattenIdeal_pre_finite_scores [hNattenIdeal : Cert.NattenIdeal.Facts] [hPre_finite_scores : Cert.Pre_finite_scores.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal_finite_scores m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
      ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ r.2.sem = fun _ => 0)

def quiescent_NattenRefIdeal [hNattenRefIdeal : Cert.NattenRefIdeal.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1)
      ∧ r.2.mem ((c.tc : Thread Cert.NattenRefIdeal.nD Cert.NattenRefIdeal.τ).loc Cert.NattenRefIdeal.main_arg2) = m ((c.tc : Thread Cert.NattenRefIdeal.nD Cert.NattenRefIdeal.τ).loc Cert.NattenRefIdeal.main_arg2))
      ∧ r.2.sem = fun _ => 0)

def quiescent_NattenRefIdeal_pre_finite_scores [hNattenRefIdeal : Cert.NattenRefIdeal.Facts] [hPre_finite_scores : Cert.Pre_finite_scores.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal_finite_scores m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1)
      ∧ r.2.mem ((c.tc : Thread Cert.NattenRefIdeal.nD Cert.NattenRefIdeal.τ).loc Cert.NattenRefIdeal.main_arg2) = m ((c.tc : Thread Cert.NattenRefIdeal.nD Cert.NattenRefIdeal.τ).loc Cert.NattenRefIdeal.main_arg2))
      ∧ r.2.sem = fun _ => 0)

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v38) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_OutIn_OutInIdeal : Prop :=
  True

def algebraic_OutInIdeal_OutInRefIdeal_pre_finite_delta [hOutInIdeal : Cert.OutInIdeal.Facts] [hOutInRefIdeal : Cert.OutInRefIdeal.Facts] [hPre_finite_delta : Cert.Pre_finite_delta.Facts] : Prop :=
  ∀ (m : (ℓ : Loc Cert.OutInIdeal.nD Cert.OutInIdeal.τ Cert.OutInIdeal.sig) → Buf (Elt Ideal) ℓ) (g : Dev Cert.OutInIdeal.nD → PrngReg)
    (m' : (ℓ : Loc Cert.OutInRefIdeal.nD Cert.OutInRefIdeal.τ Cert.OutInRefIdeal.sig) → Buf (Elt Ideal) ℓ) (g' : Dev Cert.OutInRefIdeal.nD → PrngReg), Pre_OutInIdeal_finite_delta m →
    (∀ c : Dev Cert.OutInIdeal.nD,
      m' ((c.tc : Thread Cert.OutInRefIdeal.nD Cert.OutInRefIdeal.τ).loc Cert.OutInRefIdeal.main_arg0) = m ((c.tc : Thread Cert.OutInIdeal.nD Cert.OutInIdeal.τ).loc Cert.OutInIdeal.main_arg0)
      ∧ m' ((c.tc : Thread Cert.OutInRefIdeal.nD Cert.OutInRefIdeal.τ).loc Cert.OutInRefIdeal.main_arg1) = m ((c.tc : Thread Cert.OutInIdeal.nD Cert.OutInIdeal.τ).loc Cert.OutInIdeal.main_arg1)
      ∧ m' ((c.tc : Thread Cert.OutInRefIdeal.nD Cert.OutInRefIdeal.τ).loc Cert.OutInRefIdeal.main_arg2) = m ((c.tc : Thread Cert.OutInIdeal.nD Cert.OutInIdeal.τ).loc Cert.OutInIdeal.main_arg2)
      ∧ m' ((c.tc : Thread Cert.OutInRefIdeal.nD Cert.OutInRefIdeal.τ).loc Cert.OutInRefIdeal.main_arg3) = m ((c.tc : Thread Cert.OutInIdeal.nD Cert.OutInIdeal.τ).loc Cert.OutInIdeal.main_arg3)
      ∧ m' ((c.tc : Thread Cert.OutInRefIdeal.nD Cert.OutInRefIdeal.τ).loc Cert.OutInRefIdeal.main_arg4) = m ((c.tc : Thread Cert.OutInIdeal.nD Cert.OutInIdeal.τ).loc Cert.OutInIdeal.main_arg4)
      ∧ m' ((c.tc : Thread Cert.OutInRefIdeal.nD Cert.OutInRefIdeal.τ).loc Cert.OutInRefIdeal.main_arg5) = m ((c.tc : Thread Cert.OutInIdeal.nD Cert.OutInIdeal.τ).loc Cert.OutInIdeal.main_arg5)
      ∧ m' ((c.tc : Thread Cert.OutInRefIdeal.nD Cert.OutInRefIdeal.τ).loc Cert.OutInRefIdeal.main_arg6) = m ((c.tc : Thread Cert.OutInIdeal.nD Cert.OutInIdeal.τ).loc Cert.OutInIdeal.main_arg6)
      ∧ m' ((c.tc : Thread Cert.OutInRefIdeal.nD Cert.OutInRefIdeal.τ).loc Cert.OutInRefIdeal.main_arg7) = m ((c.tc : Thread Cert.OutInIdeal.nD Cert.OutInIdeal.τ).loc Cert.OutInIdeal.main_arg7)
      ∧ m' ((c.tc : Thread Cert.OutInRefIdeal.nD Cert.OutInRefIdeal.τ).loc Cert.OutInRefIdeal.main_arg8) = m ((c.tc : Thread Cert.OutInIdeal.nD Cert.OutInIdeal.τ).loc Cert.OutInIdeal.main_arg8)
      ∧ m' ((c.tc : Thread Cert.OutInRefIdeal.nD Cert.OutInRefIdeal.τ).loc Cert.OutInRefIdeal.main_arg9) = m ((c.tc : Thread Cert.OutInIdeal.nD Cert.OutInIdeal.τ).loc Cert.OutInIdeal.main_arg9)
      ∧ m' ((c.tc : Thread Cert.OutInRefIdeal.nD Cert.OutInRefIdeal.τ).loc Cert.OutInRefIdeal.main_arg10) = m ((c.tc : Thread Cert.OutInIdeal.nD Cert.OutInIdeal.τ).loc Cert.OutInIdeal.main_arg10)
      ∧ m' ((c.tc : Thread Cert.OutInRefIdeal.nD Cert.OutInRefIdeal.τ).loc Cert.OutInRefIdeal.main_arg11) = m ((c.tc : Thread Cert.OutInIdeal.nD Cert.OutInIdeal.τ).loc Cert.OutInIdeal.main_arg11)) →
    ∃ (v0 : (c : Dev Cert.OutInIdeal.nD) → Buf (Elt Ideal) ((c.tc : Thread Cert.OutInIdeal.nD Cert.OutInIdeal.τ).loc Cert.OutInIdeal.main_v26_0)) (v1 : (c : Dev Cert.OutInIdeal.nD) → Buf (Elt Ideal) ((c.tc : Thread Cert.OutInIdeal.nD Cert.OutInIdeal.τ).loc Cert.OutInIdeal.main_v26_1)) (v2 : (c : Dev Cert.OutInIdeal.nD) → Buf (Elt Ideal) ((c.tc : Thread Cert.OutInIdeal.nD Cert.OutInIdeal.τ).loc Cert.OutInIdeal.main_v26_2)),
      θ_run (Cert.OutInIdeal.defs (F := Ideal)) (onTc (τ := Cert.OutInIdeal.τ) (Cert.OutInIdeal.main (F := Ideal))) ⟨m, fun _ => 0, g⟩ (fun r => ∀ c : Dev Cert.OutInIdeal.nD,
          r.2.mem ((c.tc : Thread Cert.OutInIdeal.nD Cert.OutInIdeal.τ).loc Cert.OutInIdeal.main_v26_0) = v0 c
          ∧ r.2.mem ((c.tc : Thread Cert.OutInIdeal.nD Cert.OutInIdeal.τ).loc Cert.OutInIdeal.main_v26_1) = v1 c
          ∧ r.2.mem ((c.tc : Thread Cert.OutInIdeal.nD Cert.OutInIdeal.τ).loc Cert.OutInIdeal.main_v26_2) = v2 c
          ∧ r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
          ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
          ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
          ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
          ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
          ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5)
          ∧ r.2.mem ((c.tc : Thread Cert.OutInIdeal.nD Cert.OutInIdeal.τ).loc Cert.OutInIdeal.main_arg6) = m ((c.tc : Thread Cert.OutInIdeal.nD Cert.OutInIdeal.τ).loc Cert.OutInIdeal.main_arg6)
          ∧ r.2.mem ((c.tc : Thread Cert.OutInIdeal.nD Cert.OutInIdeal.τ).loc Cert.OutInIdeal.main_arg7) = m ((c.tc : Thread Cert.OutInIdeal.nD Cert.OutInIdeal.τ).loc Cert.OutInIdeal.main_arg7)
          ∧ r.2.mem ((c.tc : Thread Cert.OutInIdeal.nD Cert.OutInIdeal.τ).loc Cert.OutInIdeal.main_arg8) = m ((c.tc : Thread Cert.OutInIdeal.nD Cert.OutInIdeal.τ).loc Cert.OutInIdeal.main_arg8)
          ∧ r.2.mem ((c.tc : Thread Cert.OutInIdeal.nD Cert.OutInIdeal.τ).loc Cert.OutInIdeal.main_arg9) = m ((c.tc : Thread Cert.OutInIdeal.nD Cert.OutInIdeal.τ).loc Cert.OutInIdeal.main_arg9)
          ∧ r.2.mem ((c.tc : Thread Cert.OutInIdeal.nD Cert.OutInIdeal.τ).loc Cert.OutInIdeal.main_arg10) = m ((c.tc : Thread Cert.OutInIdeal.nD Cert.OutInIdeal.τ).loc Cert.OutInIdeal.main_arg10)
          ∧ r.2.mem ((c.tc : Thread Cert.OutInIdeal.nD Cert.OutInIdeal.τ).loc Cert.OutInIdeal.main_arg11) = m ((c.tc : Thread Cert.OutInIdeal.nD Cert.OutInIdeal.τ).loc Cert.OutInIdeal.main_arg11))
      ∧ θ_run (Cert.OutInRefIdeal.defs (F := Ideal)) (onTc (τ := Cert.OutInRefIdeal.τ) (Cert.OutInRefIdeal.main (F := Ideal))) ⟨m', fun _ => 0, g'⟩ (fun r => ∀ c : Dev Cert.OutInRefIdeal.nD,
          r.2.mem ((c.tc : Thread Cert.OutInRefIdeal.nD Cert.OutInRefIdeal.τ).loc Cert.OutInRefIdeal.main_v66) = v0 c
          ∧ r.2.mem ((c.tc : Thread Cert.OutInRefIdeal.nD Cert.OutInRefIdeal.τ).loc Cert.OutInRefIdeal.main_v95) = v1 c
          ∧ r.2.mem ((c.tc : Thread Cert.OutInRefIdeal.nD Cert.OutInRefIdeal.τ).loc Cert.OutInRefIdeal.main_v97) = v2 c
          ∧ r.2.mem ((c.tc : Thread Cert.OutInRefIdeal.nD Cert.OutInRefIdeal.τ).loc Cert.OutInRefIdeal.main_arg0) = m' ((c.tc : Thread Cert.OutInRefIdeal.nD Cert.OutInRefIdeal.τ).loc Cert.OutInRefIdeal.main_arg0)
          ∧ r.2.mem ((c.tc : Thread Cert.OutInRefIdeal.nD Cert.OutInRefIdeal.τ).loc Cert.OutInRefIdeal.main_arg1) = m' ((c.tc : Thread Cert.OutInRefIdeal.nD Cert.OutInRefIdeal.τ).loc Cert.OutInRefIdeal.main_arg1)
          ∧ r.2.mem ((c.tc : Thread Cert.OutInRefIdeal.nD Cert.OutInRefIdeal.τ).loc Cert.OutInRefIdeal.main_arg2) = m' ((c.tc : Thread Cert.OutInRefIdeal.nD Cert.OutInRefIdeal.τ).loc Cert.OutInRefIdeal.main_arg2)
          ∧ r.2.mem ((c.tc : Thread Cert.OutInRefIdeal.nD Cert.OutInRefIdeal.τ).loc Cert.OutInRefIdeal.main_arg3) = m' ((c.tc : Thread Cert.OutInRefIdeal.nD Cert.OutInRefIdeal.τ).loc Cert.OutInRefIdeal.main_arg3)
          ∧ r.2.mem ((c.tc : Thread Cert.OutInRefIdeal.nD Cert.OutInRefIdeal.τ).loc Cert.OutInRefIdeal.main_arg4) = m' ((c.tc : Thread Cert.OutInRefIdeal.nD Cert.OutInRefIdeal.τ).loc Cert.OutInRefIdeal.main_arg4)
          ∧ r.2.mem ((c.tc : Thread Cert.OutInRefIdeal.nD Cert.OutInRefIdeal.τ).loc Cert.OutInRefIdeal.main_arg5) = m' ((c.tc : Thread Cert.OutInRefIdeal.nD Cert.OutInRefIdeal.τ).loc Cert.OutInRefIdeal.main_arg5)
          ∧ r.2.mem ((c.tc : Thread Cert.OutInRefIdeal.nD Cert.OutInRefIdeal.τ).loc Cert.OutInRefIdeal.main_arg6) = m' ((c.tc : Thread Cert.OutInRefIdeal.nD Cert.OutInRefIdeal.τ).loc Cert.OutInRefIdeal.main_arg6)
          ∧ r.2.mem ((c.tc : Thread Cert.OutInRefIdeal.nD Cert.OutInRefIdeal.τ).loc Cert.OutInRefIdeal.main_arg7) = m' ((c.tc : Thread Cert.OutInRefIdeal.nD Cert.OutInRefIdeal.τ).loc Cert.OutInRefIdeal.main_arg7)
          ∧ r.2.mem ((c.tc : Thread Cert.OutInRefIdeal.nD Cert.OutInRefIdeal.τ).loc Cert.OutInRefIdeal.main_arg8) = m' ((c.tc : Thread Cert.OutInRefIdeal.nD Cert.OutInRefIdeal.τ).loc Cert.OutInRefIdeal.main_arg8)
          ∧ r.2.mem ((c.tc : Thread Cert.OutInRefIdeal.nD Cert.OutInRefIdeal.τ).loc Cert.OutInRefIdeal.main_arg9) = m' ((c.tc : Thread Cert.OutInRefIdeal.nD Cert.OutInRefIdeal.τ).loc Cert.OutInRefIdeal.main_arg9)
          ∧ r.2.mem ((c.tc : Thread Cert.OutInRefIdeal.nD Cert.OutInRefIdeal.τ).loc Cert.OutInRefIdeal.main_arg10) = m' ((c.tc : Thread Cert.OutInRefIdeal.nD Cert.OutInRefIdeal.τ).loc Cert.OutInRefIdeal.main_arg10)
          ∧ r.2.mem ((c.tc : Thread Cert.OutInRefIdeal.nD Cert.OutInRefIdeal.τ).loc Cert.OutInRefIdeal.main_arg11) = m' ((c.tc : Thread Cert.OutInRefIdeal.nD Cert.OutInRefIdeal.τ).loc Cert.OutInRefIdeal.main_arg11))

def preserves_Last_LastIdeal : Prop :=
  True

def algebraic_LastIdeal_LastRefIdeal_pre_finite_last [hLastIdeal : Cert.LastIdeal.Facts] [hLastRefIdeal : Cert.LastRefIdeal.Facts] [hPre_finite_last : Cert.Pre_finite_last.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite_last m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)) →
    ∃ (v0 : (c : Dev Cert.LastIdeal.nD) → Buf (Elt Ideal) ((c.tc : Thread Cert.LastIdeal.nD Cert.LastIdeal.τ).loc Cert.LastIdeal.main_v24)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v24) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v67) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10))

def preserves_Natten_NattenIdeal : Prop :=
  True

def algebraic_NattenIdeal_NattenRefIdeal_pre_finite_scores [hNattenIdeal : Cert.NattenIdeal.Facts] [hNattenRefIdeal : Cert.NattenRefIdeal.Facts] [hPre_finite_scores : Cert.Pre_finite_scores.Facts] : Prop :=
  ∀ (m : (ℓ : Loc Cert.NattenIdeal.nD Cert.NattenIdeal.τ Cert.NattenIdeal.sig) → Buf (Elt Ideal) ℓ) (g : Dev Cert.NattenIdeal.nD → PrngReg)
    (m' : (ℓ : Loc Cert.NattenRefIdeal.nD Cert.NattenRefIdeal.τ Cert.NattenRefIdeal.sig) → Buf (Elt Ideal) ℓ) (g' : Dev Cert.NattenRefIdeal.nD → PrngReg), Pre_NattenIdeal_finite_scores m →
    (∀ c : Dev Cert.NattenIdeal.nD,
      m' ((c.tc : Thread Cert.NattenRefIdeal.nD Cert.NattenRefIdeal.τ).loc Cert.NattenRefIdeal.main_arg0) = m ((c.tc : Thread Cert.NattenIdeal.nD Cert.NattenIdeal.τ).loc Cert.NattenIdeal.main_arg0)
      ∧ m' ((c.tc : Thread Cert.NattenRefIdeal.nD Cert.NattenRefIdeal.τ).loc Cert.NattenRefIdeal.main_arg1) = m ((c.tc : Thread Cert.NattenIdeal.nD Cert.NattenIdeal.τ).loc Cert.NattenIdeal.main_arg1)
      ∧ m' ((c.tc : Thread Cert.NattenRefIdeal.nD Cert.NattenRefIdeal.τ).loc Cert.NattenRefIdeal.main_arg2) = m ((c.tc : Thread Cert.NattenIdeal.nD Cert.NattenIdeal.τ).loc Cert.NattenIdeal.main_arg2)) →
    ∃ (v0 : (c : Dev Cert.NattenIdeal.nD) → Buf (Elt Ideal) ((c.tc : Thread Cert.NattenIdeal.nD Cert.NattenIdeal.τ).loc Cert.NattenIdeal.main_v40)),
      θ_run (Cert.NattenIdeal.defs (F := Ideal)) (onTc (τ := Cert.NattenIdeal.τ) (Cert.NattenIdeal.main (F := Ideal))) ⟨m, fun _ => 0, g⟩ (fun r => ∀ c : Dev Cert.NattenIdeal.nD,
          r.2.mem ((c.tc : Thread Cert.NattenIdeal.nD Cert.NattenIdeal.τ).loc Cert.NattenIdeal.main_v40) = v0 c
          ∧ r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
          ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1)
          ∧ r.2.mem ((c.tc : Thread Cert.NattenIdeal.nD Cert.NattenIdeal.τ).loc Cert.NattenIdeal.main_arg2) = m ((c.tc : Thread Cert.NattenIdeal.nD Cert.NattenIdeal.τ).loc Cert.NattenIdeal.main_arg2))
      ∧ θ_run (Cert.NattenRefIdeal.defs (F := Ideal)) (onTc (τ := Cert.NattenRefIdeal.τ) (Cert.NattenRefIdeal.main (F := Ideal))) ⟨m', fun _ => 0, g'⟩ (fun r => ∀ c : Dev Cert.NattenRefIdeal.nD,
          r.2.mem ((c.tc : Thread Cert.NattenRefIdeal.nD Cert.NattenRefIdeal.τ).loc Cert.NattenRefIdeal.main_v142) = v0 c
          ∧ r.2.mem ((c.tc : Thread Cert.NattenRefIdeal.nD Cert.NattenRefIdeal.τ).loc Cert.NattenRefIdeal.main_arg0) = m' ((c.tc : Thread Cert.NattenRefIdeal.nD Cert.NattenRefIdeal.τ).loc Cert.NattenRefIdeal.main_arg0)
          ∧ r.2.mem ((c.tc : Thread Cert.NattenRefIdeal.nD Cert.NattenRefIdeal.τ).loc Cert.NattenRefIdeal.main_arg1) = m' ((c.tc : Thread Cert.NattenRefIdeal.nD Cert.NattenRefIdeal.τ).loc Cert.NattenRefIdeal.main_arg1)
          ∧ r.2.mem ((c.tc : Thread Cert.NattenRefIdeal.nD Cert.NattenRefIdeal.τ).loc Cert.NattenRefIdeal.main_arg2) = m' ((c.tc : Thread Cert.NattenRefIdeal.nD Cert.NattenRefIdeal.τ).loc Cert.NattenRefIdeal.main_arg2))

def Claim : Prop :=
  ∃ (hInProj : Cert.InProj.Facts) (hInProjIdeal : Cert.InProjIdeal.Facts) (hInRefIdeal : Cert.InRefIdeal.Facts) (hOutIn : Cert.OutIn.Facts) (hOutInIdeal : Cert.OutInIdeal.Facts) (hOutInRefIdeal : Cert.OutInRefIdeal.Facts) (hLast : Cert.Last.Facts) (hLastIdeal : Cert.LastIdeal.Facts) (hLastRefIdeal : Cert.LastRefIdeal.Facts) (hNatten : Cert.Natten.Facts) (hNattenIdeal : Cert.NattenIdeal.Facts) (hNattenRefIdeal : Cert.NattenRefIdeal.Facts) (hPre_finite_delta : Cert.Pre_finite_delta.Facts) (hPre_finite_last : Cert.Pre_finite_last.Facts) (hPre_finite_scores : Cert.Pre_finite_scores.Facts),
    quiescent_InProj (hInProj := hInProj)
    ∧ quiescent_InProjIdeal (hInProjIdeal := hInProjIdeal)
    ∧ quiescent_InRefIdeal (hInRefIdeal := hInRefIdeal)
    ∧ quiescent_OutIn (hOutIn := hOutIn)
    ∧ quiescent_OutInIdeal (hOutInIdeal := hOutInIdeal)
    ∧ quiescent_OutInIdeal_pre_finite_delta (hOutInIdeal := hOutInIdeal) (hPre_finite_delta := hPre_finite_delta)
    ∧ quiescent_OutInRefIdeal (hOutInRefIdeal := hOutInRefIdeal)
    ∧ quiescent_OutInRefIdeal_pre_finite_delta (hOutInRefIdeal := hOutInRefIdeal) (hPre_finite_delta := hPre_finite_delta)
    ∧ quiescent_Last (hLast := hLast)
    ∧ quiescent_LastIdeal (hLastIdeal := hLastIdeal)
    ∧ quiescent_LastIdeal_pre_finite_last (hLastIdeal := hLastIdeal) (hPre_finite_last := hPre_finite_last)
    ∧ quiescent_LastRefIdeal (hLastRefIdeal := hLastRefIdeal)
    ∧ quiescent_LastRefIdeal_pre_finite_last (hLastRefIdeal := hLastRefIdeal) (hPre_finite_last := hPre_finite_last)
    ∧ quiescent_Natten (hNatten := hNatten)
    ∧ quiescent_NattenIdeal (hNattenIdeal := hNattenIdeal)
    ∧ quiescent_NattenIdeal_pre_finite_scores (hNattenIdeal := hNattenIdeal) (hPre_finite_scores := hPre_finite_scores)
    ∧ quiescent_NattenRefIdeal (hNattenRefIdeal := hNattenRefIdeal)
    ∧ quiescent_NattenRefIdeal_pre_finite_scores (hNattenRefIdeal := hNattenRefIdeal) (hPre_finite_scores := hPre_finite_scores)
    ∧ preserves_InProj_InProjIdeal
    ∧ algebraic_InProjIdeal_InRefIdeal (hInProjIdeal := hInProjIdeal) (hInRefIdeal := hInRefIdeal)
    ∧ preserves_OutIn_OutInIdeal
    ∧ algebraic_OutInIdeal_OutInRefIdeal_pre_finite_delta (hOutInIdeal := hOutInIdeal) (hOutInRefIdeal := hOutInRefIdeal) (hPre_finite_delta := hPre_finite_delta)
    ∧ preserves_Last_LastIdeal
    ∧ algebraic_LastIdeal_LastRefIdeal_pre_finite_last (hLastIdeal := hLastIdeal) (hLastRefIdeal := hLastRefIdeal) (hPre_finite_last := hPre_finite_last)
    ∧ preserves_Natten_NattenIdeal
    ∧ algebraic_NattenIdeal_NattenRefIdeal_pre_finite_scores (hNattenIdeal := hNattenIdeal) (hNattenRefIdeal := hNattenRefIdeal) (hPre_finite_scores := hPre_finite_scores)
-- ==== Pre_finite_delta.lean ====
abbrev S4x4352x1024 : Shape := ⟨3, ![4, 4352, 1024]⟩
abbrev S4x4352x384 : Shape := ⟨3, ![4, 4352, 384]⟩
abbrev S4x4352x256 : Shape := ⟨3, ![4, 4352, 256]⟩
abbrev S4x4352x2688 : Shape := ⟨3, ![4, 4352, 2688]⟩
abbrev S4x8x3072 : Shape := ⟨3, ![4, 8, 3072]⟩
abbrev S4x64 : Shape := ⟨2, ![4, 64]⟩
abbrev S4x1024x1024 : Shape := ⟨3, ![4, 1024, 1024]⟩
abbrev S4x1024 : Shape := ⟨2, ![4, 1024]⟩
abbrev S4x1024x3344 : Shape := ⟨3, ![4, 1024, 3344]⟩
abbrev S_ : Shape := ⟨0, ![]⟩

class Facts : Prop where
  bcast_S_S4x4352x256 : S_.BroadcastsInDim S4x4352x256 (![] : Fin 0 → Fin S4x4352x256.rank)
  reducesTo_S4x4352x256_S_d0_1_2 : S4x4352x256.ReducesTo [0, 1, 2] S_
  h_S_ : 0 < S_.numel

variable [Facts]

def fn {F : FTy → Type} [FloatOps F] (main_arg0 : FVec F S4x4352x1024 .f32) (main_arg1 : FVec F S4x4352x384 .f32) (main_arg2 : FVec F S4x4352x384 .f32) (main_arg3 : FVec F S4x4352x256 .f32) (main_arg4 : FVec F S4x4352x256 .f32) (main_arg5 : FVec F S4x4352x2688 .f32) (main_arg6 : FVec F S4x8x3072 .f32) (main_arg7 : FVec F S4x64 .f32) (main_arg8 : FVec F S4x1024x1024 .f32) (main_arg9 : FVec F S4x1024 .f32) (main_arg10 : FVec F S4x1024 .f32) (main_arg11 : FVec F S4x1024x3344 .f32) : IVec S_ 1 :=
  let main_v0 : FVec F S4x4352x256 .f32 := addf main_arg3 main_arg4
  let main_v1 : FVec F S4x4352x256 .f32 := Host.absf main_v0
  let main_cst : FVec F S_ .f32 := constant S_ .f32 0x7F800000#32
  let main_v2 : FVec F S4x4352x256 .f32 := broadcastInDim S4x4352x256 ![] bcast_S_S4x4352x256 main_cst
  let main_v3 : IVec S4x4352x256 1 := cmpf .olt main_v1 main_v2
  let main_c : IVec S_ 1 := constantI S_ 1 1#1
  let main_v4 : IVec S_ 1 := (fun x v => Host.reduce IntOp.andi x v reducesTo_S4x4352x256_S_d0_1_2 h_S_) main_v3 main_c
  main_v4
-- ==== Pre_finite_last.lean ====
abbrev S4x4352x1024 : Shape := ⟨3, ![4, 4352, 1024]⟩
abbrev S4x4352x384 : Shape := ⟨3, ![4, 4352, 384]⟩
abbrev S4x4352x256 : Shape := ⟨3, ![4, 4352, 256]⟩
abbrev S4x4352x2688 : Shape := ⟨3, ![4, 4352, 2688]⟩
abbrev S4x8x3072 : Shape := ⟨3, ![4, 8, 3072]⟩
abbrev S4x64 : Shape := ⟨2, ![4, 64]⟩
abbrev S4x1024x1024 : Shape := ⟨3, ![4, 1024, 1024]⟩
abbrev S4x1024 : Shape := ⟨2, ![4, 1024]⟩
abbrev S_ : Shape := ⟨0, ![]⟩

class Facts : Prop where
  bcast_S_S4x4352x256 : S_.BroadcastsInDim S4x4352x256 (![] : Fin 0 → Fin S4x4352x256.rank)
  reducesTo_S4x4352x256_S_d0_1_2 : S4x4352x256.ReducesTo [0, 1, 2] S_
  h_S_ : 0 < S_.numel

variable [Facts]

def fn {F : FTy → Type} [FloatOps F] (main_arg0 : FVec F S4x4352x1024 .f32) (main_arg1 : FVec F S4x4352x384 .f32) (main_arg2 : FVec F S4x4352x384 .f32) (main_arg3 : FVec F S4x4352x256 .f32) (main_arg4 : FVec F S4x4352x256 .f32) (main_arg5 : FVec F S4x4352x2688 .f32) (main_arg6 : FVec F S4x8x3072 .f32) (main_arg7 : FVec F S4x64 .f32) (main_arg8 : FVec F S4x1024x1024 .f32) (main_arg9 : FVec F S4x1024 .f32) (main_arg10 : FVec F S4x1024 .f32) : IVec S_ 1 :=
  let main_v0 : FVec F S4x4352x256 .f32 := addf main_arg3 main_arg4
  let main_v1 : FVec F S4x4352x256 .f32 := Host.absf main_v0
  let main_cst : FVec F S_ .f32 := constant S_ .f32 0x7F800000#32
  let main_v2 : FVec F S4x4352x256 .f32 := broadcastInDim S4x4352x256 ![] bcast_S_S4x4352x256 main_cst
  let main_v3 : IVec S4x4352x256 1 := cmpf .olt main_v1 main_v2
  let main_c : IVec S_ 1 := constantI S_ 1 1#1
  let main_v4 : IVec S_ 1 := (fun x v => Host.reduce IntOp.andi x v reducesTo_S4x4352x256_S_d0_1_2 h_S_) main_v3 main_c
  main_v4
-- ==== Pre_finite_scores.lean ====
abbrev S4x4352x2688 : Shape := ⟨3, ![4, 4352, 2688]⟩
abbrev S4x4352x768 : Shape := ⟨3, ![4, 4352, 768]⟩
abbrev S4x6x15x31 : Shape := ⟨4, ![4, 6, 15, 31]⟩
abbrev S4x4352x384 : Shape := ⟨3, ![4, 4352, 384]⟩
abbrev S_ : Shape := ⟨0, ![]⟩
abbrev S1x6x15x31 : Shape := ⟨4, ![1, 6, 15, 31]⟩
abbrev S6x15x31 : Shape := ⟨3, ![6, 15, 31]⟩

class Facts : Prop where
  slices_S4x4352x2688_S4x4352x384_0_0_1536 : S4x4352x2688.Slices ![0, 0, 1536] S4x4352x384
  bcast_S_S4x4352x384 : S_.BroadcastsInDim S4x4352x384 (![] : Fin 0 → Fin S4x4352x384.rank)
  reducesTo_S4x4352x384_S_d0_1_2 : S4x4352x384.ReducesTo [0, 1, 2] S_
  h_S_ : 0 < S_.numel
  slices_S4x4352x768_S4x4352x384_0_0_0 : S4x4352x768.Slices ![0, 0, 0] S4x4352x384
  bitsLt_bf16_f32 : FTy.bits .bf16 < FTy.bits .f32
  slices_S4x6x15x31_S1x6x15x31_0_0_0_0 : S4x6x15x31.Slices ![0, 0, 0, 0] S1x6x15x31
  shapeCasts_S1x6x15x31_S6x15x31 : S1x6x15x31.ShapeCasts S6x15x31
  bcast_S_S6x15x31 : S_.BroadcastsInDim S6x15x31 (![] : Fin 0 → Fin S6x15x31.rank)
  reducesTo_S6x15x31_S_d0_1_2 : S6x15x31.ReducesTo [0, 1, 2] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S4x4352x2688 .f32) (main_arg1 : FVec F S4x4352x768 .bf16) (main_arg2 : FVec F S4x6x15x31 .f32) : IVec S_ 1 :=
  let main_v0 : FVec F S4x4352x384 .f32 := (extractStridedSlice S4x4352x384 ![0, 0, 1536] · slices_S4x4352x2688_S4x4352x384_0_0_1536) main_arg0
  let main_v1 : FVec F S4x4352x384 .f32 := Host.absf main_v0
  let main_cst : FVec F S_ .f32 := constant S_ .f32 0x7F800000#32
  let main_v2 : FVec F S4x4352x384 .f32 := broadcastInDim S4x4352x384 ![] bcast_S_S4x4352x384 main_cst
  let main_v3 : IVec S4x4352x384 1 := cmpf .olt main_v1 main_v2
  let main_c : IVec S_ 1 := constantI S_ 1 1#1
  let main_v4 : IVec S_ 1 := (fun x v => Host.reduce IntOp.andi x v reducesTo_S4x4352x384_S_d0_1_2 h_S_) main_v3 main_c
  let main_v5 : FVec F S4x4352x384 .bf16 := (extractStridedSlice S4x4352x384 ![0, 0, 0] · slices_S4x4352x768_S4x4352x384_0_0_0) main_arg1
  let main_v6 : FVec F S4x4352x384 .f32 := (extf .f32 · bitsLt_bf16_f32) main_v5
  let main_v7 : FVec F S4x4352x384 .f32 := Host.absf main_v6
  let main_cst_0 : FVec F S_ .f32 := constant S_ .f32 0x7F800000#32
  let main_v8 : FVec F S4x4352x384 .f32 := broadcastInDim S4x4352x384 ![] bcast_S_S4x4352x384 main_cst_0
  let main_v9 : IVec S4x4352x384 1 := cmpf .olt main_v7 main_v8
  let main_c_1 : IVec S_ 1 := constantI S_ 1 1#1
  let main_v10 : IVec S_ 1 := (fun x v => Host.reduce IntOp.andi x v reducesTo_S4x4352x384_S_d0_1_2 h_S_) main_v9 main_c_1
  let main_v11 : IVec S_ 1 := andi main_v4 main_v10
  let main_v12 : FVec F S1x6x15x31 .f32 := (extractStridedSlice S1x6x15x31 ![0, 0, 0, 0] · slices_S4x6x15x31_S1x6x15x31_0_0_0_0) main_arg2
  let main_v13 : FVec F S6x15x31 .f32 := shapeCast S6x15x31 main_v12 shapeCasts_S1x6x15x31_S6x15x31
  let main_v14 : FVec F S6x15x31 .f32 := Host.absf main_v13
  let main_cst_2 : FVec F S_ .f32 := constant S_ .f32 0x7F800000#32
  let main_v15 : FVec F S6x15x31 .f32 := broadcastInDim S6x15x31 ![] bcast_S_S6x15x31 main_cst_2
  let main_v16 : IVec S6x15x31 1 := cmpf .olt main_v14 main_v15
  let main_c_3 : IVec S_ 1 := constantI S_ 1 1#1
  let main_v17 : IVec S_ 1 := (fun x v => Host.reduce IntOp.andi x v reducesTo_S6x15x31_S_d0_1_2 h_S_) main_v16 main_c_3
  fn_part1 (F := F) main_v11 main_v17
-- ==== InProj.lean ====
abbrev S4x4096x1024 : Shape := ⟨3, ![4, 4096, 1024]⟩
abbrev S4x256x1024 : Shape := ⟨3, ![4, 256, 1024]⟩
abbrev S4x8x3072 : Shape := ⟨3, ![4, 8, 3072]⟩
abbrev S4x1024x3344 : Shape := ⟨3, ![4, 1024, 3344]⟩
abbrev S_ : Shape := ⟨0, ![]⟩
abbrev S4x1024x3456 : Shape := ⟨3, ![4, 1024, 3456]⟩
abbrev S4x1x3072 : Shape := ⟨3, ![4, 1, 3072]⟩
abbrev S4x4x3072 : Shape := ⟨3, ![4, 4, 3072]⟩
abbrev S4x4x1x3072 : Shape := ⟨4, ![4, 4, 1, 3072]⟩
abbrev S4x4x2x3072 : Shape := ⟨4, ![4, 4, 2, 3072]⟩
abbrev S4x8x1x3072 : Shape := ⟨4, ![4, 8, 1, 3072]⟩
abbrev S4x4352x2688 : Shape := ⟨3, ![4, 4352, 2688]⟩
abbrev S4x4352x768 : Shape := ⟨3, ![4, 4352, 768]⟩
abbrev S1x256x1024 : Shape := ⟨3, ![1, 256, 1024]⟩
abbrev S1x1x1x3072 : Shape := ⟨4, ![1, 1, 1, 3072]⟩
abbrev S1x1024x3456 : Shape := ⟨3, ![1, 1024, 3456]⟩
abbrev S1x256x2688 : Shape := ⟨3, ![1, 256, 2688]⟩
abbrev S1x256x768 : Shape := ⟨3, ![1, 256, 768]⟩
abbrev S1x3072 : Shape := ⟨2, ![1, 3072]⟩
abbrev S1x1024 : Shape := ⟨2, ![1, 1024]⟩
abbrev S256x1024 : Shape := ⟨2, ![256, 1024]⟩
abbrev S1024x3456 : Shape := ⟨2, ![1024, 3456]⟩
abbrev S256x3456 : Shape := ⟨2, ![256, 3456]⟩
abbrev S256x1920 : Shape := ⟨2, ![256, 1920]⟩
abbrev S1x256x1920 : Shape := ⟨3, ![1, 256, 1920]⟩
abbrev S256x768 : Shape := ⟨2, ![256, 768]⟩

abbrev nBuf : Space → Nat
  | .hbm => 17
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x8x3072, .f32⟩
  | .hbm, ⟨3, _⟩ => ⟨S4x1024x3344, .f32⟩
  | .hbm, ⟨4, _⟩ => ⟨S4x1024x3344, .bf16⟩
  | .hbm, ⟨5, _⟩ => ⟨S_, .i32⟩
  | .hbm, ⟨6, _⟩ => ⟨S_, .bf16⟩
  | .hbm, ⟨7, _⟩ => ⟨S4x1024x3456, .bf16⟩
  | .hbm, ⟨8, _⟩ => ⟨S4x1x3072, .f32⟩
  | .hbm, ⟨9, _⟩ => ⟨S4x4x3072, .f32⟩
  | .hbm, ⟨10, _⟩ => ⟨S4x4x3072, .f32⟩
  | .hbm, ⟨11, _⟩ => ⟨S4x4x1x3072, .f32⟩
  | .hbm, ⟨12, _⟩ => ⟨S4x4x1x3072, .f32⟩
  | .hbm, ⟨13, _⟩ => ⟨S4x4x2x3072, .f32⟩
  | .hbm, ⟨14, _⟩ => ⟨S4x8x1x3072, .f32⟩
  | .hbm, ⟨15, _⟩ => ⟨S4x4352x2688, .f32⟩
  | .hbm, ⟨16, _⟩ => ⟨S4x4352x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1x3072, .f32⟩
  | .local _ .vmem, ⟨5, _⟩ => ⟨S1x1x1x3072, .f32⟩
  | .local _ .vmem, ⟨6, _⟩ => ⟨S1x1024x3456, .bf16⟩
  | .local _ .vmem, ⟨7, _⟩ => ⟨S1x256x2688, .f32⟩
  | .local _ .vmem, ⟨8, _⟩ => ⟨S1x256x2688, .f32⟩
  | .local _ .vmem, ⟨9, _⟩ => ⟨S1x256x768, .bf16⟩
  | .local _ .vmem, ⟨10, _⟩ => ⟨S1x256x768, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.minsi arg1 c1_i32
  let v2 : BitVec 32 := Scalar.addi v0 v1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InRefIdeal.lean ====
abbrev S4x4096x1024 : Shape := ⟨3, ![4, 4096, 1024]⟩
abbrev S4x256x1024 : Shape := ⟨3, ![4, 256, 1024]⟩
abbrev S4x8x3072 : Shape := ⟨3, ![4, 8, 3072]⟩
abbrev S4x1024x3344 : Shape := ⟨3, ![4, 1024, 3344]⟩
abbrev S1x4x3072 : Shape := ⟨3, ![1, 4, 3072]⟩
abbrev S4x3072 : Shape := ⟨2, ![4, 3072]⟩
abbrev S1x1x3072 : Shape := ⟨3, ![1, 1, 3072]⟩
abbrev S3072 : Shape := ⟨1, ![3072]⟩
abbrev S4x1024 : Shape := ⟨2, ![4, 1024]⟩
abbrev S1024 : Shape := ⟨1, ![1024]⟩
abbrev S4x1x1024 : Shape := ⟨3, ![4, 1, 1024]⟩
abbrev S_ : Shape := ⟨0, ![]⟩
abbrev S1x1024x3344 : Shape := ⟨3, ![1, 1024, 3344]⟩
abbrev S1024x3344 : Shape := ⟨2, ![1024, 3344]⟩
abbrev S4x4096x3344 : Shape := ⟨3, ![4, 4096, 3344]⟩
abbrev S1x1x1024 : Shape := ⟨3, ![1, 1, 1024]⟩
abbrev S4x256x3344 : Shape := ⟨3, ![4, 256, 3344]⟩
abbrev S4x4352x3344 : Shape := ⟨3, ![4, 4352, 3344]⟩
abbrev S4x4352x1920 : Shape := ⟨3, ![4, 4352, 1920]⟩
abbrev S4x4352x656 : Shape := ⟨3, ![4, 4352, 656]⟩
abbrev S4x4352x112 : Shape := ⟨3, ![4, 4352, 112]⟩
abbrev S4x4352x2688 : Shape := ⟨3, ![4, 4352, 2688]⟩
abbrev S4x4352x768 : Shape := ⟨3, ![4, 4352, 768]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x8x3072, .f32⟩
  | .hbm, ⟨3, _⟩ => ⟨S4x1024x3344, .f32⟩
  | .hbm, ⟨4, _⟩ => ⟨S1x4x3072, .f32⟩
  | .hbm, ⟨5, _⟩ => ⟨S4x3072, .f32⟩
  | .hbm, ⟨6, _⟩ => ⟨S1x1x3072, .f32⟩
  | .hbm, ⟨7, _⟩ => ⟨S3072, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S4x1x1024, .f32⟩
  | .hbm, ⟨15, _⟩ => ⟨S_, .f32⟩
  | .hbm, ⟨16, _⟩ => ⟨S4x1x1024, .f32⟩
  | .hbm, ⟨17, _⟩ => ⟨S4x1x1024, .f32⟩
  | .hbm, ⟨18, _⟩ => ⟨S4x4096x1024, .f32⟩
  | .hbm, ⟨19, _⟩ => ⟨S4x4096x1024, .f32⟩
  | .hbm, ⟨20, _⟩ => ⟨S4x1x1024, .f32⟩
  | .hbm, ⟨21, _⟩ => ⟨S4x4096x1024, .f32⟩
  | .hbm, ⟨22, _⟩ => ⟨S4x4096x1024, .f32⟩
  | .hbm, ⟨23, _⟩ => ⟨S1x1024x3344, .f32⟩
  | .hbm, ⟨24, _⟩ => ⟨S1024x3344, .f32⟩
  | .hbm, ⟨25, _⟩ => ⟨S4x4096x3344, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S1x1x1024, .f32⟩
  | .hbm, ⟨33, _⟩ => ⟨S4x256x1024, .f32⟩
  | .hbm, ⟨34, _⟩ => ⟨S4x256x1024, .f32⟩
  | .hbm, ⟨35, _⟩ => ⟨S1x1024x3344, .f32⟩
  | .hbm, ⟨36, _⟩ => ⟨S1024x3344, .f32⟩
  | .hbm, ⟨37, _⟩ => ⟨S4x256x3344, .f32⟩
  | .hbm, ⟨38, _⟩ => ⟨S4x4352x3344, .f32⟩
  | .hbm, ⟨39, _⟩ => ⟨S4x4352x1920, .f32⟩
  | .hbm, ⟨40, _⟩ => ⟨S4x4352x656, .f32⟩
  | .hbm, ⟨41, _⟩ => ⟨S_, .f32⟩
  | .hbm, ⟨42, _⟩ => ⟨S4x4352x112, .f32⟩
  | .hbm, ⟨43, _⟩ => ⟨S4x4352x2688, .f32⟩
  | .hbm, ⟨44, _⟩ => ⟨S4x4352x768, .f32⟩
  | .hbm, ⟨45, _⟩ => ⟨S4x4352x768, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== OutIn.lean ====
abbrev S4x4352x1024 : Shape := ⟨3, ![4, 4352, 1024]⟩
abbrev S4x4352x384 : Shape := ⟨3, ![4, 4352, 384]⟩
abbrev S4x4352x256 : Shape := ⟨3, ![4, 4352, 256]⟩
abbrev S4x4352x2688 : Shape := ⟨3, ![4, 4352, 2688]⟩
abbrev S4x8x3072 : Shape := ⟨3, ![4, 8, 3072]⟩
abbrev S4x64 : Shape := ⟨2, ![4, 64]⟩
abbrev S4x1024x1024 : Shape := ⟨3, ![4, 1024, 1024]⟩
abbrev S4x1024 : Shape := ⟨2, ![4, 1024]⟩
abbrev S4x1024x3344 : Shape := ⟨3, ![4, 1024, 3344]⟩
abbrev S_ : Shape := ⟨0, ![]⟩
abbrev S4x1024x3456 : Shape := ⟨3, ![4, 1024, 3456]⟩
abbrev S1x4x1x64 : Shape := ⟨4, ![1, 4, 1, 64]⟩
abbrev S1x4x4x64 : Shape := ⟨4, ![1, 4, 4, 64]⟩
abbrev S4x256 : Shape := ⟨2, ![4, 256]⟩
abbrev S4x1x256 : Shape := ⟨3, ![4, 1, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1024 : Shape := ⟨3, ![4, 1, 1024]⟩
abbrev S4x1x3072 : Shape := ⟨3, ![4, 1, 3072]⟩
abbrev S4x4x3072 : Shape := ⟨3, ![4, 4, 3072]⟩
abbrev S4x4x1x3072 : Shape := ⟨4, ![4, 4, 1, 3072]⟩
abbrev S4x4x2x3072 : Shape := ⟨4, ![4, 4, 2, 3072]⟩
abbrev S4x8x1x3072 : Shape := ⟨4, ![4, 8, 1, 3072]⟩
abbrev S4x4352x768 : Shape := ⟨3, ![4, 4352, 768]⟩
abbrev S1x256x1024 : Shape := ⟨3, ![1, 256, 1024]⟩
abbrev S1x256x384 : Shape := ⟨3, ![1, 256, 384]⟩
abbrev S1x256x256 : Shape := ⟨3, ![1, 256, 256]⟩
abbrev S1x1x1x3072 : Shape := ⟨4, ![1, 1, 1, 3072]⟩
abbrev S1x1024x1024 : Shape := ⟨3, ![1, 1024, 1024]⟩
abbrev S1x1x256 : Shape := ⟨3, ![1, 1, 256]⟩
abbrev S1x1x1024 : Shape := ⟨3, ![1, 1, 1024]⟩
abbrev S1x1024x3456 : Shape := ⟨3, ![1, 1024, 3456]⟩
abbrev S1x256x2688 : Shape := ⟨3, ![1, 256, 2688]⟩
abbrev S1x256x768 : Shape := ⟨3, ![1, 256, 768]⟩
abbrev S256x384 : Shape := ⟨2, ![256, 384]⟩
abbrev S256x1024 : Shape := ⟨2, ![256, 1024]⟩
abbrev S1024x1024 : Shape := ⟨2, ![1024, 1024]⟩
abbrev S1x3072 : Shape := ⟨2, ![1, 3072]⟩
abbrev S1x1024 : Shape := ⟨2, ![1, 1024]⟩
abbrev S1024x3456 : Shape := ⟨2, ![1024, 3456]⟩
abbrev S256x3456 : Shape := ⟨2, ![256, 3456]⟩
abbrev S256x1920 : Shape := ⟨2, ![256, 1920]⟩
abbrev S1x256x1920 : Shape := ⟨3, ![1, 256, 1920]⟩
abbrev S256x768 : Shape := ⟨2, ![256, 768]⟩

abbrev nBuf : Space → Nat
  | .hbm => 77
  | .vmem => 28
  | .smem => 0
  | _ => 0

abbrev bufTy : (tb : Table) → Fin (tcTables nBuf tb) → BufTy
  | .hbm, ⟨0, _⟩ => ⟨S4x4352x1024, .f32⟩
  | .hbm, ⟨1, _⟩ => ⟨S4x4352x384, .f32⟩
  | .hbm, ⟨2, _⟩ => ⟨S4x4352x384, .f32⟩
  | .hbm, ⟨3, _⟩ => ⟨S4x4352x256, .f32⟩
  | .hbm, ⟨4, _⟩ => ⟨S4x4352x256, .f32⟩
  | .hbm, ⟨5, _⟩ => ⟨S4x4352x2688, .f32⟩
  | .hbm, ⟨6, _⟩ => ⟨S4x8x3072, .f32⟩
  | .hbm, ⟨7, _⟩ => ⟨S4x64, .f32⟩
  | .hbm, ⟨8, _⟩ => ⟨S4x1024x1024, .f32⟩
  | .hbm, ⟨9, _⟩ => ⟨S4x1024, .f32⟩
  | .hbm, ⟨10, _⟩ => ⟨S4x1024, .f32⟩
  | .hbm, ⟨11, _⟩ => ⟨S4x1024x3344, .f32⟩
  | .hbm, ⟨12, _⟩ => ⟨S4x1024x3344, .bf16⟩
  | .hbm, ⟨13, _⟩ => ⟨S_, .i32⟩
  | .hbm, ⟨14, _⟩ => ⟨S_, .bf16⟩
  | .hbm, ⟨15, _⟩ => ⟨S4x1024x3456, .bf16⟩
  | .hbm, ⟨16, _⟩ => ⟨S4x1024x1024, .bf16⟩
  | .hbm, ⟨17, _⟩ => ⟨S1x4x1x64, .f32⟩
  | .hbm, ⟨18, _⟩ => ⟨S1x4x4x64, .f32⟩
  | .hbm, ⟨19, _⟩ => ⟨S4x256, .f32⟩
  | .hbm, ⟨20, _⟩ => ⟨S4x1x256, .f32⟩
  | .hbm, ⟨21, _⟩ => ⟨S256, .i32⟩
  | .hbm, ⟨22, _⟩ => ⟨S256x1, .i32⟩
  | .hbm, ⟨23, _⟩ => ⟨S_, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S1x256, .i32⟩
  | .hbm, ⟨42, _⟩ => ⟨S_, .i32⟩
  | .hbm, ⟨43, _⟩ => ⟨S_, .i32⟩
  | .hbm, ⟨44, _⟩ => ⟨S1x256, .i32⟩
  | .hbm, ⟨45, _⟩ => ⟨S1x256, .i32⟩
  | .hbm, ⟨46, _⟩ => ⟨S1x256, .i32⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x256, .i1⟩
  | .hbm, ⟨56, _⟩ => ⟨S_, .i32⟩
  | .hbm, ⟨57, _⟩ => ⟨S1x256, .i32⟩
  | .hbm, ⟨58, _⟩ => ⟨S1x256, .i32⟩
  | .hbm, ⟨59, _⟩ => ⟨S1x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .f32⟩
  | .hbm, ⟨64, _⟩ => ⟨S256x256, .bf16⟩
  | .hbm, ⟨65, _⟩ => ⟨S4x1x1024, .f32⟩
  | .hbm, ⟨66, _⟩ => ⟨S4x1x1024, .f32⟩
  | .hbm, ⟨67, _⟩ => ⟨S4x1x3072, .f32⟩
  | .hbm, ⟨68, _⟩ => ⟨S4x4x3072, .f32⟩
  | .hbm, ⟨69, _⟩ => ⟨S4x4x3072, .f32⟩
  | .hbm, ⟨70, _⟩ => ⟨S4x4x1x3072, .f32⟩
  | .hbm, ⟨71, _⟩ => ⟨S4x4x1x3072, .f32⟩
  | .hbm, ⟨72, _⟩ => ⟨S4x4x2x3072, .f32⟩
  | .hbm, ⟨73, _⟩ => ⟨S4x8x1x3072, .f32⟩
  | .hbm, ⟨74, _⟩ => ⟨S4x4352x1024, .f32⟩
  | .hbm, ⟨75, _⟩ => ⟨S4x4352x2688, .f32⟩
  | .hbm, ⟨76, _⟩ => ⟨S4x4352x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x1x1x3072, .f32⟩
  | .local _ .vmem, ⟨13, _⟩ => ⟨S1x1x1x3072, .f32⟩
  | .local _ .vmem, ⟨14, _⟩ => ⟨S1x1024x1024, .bf16⟩
  | .local _ .vmem, ⟨15, _⟩ => ⟨S1x1x256, .f32⟩
  | .local _ .vmem, ⟨16, _⟩ => ⟨S256x256, .bf16⟩
  | .local _ .vmem, ⟨17, _⟩ => ⟨S1x1x1024, .f32⟩
  | .local _ .vmem, ⟨18, _⟩ => ⟨S1x1x1024, .f32⟩
  | .local _ .vmem, ⟨19, _⟩ => ⟨S1x1x1x3072, .f32⟩
  | .local _ .vmem, ⟨20, _⟩ => ⟨S1x1x1x3072, .f32⟩
  | .local _ .vmem, ⟨21, _⟩ => ⟨S1x1024x3456, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x2688, .f32⟩
  | .local _ .vmem, ⟨25, _⟩ => ⟨S1x256x2688, .f32⟩
  | .local _ .vmem, ⟨26, _⟩ => ⟨S1x256x768, .bf16⟩
  | .local _ .vmem, ⟨27, _⟩ => ⟨S1x256x768, .bf16⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26_0 : Ref sig .tc := ⟨.hbm, 74, rfl⟩
abbrev main_v26_1 : Ref sig .tc := ⟨.hbm, 75, rfl⟩
abbrev main_v26_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c9_i32 : BitVec 32 := 9#32
  let c0_i32_0 : BitVec 32 := 0#32
  ![arg0.toNat, v0.toNat, c9_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi arg1 c0_i32
  let c1_i32 : BitVec 32 := 1#32
  let v2 : BitVec 32 := Scalar.minsi v1 c1_i32
  let v3 : BitVec 32 := Scalar.addi v0 v2
  let c1_i32_0 : BitVec 32 := 1#32
  let c0_i32_1 : BitVec 32 := 0#32
  let c0_i32_2 : BitVec 32 := 0#32
  let c0_i32_3 : BitVec 32 := 0#32
  ![c1_i32_0.toNat, v3.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.minsi arg1 c1_i32
  let v2 : BitVec 32 := Scalar.addi v0 v1
  let c2_i32_0 : BitVec 32 := 2#32
  let c0_i32 : BitVec 32 := 0#32
  let c0_i32_1 : BitVec 32 := 0#32
  let c0_i32_2 : BitVec 32 := 0#32
  ![c2_i32_0.toNat, v2.toNat, c0_i32.toNat, c0_i32_1.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024x3456 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x2688 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutInRefIdeal.lean ====
abbrev S4x4352x1024 : Shape := ⟨3, ![4, 4352, 1024]⟩
abbrev S4x4352x384 : Shape := ⟨3, ![4, 4352, 384]⟩
abbrev S4x4352x256 : Shape := ⟨3, ![4, 4352, 256]⟩
abbrev S4x4352x2688 : Shape := ⟨3, ![4, 4352, 2688]⟩
abbrev S4x8x3072 : Shape := ⟨3, ![4, 8, 3072]⟩
abbrev S4x64 : Shape := ⟨2, ![4, 64]⟩
abbrev S4x1024x1024 : Shape := ⟨3, ![4, 1024, 1024]⟩
abbrev S4x1024 : Shape := ⟨2, ![4, 1024]⟩
abbrev S4x1024x3344 : Shape := ⟨3, ![4, 1024, 3344]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩
abbrev S4x256x1024 : Shape := ⟨3, ![4, 256, 1024]⟩
abbrev S4x1x1024 : Shape := ⟨3, ![4, 1, 1024]⟩
abbrev S4x4096x1024 : Shape := ⟨3, ![4, 4096, 1024]⟩
abbrev S1x64 : Shape := ⟨2, ![1, 64]⟩
abbrev S64 : Shape := ⟨1, ![64]⟩
abbrev S1x1024x1024 : Shape := ⟨3, ![1, 1024, 1024]⟩
abbrev S1024x1024 : Shape := ⟨2, ![1024, 1024]⟩
abbrev S4x4352x4x64 : Shape := ⟨4, ![4, 4352, 4, 64]⟩
abbrev S_ : Shape := ⟨0, ![]⟩
abbrev S4x4352x4 : Shape := ⟨3, ![4, 4352, 4]⟩
abbrev S4x4352x4x1 : Shape := ⟨4, ![4, 4352, 4, 1]⟩
abbrev S1x1x1x64 : Shape := ⟨4, ![1, 1, 1, 64]⟩
abbrev S4x4352 : Shape := ⟨2, ![4, 4352]⟩
abbrev S4x4352x1 : Shape := ⟨3, ![4, 4352, 1]⟩
abbrev S1x1x1024 : Shape := ⟨3, ![1, 1, 1024]⟩
abbrev S1x1024x3344 : Shape := ⟨3, ![1, 1024, 3344]⟩
abbrev S1024x3344 : Shape := ⟨2, ![1024, 3344]⟩
abbrev S4x4352x3344 : Shape := ⟨3, ![4, 4352, 3344]⟩
abbrev S4x4352x1920 : Shape := ⟨3, ![4, 4352, 1920]⟩
abbrev S4x4352x656 : Shape := ⟨3, ![4, 4352, 656]⟩
abbrev S4x4352x112 : Shape := ⟨3, ![4, 4352, 112]⟩
abbrev S4x4352x768 : Shape := ⟨3, ![4, 4352, 768]⟩

abbrev nBuf : Space → Nat
  | .hbm => 129
  | .vmem => 0
  | .smem => 0
  | _ => 0

abbrev hbmTy0_0 (i : Nat) : BufTy := match i % 128 with
  | 0 => ⟨S4x4352x1024, .f32⟩
  | 1 => ⟨S4x4352x384, .f32⟩
  | 2 => ⟨S4x4352x384, .f32⟩
  | 3 => ⟨S4x4352x256, .f32⟩
  | 4 => ⟨S4x4352x256, .f32⟩
  | 5 => ⟨S4x4352x2688, .f32⟩
  | 6 => ⟨S4x8x3072, .f32⟩
  | 7 => ⟨S4x64, .f32⟩
  | 8 => ⟨S4x1024x1024, .f32⟩
  | 9 => ⟨S4x1024, .f32⟩
  | 10 => ⟨S4x1024, .f32⟩
  | 11 => ⟨S4x1024x3344, .f32⟩
  | 12 => ⟨S1x8x1024, .f32⟩
  | 13 => ⟨S8x1024, .f32⟩
  | 14 => ⟨S1x1024, .f32⟩
  | 15 => ⟨S1024, .f32⟩
  | 16 => ⟨S4x256x1024, .f32⟩
  | 17 => ⟨S4x1024, .f32⟩
  | 18 => ⟨S4x1x1024, .f32⟩
  | 19 => ⟨S4x4096x1024, .f32⟩
  | 20 => ⟨S4x4352x1024, .f32⟩
  | 21 => ⟨S4x4352x256, .f32⟩
  | 22 => ⟨S1x64, .f32⟩
  | 23 => ⟨S64, .f32⟩
  | 24 => ⟨S1x1024x1024, .f32⟩
  | 25 => ⟨S1024x1024, .f32⟩
  | 26 => ⟨S1x1024, .f32⟩
  | 27 => ⟨S1024, .f32⟩
  | 28 => ⟨S1x1024, .f32⟩
  | 29 => ⟨S1024, .f32⟩
  | 30 => ⟨S4x4352x256, .f32⟩
  | 31 => ⟨S4x4352x4x64, .f32⟩
  | 32 => ⟨S4x4352x4x64, .f32⟩
  | 33 => ⟨S_, .f32⟩
  | 34 => ⟨S4x4352x4, .f32⟩
  | 35 => ⟨S4x4352x4x1, .f32⟩
  | 36 => ⟨S_, .f32⟩
  | 37 => ⟨S4x4352x4x1, .f32⟩
  | 38 => ⟨S4x4352x4x1, .f32⟩
  | 39 => ⟨S_, .f32⟩
  | 40 => ⟨S4x4352x4x1, .f32⟩
  | 41 => ⟨S4x4352x4x1, .f32⟩
  | 42 => ⟨S4x4352x4x1, .f32⟩
  | 43 => ⟨S4x4352x4x64, .f32⟩
  | 44 => ⟨S4x4352x4x64, .f32⟩
  | 45 => ⟨S1x1x1x64, .f32⟩
  | 46 => ⟨S4x4352x4x64, .f32⟩
  | 47 => ⟨S4x4352x4x64, .f32⟩
  | 48 => ⟨S4x4352x4x64, .f32⟩
  | 49 => ⟨S4x4352x4x64, .f32⟩
  | 50 => ⟨S4x4352x4x64, .f32⟩
  | 51 => ⟨S_, .f32⟩
  | 52 => ⟨S4x4352x4x64, .f32⟩
  | 53 => ⟨S4x4352x4x64, .f32⟩
  | 54 => ⟨S_, .f32⟩
  | 55 => ⟨S4x4352x4x64, .f32⟩
  | 56 => ⟨S4x4352x4x64, .f32⟩
  | 57 => ⟨S4x4352x4x64, .f32⟩
  | 58 => ⟨S4x4352x4x64, .f32⟩
  | 59 => ⟨S4x4352x256, .f32⟩
  | 60 => ⟨S4x4352x1024, .f32⟩
  | 61 => ⟨S4x4352x1024, .f32⟩
  | 62 => ⟨S_, .f32⟩
  | 63 => ⟨S4x4352x1024, .f32⟩
  | 64 => ⟨S4x4352x1024, .f32⟩
  | 65 => ⟨S4x4352x1024, .f32⟩
  | 66 => ⟨S4x4352x1024, .f32⟩
  | 67 => ⟨S_, .f32⟩
  | 68 => ⟨S4x4352, .f32⟩
  | 69 => ⟨S4x4352x1, .f32⟩
  | 70 => ⟨S_, .f32⟩
  | 71 => ⟨S4x4352x1, .f32⟩
  | 72 => ⟨S4x4352x1, .f32⟩
  | 73 => ⟨S4x4352x1024, .f32⟩
  | 74 => ⟨S4x4352x1024, .f32⟩
  | 75 => ⟨S4x4352x1024, .f32⟩
  | 76 => ⟨S_, .f32⟩
  | 77 => ⟨S4x4352, .f32⟩
  | 78 => ⟨S4x4352x1, .f32⟩
  | 79 => ⟨S_, .f32⟩
  | 80 => ⟨S4x4352x1, .f32⟩
  | 81 => ⟨S4x4352x1, .f32⟩
  | 82 => ⟨S4x4352x1024, .f32⟩
  | 83 => ⟨S4x4352x1024, .f32⟩
  | 84 => ⟨S_, .f32⟩
  | 85 => ⟨S4x4352x1, .f32⟩
  | 86 => ⟨S4x4352x1, .f32⟩
  | 87 => ⟨S4x4352x1, .f32⟩
  | 88 => ⟨S4x4352x1024, .f32⟩
  | 89 => ⟨S4x4352x1024, .f32⟩
  | 90 => ⟨S1x1x1024, .f32⟩
  | 91 => ⟨S4x4352x1024, .f32⟩
  | 92 => ⟨S4x4352x1024, .f32⟩
  | 93 => ⟨S1x1x1024, .f32⟩
  | 94 => ⟨S4x4352x1024, .f32⟩
  | 95 => ⟨S4x4352x1024, .f32⟩
  | 96 => ⟨S1x8x1024, .f32⟩
  | 97 => ⟨S8x1024, .f32⟩
  | 98 => ⟨S1x1024, .f32⟩
  | 99 => ⟨S1024, .f32⟩
  | 100 => ⟨S4x256x1024, .f32⟩
  | 101 => ⟨S4x1024, .f32⟩
  | 102 => ⟨S4x1x1024, .f32⟩
  | 103 => ⟨S4x4096x1024, .f32⟩
  | 104 => ⟨S4x4352x1024, .f32⟩
  | 105 => ⟨S_, .f32⟩
  | 106 => ⟨S4x4352x1024, .f32⟩
  | 107 => ⟨S4x4352x1024, .f32⟩
  | 108 => ⟨S4x4352x1024, .f32⟩
  | 109 => ⟨S1x8x1024, .f32⟩
  | 110 => ⟨S8x1024, .f32⟩
  | 111 => ⟨S1x1024, .f32⟩
  | 112 => ⟨S1024, .f32⟩
  | 113 => ⟨S4x256x1024, .f32⟩
  | 114 => ⟨S4x1024, .f32⟩
  | 115 => ⟨S4x1x1024, .f32⟩
  | 116 => ⟨S4x4096x1024, .f32⟩
  | 117 => ⟨S4x4352x1024, .f32⟩
  | 118 => ⟨S4x4352x1024, .f32⟩
  | 119 => ⟨S1x1024x3344, .f32⟩
  | 120 => ⟨S1024x3344, .f32⟩
  | 121 => ⟨S4x4352x3344, .f32⟩
  | 122 => ⟨S4x4352x1920, .f32⟩
  | 123 => ⟨S4x4352x656, .f32⟩
  | 124 => ⟨S_, .f32⟩
  | 125 => ⟨S4x4352x112, .f32⟩
  | 126 => ⟨S4x4352x2688, .f32⟩
  | 127 => ⟨S4x4352x768, .f32⟩
  | _ => ⟨S4x4352x1024, .f32⟩

abbrev hbmTy0_1 (i : Nat) : BufTy := match i % 128 with
  | 0 => ⟨S4x4352x768, .bf16⟩
  | _ => ⟨S4x4352x1024, .f32⟩

abbrev hbmTy (i : Nat) : BufTy := match i / 128 with
  | 0 => hbmTy0_0 i
  | 1 => hbmTy0_1 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_9 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Last.lean ====
abbrev S4x4352x1024 : Shape := ⟨3, ![4, 4352, 1024]⟩
abbrev S4x4352x384 : Shape := ⟨3, ![4, 4352, 384]⟩
abbrev S4x4352x256 : Shape := ⟨3, ![4, 4352, 256]⟩
abbrev S4x4352x2688 : Shape := ⟨3, ![4, 4352, 2688]⟩
abbrev S4x8x3072 : Shape := ⟨3, ![4, 8, 3072]⟩
abbrev S4x64 : Shape := ⟨2, ![4, 64]⟩
abbrev S4x1024x1024 : Shape := ⟨3, ![4, 1024, 1024]⟩
abbrev S4x1024 : Shape := ⟨2, ![4, 1024]⟩
abbrev S1x4x1x64 : Shape := ⟨4, ![1, 4, 1, 64]⟩
abbrev S1x4x4x64 : Shape := ⟨4, ![1, 4, 4, 64]⟩
abbrev S4x256 : Shape := ⟨2, ![4, 256]⟩
abbrev S4x1x256 : Shape := ⟨3, ![4, 1, 256]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S4x1x1024 : Shape := ⟨3, ![4, 1, 1024]⟩
abbrev S4x1x3072 : Shape := ⟨3, ![4, 1, 3072]⟩
abbrev S4x4x3072 : Shape := ⟨3, ![4, 4, 3072]⟩
abbrev S4x4x1x3072 : Shape := ⟨4, ![4, 4, 1, 3072]⟩
abbrev S4x4x2x3072 : Shape := ⟨4, ![4, 4, 2, 3072]⟩
abbrev S4x8x1x3072 : Shape := ⟨4, ![4, 8, 1, 3072]⟩
abbrev S4x4096x1024 : Shape := ⟨3, ![4, 4096, 1024]⟩
abbrev S1x256x1024 : Shape := ⟨3, ![1, 256, 1024]⟩
abbrev S1x256x384 : Shape := ⟨3, ![1, 256, 384]⟩
abbrev S1x256x256 : Shape := ⟨3, ![1, 256, 256]⟩
abbrev S1x1x1x3072 : Shape := ⟨4, ![1, 1, 1, 3072]⟩
abbrev S1x1024x1024 : Shape := ⟨3, ![1, 1024, 1024]⟩
abbrev S1x1x256 : Shape := ⟨3, ![1, 1, 256]⟩
abbrev S1x1x1024 : Shape := ⟨3, ![1, 1, 1024]⟩
abbrev S256x384 : Shape := ⟨2, ![256, 384]⟩
abbrev S256x1024 : Shape := ⟨2, ![256, 1024]⟩
abbrev S1024x1024 : Shape := ⟨2, ![1024, 1024]⟩
abbrev S1x3072 : Shape := ⟨2, ![1, 3072]⟩
abbrev S1x1024 : Shape := ⟨2, ![1, 1024]⟩

abbrev nBuf : Space → Nat
  | .hbm => 70
  | .vmem => 21
  | .smem => 0
  | _ => 0

abbrev bufTy : (tb : Table) → Fin (tcTables nBuf tb) → BufTy
  | .hbm, ⟨0, _⟩ => ⟨S4x4352x1024, .f32⟩
  | .hbm, ⟨1, _⟩ => ⟨S4x4352x384, .f32⟩
  | .hbm, ⟨2, _⟩ => ⟨S4x4352x384, .f32⟩
  | .hbm, ⟨3, _⟩ => ⟨S4x4352x256, .f32⟩
  | .hbm, ⟨4, _⟩ => ⟨S4x4352x256, .f32⟩
  | .hbm, ⟨5, _⟩ => ⟨S4x4352x2688, .f32⟩
  | .hbm, ⟨6, _⟩ => ⟨S4x8x3072, .f32⟩
  | .hbm, ⟨7, _⟩ => ⟨S4x64, .f32⟩
  | .hbm, ⟨8, _⟩ => ⟨S4x1024x1024, .f32⟩
  | .hbm, ⟨9, _⟩ => ⟨S4x1024, .f32⟩
  | .hbm, ⟨10, _⟩ => ⟨S4x1024, .f32⟩
  | .hbm, ⟨11, _⟩ => ⟨S4x1024x1024, .bf16⟩
  | .hbm, ⟨12, _⟩ => ⟨S1x4x1x64, .f32⟩
  | .hbm, ⟨13, _⟩ => ⟨S1x4x4x64, .f32⟩
  | .hbm, ⟨14, _⟩ => ⟨S4x256, .f32⟩
  | .hbm, ⟨15, _⟩ => ⟨S4x1x256, .f32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i1⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S1x256, .i32⟩
  | .hbm, ⟨37, _⟩ => ⟨S_, .i32⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S1x256, .i32⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S1x256, .i32⟩
  | .hbm, ⟨46, _⟩ => ⟨S1x256, .i32⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x256, .i1⟩
  | .hbm, ⟨51, _⟩ => ⟨S_, .i32⟩
  | .hbm, ⟨52, _⟩ => ⟨S1x256, .i32⟩
  | .hbm, ⟨53, _⟩ => ⟨S1x256, .i32⟩
  | .hbm, ⟨54, _⟩ => ⟨S1x256, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S256x256, .f32⟩
  | .hbm, ⟨59, _⟩ => ⟨S256x256, .bf16⟩
  | .hbm, ⟨60, _⟩ => ⟨S4x1x1024, .f32⟩
  | .hbm, ⟨61, _⟩ => ⟨S4x1x1024, .f32⟩
  | .hbm, ⟨62, _⟩ => ⟨S4x1x3072, .f32⟩
  | .hbm, ⟨63, _⟩ => ⟨S4x4x3072, .f32⟩
  | .hbm, ⟨64, _⟩ => ⟨S4x4x3072, .f32⟩
  | .hbm, ⟨65, _⟩ => ⟨S4x4x1x3072, .f32⟩
  | .hbm, ⟨66, _⟩ => ⟨S4x4x1x3072, .f32⟩
  | .hbm, ⟨67, _⟩ => ⟨S4x4x2x3072, .f32⟩
  | .hbm, ⟨68, _⟩ => ⟨S4x8x1x3072, .f32⟩
  | .hbm, ⟨69, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x1x1x3072, .f32⟩
  | .local _ .vmem, ⟨13, _⟩ => ⟨S1x1x1x3072, .f32⟩
  | .local _ .vmem, ⟨14, _⟩ => ⟨S1x1024x1024, .bf16⟩
  | .local _ .vmem, ⟨15, _⟩ => ⟨S1x1x256, .f32⟩
  | .local _ .vmem, ⟨16, _⟩ => ⟨S256x256, .bf16⟩
  | .local _ .vmem, ⟨17, _⟩ => ⟨S1x1x1024, .f32⟩
  | .local _ .vmem, ⟨18, _⟩ => ⟨S1x1x1024, .f32⟩
  | .local _ .vmem, ⟨19, _⟩ => ⟨S1x256x1024, .f32⟩
  | .local _ .vmem, ⟨20, _⟩ => ⟨S1x256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v7 : Ref sig .tc := ⟨.hbm, 35, rfl⟩
abbrev main_v8 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c9_i32 : BitVec 32 := 9#32
  let c0_i32 : BitVec 32 := 0#32
  ![arg0.toNat, v0.toNat, c9_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi arg1 c1_i32
  let c1_i32_0 : BitVec 32 := 1#32
  let v2 : BitVec 32 := Scalar.minsi v1 c1_i32_0
  let v3 : BitVec 32 := Scalar.addi v0 v2
  let c3_i32 : BitVec 32 := 3#32
  let c0_i32 : BitVec 32 := 0#32
  let c0_i32_1 : BitVec 32 := 0#32
  let c0_i32_2 : BitVec 32 := 0#32
  ![c3_i32.toNat, v3.toNat, c0_i32.toNat, c0_i32_1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== LastRefIdeal.lean ====
abbrev S4x4352x1024 : Shape := ⟨3, ![4, 4352, 1024]⟩
abbrev S4x4352x384 : Shape := ⟨3, ![4, 4352, 384]⟩
abbrev S4x4352x256 : Shape := ⟨3, ![4, 4352, 256]⟩
abbrev S4x4352x2688 : Shape := ⟨3, ![4, 4352, 2688]⟩
abbrev S4x8x3072 : Shape := ⟨3, ![4, 8, 3072]⟩
abbrev S4x64 : Shape := ⟨2, ![4, 64]⟩
abbrev S4x1024x1024 : Shape := ⟨3, ![4, 1024, 1024]⟩
abbrev S4x1024 : Shape := ⟨2, ![4, 1024]⟩
abbrev S4x4096x1024 : Shape := ⟨3, ![4, 4096, 1024]⟩
abbrev S4x4096x384 : Shape := ⟨3, ![4, 4096, 384]⟩
abbrev S4x4096x256 : Shape := ⟨3, ![4, 4096, 256]⟩
abbrev S1x4x1024 : Shape := ⟨3, ![1, 4, 1024]⟩
abbrev S4x1x1024 : Shape := ⟨3, ![4, 1, 1024]⟩
abbrev S1x64 : Shape := ⟨2, ![1, 64]⟩
abbrev S64 : Shape := ⟨1, ![64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x4096x4x64 : Shape := ⟨4, ![4, 4096, 4, 64]⟩
abbrev S_ : Shape := ⟨0, ![]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x4352x384, .f32⟩
  | .hbm, ⟨2, _⟩ => ⟨S4x4352x384, .f32⟩
  | .hbm, ⟨3, _⟩ => ⟨S4x4352x256, .f32⟩
  | .hbm, ⟨4, _⟩ => ⟨S4x4352x256, .f32⟩
  | .hbm, ⟨5, _⟩ => ⟨S4x4352x2688, .f32⟩
  | .hbm, ⟨6, _⟩ => ⟨S4x8x3072, .f32⟩
  | .hbm, ⟨7, _⟩ => ⟨S4x64, .f32⟩
  | .hbm, ⟨8, _⟩ => ⟨S4x1024x1024, .f32⟩
  | .hbm, ⟨9, _⟩ => ⟨S4x1024, .f32⟩
  | .hbm, ⟨10, _⟩ => ⟨S4x1024, .f32⟩
  | .hbm, ⟨11, _⟩ => ⟨S4x4352x256, .f32⟩
  | .hbm, ⟨12, _⟩ => ⟨S4x4096x1024, .f32⟩
  | .hbm, ⟨13, _⟩ => ⟨S4x4096x384, .f32⟩
  | .hbm, ⟨14, _⟩ => ⟨S4x4096x384, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S1x4x1024, .f32⟩
  | .hbm, ⟨19, _⟩ => ⟨S4x1024, .f32⟩
  | .hbm, ⟨20, _⟩ => ⟨S4x1x1024, .f32⟩
  | .hbm, ⟨21, _⟩ => ⟨S1x64, .f32⟩
  | .hbm, ⟨22, _⟩ => ⟨S64, .f32⟩
  | .hbm, ⟨23, _⟩ => ⟨S1x1024x1024, .f32⟩
  | .hbm, ⟨24, _⟩ => ⟨S1024x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S4x4096x256, .f32⟩
  | .hbm, ⟨30, _⟩ => ⟨S4x4096x4x64, .f32⟩
  | .hbm, ⟨31, _⟩ => ⟨S4x4096x4x64, .f32⟩
  | .hbm, ⟨32, _⟩ => ⟨S_, .f32⟩
  | .hbm, ⟨33, _⟩ => ⟨S4x4096x4, .f32⟩
  | .hbm, ⟨34, _⟩ => ⟨S4x4096x4x1, .f32⟩
  | .hbm, ⟨35, _⟩ => ⟨S_, .f32⟩
  | .hbm, ⟨36, _⟩ => ⟨S4x4096x4x1, .f32⟩
  | .hbm, ⟨37, _⟩ => ⟨S4x4096x4x1, .f32⟩
  | .hbm, ⟨38, _⟩ => ⟨S_, .f32⟩
  | .hbm, ⟨39, _⟩ => ⟨S4x4096x4x1, .f32⟩
  | .hbm, ⟨40, _⟩ => ⟨S4x4096x4x1, .f32⟩
  | .hbm, ⟨41, _⟩ => ⟨S4x4096x4x1, .f32⟩
  | .hbm, ⟨42, _⟩ => ⟨S4x4096x4x64, .f32⟩
  | .hbm, ⟨43, _⟩ => ⟨S4x4096x4x64, .f32⟩
  | .hbm, ⟨44, _⟩ => ⟨S1x1x1x64, .f32⟩
  | .hbm, ⟨45, _⟩ => ⟨S4x4096x4x64, .f32⟩
  | .hbm, ⟨46, _⟩ => ⟨S4x4096x4x64, .f32⟩
  | .hbm, ⟨47, _⟩ => ⟨S4x4096x4x64, .f32⟩
  | .hbm, ⟨48, _⟩ => ⟨S4x4096x4x64, .f32⟩
  | .hbm, ⟨49, _⟩ => ⟨S4x4096x4x64, .f32⟩
  | .hbm, ⟨50, _⟩ => ⟨S_, .f32⟩
  | .hbm, ⟨51, _⟩ => ⟨S4x4096x4x64, .f32⟩
  | .hbm, ⟨52, _⟩ => ⟨S4x4096x4x64, .f32⟩
  | .hbm, ⟨53, _⟩ => ⟨S_, .f32⟩
  | .hbm, ⟨54, _⟩ => ⟨S4x4096x4x64, .f32⟩
  | .hbm, ⟨55, _⟩ => ⟨S4x4096x4x64, .f32⟩
  | .hbm, ⟨56, _⟩ => ⟨S4x4096x4x64, .f32⟩
  | .hbm, ⟨57, _⟩ => ⟨S4x4096x4x64, .f32⟩
  | .hbm, ⟨58, _⟩ => ⟨S4x4096x256, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1024, .f32⟩
  | .hbm, ⟨83, _⟩ => ⟨S4x4096x1024, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x1, .f32⟩
  | .hbm, ⟨88, _⟩ => ⟨S4x4096x1024, .f32⟩
  | .hbm, ⟨89, _⟩ => ⟨S4x4096x1024, .f32⟩
  | .hbm, ⟨90, _⟩ => ⟨S1x1x1024, .f32⟩
  | .hbm, ⟨91, _⟩ => ⟨S4x4096x1024, .f32⟩
  | .hbm, ⟨92, _⟩ => ⟨S4x4096x1024, .f32⟩
  | .hbm, ⟨93, _⟩ => ⟨S1x1x1024, .f32⟩
  | .hbm, ⟨94, _⟩ => ⟨S4x4096x1024, .f32⟩
  | .hbm, ⟨95, _⟩ => ⟨S4x4096x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_7 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Natten.lean ====
abbrev S4x4352x2688 : Shape := ⟨3, ![4, 4352, 2688]⟩
abbrev S4x4352x768 : Shape := ⟨3, ![4, 4352, 768]⟩
abbrev S4x6x15x31 : Shape := ⟨4, ![4, 6, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S31 : Shape := ⟨1, ![31]⟩
abbrev S31x1x1 : Shape := ⟨3, ![31, 1, 1]⟩
abbrev S1x64x64 : Shape := ⟨3, ![1, 64, 64]⟩
abbrev S31x64x64 : Shape := ⟨3, ![31, 64, 64]⟩
abbrev S4x6x15x64x64 : Shape := ⟨5, ![4, 6, 15, 64, 64]⟩
abbrev S1x1x1x64x64 : Shape := ⟨5, ![1, 1, 1, 64, 64]⟩
abbrev S4x6x1x64x64 : Shape := ⟨5, ![4, 6, 1, 64, 64]⟩
abbrev S4x6x16x64x64 : Shape := ⟨5, ![4, 6, 16, 64, 64]⟩
abbrev S4x6x16x64x128 : Shape := ⟨5, ![4, 6, 16, 64, 128]⟩
abbrev S4x4352x384 : Shape := ⟨3, ![4, 4352, 384]⟩
abbrev S1x256x384 : Shape := ⟨3, ![1, 256, 384]⟩
abbrev S1x4352x768 : Shape := ⟨3, ![1, 4352, 768]⟩
abbrev S1x6x16x64x128 : Shape := ⟨5, ![1, 6, 16, 64, 128]⟩
abbrev S128x128 : Shape := ⟨2, ![128, 128]⟩
abbrev S64x128 : Shape := ⟨2, ![64, 128]⟩
abbrev S1x640x128 : Shape := ⟨3, ![1, 640, 128]⟩
abbrev S640x128 : Shape := ⟨2, ![640, 128]⟩
abbrev S1x256x128 : Shape := ⟨3, ![1, 256, 128]⟩
abbrev S256x128 : Shape := ⟨2, ![256, 128]⟩
abbrev S896x128 : Shape := ⟨2, ![896, 128]⟩
abbrev S1x128x128 : Shape := ⟨3, ![1, 128, 128]⟩
abbrev S256x896 : Shape := ⟨2, ![256, 896]⟩
abbrev S1x1x1x64x128 : Shape := ⟨5, ![1, 1, 1, 64, 128]⟩
abbrev S64x256 : Shape := ⟨2, ![64, 256]⟩
abbrev S64x896 : Shape := ⟨2, ![64, 896]⟩
abbrev S256 : Shape := ⟨1, ![256]⟩
abbrev S256x1 : Shape := ⟨2, ![256, 1]⟩
abbrev S256x256 : Shape := ⟨2, ![256, 256]⟩

abbrev nBuf : Space → Nat
  | .hbm => 60
  | .vmem => 9
  | .smem => 0
  | _ => 0

abbrev bufTy : (tb : Table) → Fin (tcTables nBuf tb) → BufTy
  | .hbm, ⟨0, _⟩ => ⟨S4x4352x2688, .f32⟩
  | .hbm, ⟨1, _⟩ => ⟨S4x4352x768, .bf16⟩
  | .hbm, ⟨2, _⟩ => ⟨S4x6x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S31, .i32⟩
  | .hbm, ⟨42, _⟩ => ⟨S31x1x1, .i32⟩
  | .hbm, ⟨43, _⟩ => ⟨S1x64x64, .i32⟩
  | .hbm, ⟨44, _⟩ => ⟨S31x64x64, .i32⟩
  | .hbm, ⟨45, _⟩ => ⟨S31x64x64, .i32⟩
  | .hbm, ⟨46, _⟩ => ⟨S31x64x64, .i1⟩
  | .hbm, ⟨47, _⟩ => ⟨S31x64x64, .f32⟩
  | .hbm, ⟨48, _⟩ => ⟨S4x6x15x64x64, .f32⟩
  | .hbm, ⟨49, _⟩ => ⟨S1x1x1x64x64, .i1⟩
  | .hbm, ⟨50, _⟩ => ⟨S_, .f32⟩
  | .hbm, ⟨51, _⟩ => ⟨S_, .f32⟩
  | .hbm, ⟨52, _⟩ => ⟨S4x6x15x64x64, .i1⟩
  | .hbm, ⟨53, _⟩ => ⟨S4x6x15x64x64, .f32⟩
  | .hbm, ⟨54, _⟩ => ⟨S4x6x15x64x64, .f32⟩
  | .hbm, ⟨55, _⟩ => ⟨S_, .f32⟩
  | .hbm, ⟨56, _⟩ => ⟨S4x6x1x64x64, .f32⟩
  | .hbm, ⟨57, _⟩ => ⟨S4x6x16x64x64, .f32⟩
  | .hbm, ⟨58, _⟩ => ⟨S4x6x16x64x128, .f32⟩
  | .hbm, ⟨59, _⟩ => ⟨S4x4352x384, .f32⟩
  | .local _ .vmem, ⟨0, _⟩ => ⟨S1x256x384, .f32⟩
  | .local _ .vmem, ⟨1, _⟩ => ⟨S1x256x384, .f32⟩
  | .local _ .vmem, ⟨2, _⟩ => ⟨S1x4352x768, .bf16⟩
  | .local _ .vmem, ⟨3, _⟩ => ⟨S1x4352x768, .bf16⟩
  | .local _ .vmem, ⟨4, _⟩ => ⟨S1x256x384, .f32⟩
  | .local _ .vmem, ⟨5, _⟩ => ⟨S1x256x384, .f32⟩
  | .local _ .vmem, ⟨6, _⟩ => ⟨S1x6x16x64x128, .f32⟩
  | .local _ .vmem, ⟨7, _⟩ => ⟨S1x256x384, .f32⟩
  | .local _ .vmem, ⟨8, _⟩ => ⟨S1x256x384, .f32⟩
  | _, _ => ⟨S4x4352x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c1_i32 : BitVec 32 := 1#32
  let v6 : BitVec 1 := Scalar.cmpi .sge arg1 c1_i32
  let v7 : BitVec 32 := Scalar.extui v6
  let c0_i32 : BitVec 32 := 0#32
  let v8 : BitVec 1 := Scalar.cmpi .ne v7 c0_i32
  v8

def k0_mult1 (i : grid0.Coords) : BitVec 32 :=
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let c0_i32_4 : BitVec 32 := 0#32
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  v26
def k0_mult2 (i : grid0.Coords) : BitVec 32 :=
  let c256_i32_180 : BitVec 32 := 256#32
  let c56_i32_173 : BitVec 32 := 56#32
  let c0_i32_172 : BitVec 32 := 0#32
  let c2_i32_169 : BitVec 32 := 2#32
  let c2_i32_167 : BitVec 32 := 2#32
  let arg1 : BitVec 32 := BitVec.ofNat 32 (i 1).val
  let c1_i32_166 : BitVec 32 := 1#32
  let v268 : BitVec 32 := Scalar.subi arg1 c1_i32_166
  let v269 : BitVec 32 := Scalar.muli c2_i32_167 v268
  let c1_i32_168 : BitVec 32 := 1#32
  let v270 : BitVec 32 := Scalar.addi v269 c1_i32_168
  let v271 : BitVec 32 := Scalar.muli c2_i32_169 v270
  let c0_i32_170 : BitVec 32 := 0#32
  let v272 : BitVec 32 := Scalar.addi v271 c0_i32_170
  let c4_i32_171 : BitVec 32 := 4#32
  let v273 : BitVec 32 := Scalar.subi v272 c4_i32_171
  let v274 : BitVec 32 := Scalar.maxsi c0_i32_172 v273
  let v275 : BitVec 32 := Scalar.minsi c56_i32_173 v274
  let c54_i32_178 : BitVec 32 := 54#32
  let v280 : BitVec 32 := Scalar.minsi v275 c54_i32_178
  let c64_i32_179 : BitVec 32 := 64#32
  let v281 : BitVec 32 := Scalar.muli v280 c64_i32_179
  let v282 : BitVec 32 := Scalar.addi c256_i32_180 v281
  v282
def k0_off1 (i : grid0.Coords) (c0_i32_4 : BitVec 32) : Fin 3 → Nat :=
  let c0 : Index := 0#32
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  let v27 : BitVec 32 := v26
  let v524 : Index := Scalar.indexCast v27
  let c0_341 : Index := 0#32
  ![0, v524.toNat, 0]
def k0_off2 (i : grid0.Coords) (c0_i32_4 : BitVec 32) : Fin 3 → Nat :=
  let c0_351 : Index := 0#32
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  let v27 : BitVec 32 := v26
  let v541 : Index := Scalar.indexCast v27
  let c128 : Index := 128#32
  ![0, v541.toNat, 128]
def k0_off3 (i : grid0.Coords) (c0_i32_4 : BitVec 32) : Fin 3 → Nat :=
  let c0_362 : Index := 0#32
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  let v27 : BitVec 32 := v26
  let v558 : Index := Scalar.indexCast v27
  let c256 : Index := 256#32
  ![0, v558.toNat, 256]
def k0_off4 (i : grid0.Coords) (c0_i32_4 : BitVec 32) (c0_i32_13 : BitVec 32) (c0_i32_14 : BitVec 32) (c0_i32_15 : BitVec 32) : Fin 5 → Nat :=
  let c0_409 : Index := 0#32
  let c0_410 : Index := 0#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v28 : BitVec 32 := Scalar.addi v24 c0_i32_13
  let v29 : BitVec 1 := Scalar.cmpi .sge v28 v19
  let v30 : BitVec 32 := Scalar.addi v24 c0_i32_14
  let c8_i32 : BitVec 32 := 8#32
  let v31 : BitVec 32 := Scalar.addi v19 c8_i32
  let v32 : BitVec 1 := Scalar.cmpi .slt v30 v31
  let v33 : BitVec 1 := Scalar.andi v29 v32
  let v34 : BitVec 32 := Scalar.addi v24 c0_i32_15
  let c0_i32_16 : BitVec 32 := 0#32
  let v35 : BitVec 32 := Scalar.addi v15 c0_i32_16
  let v36 : BitVec 32 := Scalar.subi v34 v35
  let c8_i32_17 : BitVec 32 := 8#32
  let v37 : BitVec 32 := Scalar.addi v36 c8_i32_17
  let c1_i32_18 : BitVec 32 := 1#32
  let v38 : BitVec 32 := Scalar.subi v37 c1_i32_18
  let c15_i32 : BitVec 32 := 15#32
  let v39 : BitVec 32 := Scalar.select v33 v38 c15_i32
  let v626 : Index := Scalar.indexCast v39
  let c0_411 : Index := 0#32
  let c0_412 : Index := 0#32
  ![0, 0, v626.toNat, 0, 0]
def k0_off4_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off5 (i : grid0.Coords) (c0_i32_4 : BitVec 32) (c0_i32_86 : BitVec 32) (c0_i32_87 : BitVec 32) (c0_i32_89 : BitVec 32) : Fin 5 → Nat :=
  let c0_450 : Index := 0#32
  let c0_451 : Index := 0#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v148 : BitVec 32 := Scalar.addi v24 c0_i32_86
  let c56_i32_11 : BitVec 32 := 56#32
  let c0_i32_10 : BitVec 32 := 0#32
  let c1_i32_8 : BitVec 32 := 1#32
  let v20 : BitVec 32 := Scalar.addi v15 c1_i32_8
  let c4_i32_9 : BitVec 32 := 4#32
  let v21 : BitVec 32 := Scalar.subi v20 c4_i32_9
  let v22 : BitVec 32 := Scalar.maxsi c0_i32_10 v21
  let v23 : BitVec 32 := Scalar.minsi c56_i32_11 v22
  let v149 : BitVec 1 := Scalar.cmpi .sge v148 v23
  let v150 : BitVec 32 := Scalar.addi v24 c0_i32_87
  let c8_i32_88 : BitVec 32 := 8#32
  let v151 : BitVec 32 := Scalar.addi v23 c8_i32_88
  let v152 : BitVec 1 := Scalar.cmpi .slt v150 v151
  let v153 : BitVec 1 := Scalar.andi v149 v152
  let v154 : BitVec 32 := Scalar.addi v24 c0_i32_89
  let c1_i32_90 : BitVec 32 := 1#32
  let v155 : BitVec 32 := Scalar.addi v15 c1_i32_90
  let v156 : BitVec 32 := Scalar.subi v154 v155
  let c8_i32_91 : BitVec 32 := 8#32
  let v157 : BitVec 32 := Scalar.addi v156 c8_i32_91
  let c1_i32_92 : BitVec 32 := 1#32
  let v158 : BitVec 32 := Scalar.subi v157 c1_i32_92
  let c15_i32_93 : BitVec 32 := 15#32
  let v159 : BitVec 32 := Scalar.select v153 v158 c15_i32_93
  let v663 : Index := Scalar.indexCast v159
  let c0_452 : Index := 0#32
  let c0_453 : Index := 0#32
  ![0, 0, v663.toNat, 0, 0]
def k0_off5_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off6 (i : grid0.Coords) (c0_i32_4 : BitVec 32) (c0_i32_13 : BitVec 32) (c0_i32_14 : BitVec 32) (c0_i32_15 : BitVec 32) : Fin 5 → Nat :=
  let c0_491 : Index := 0#32
  let c1 : Index := 1#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v28 : BitVec 32 := Scalar.addi v24 c0_i32_13
  let v29 : BitVec 1 := Scalar.cmpi .sge v28 v19
  let v30 : BitVec 32 := Scalar.addi v24 c0_i32_14
  let c8_i32 : BitVec 32 := 8#32
  let v31 : BitVec 32 := Scalar.addi v19 c8_i32
  let v32 : BitVec 1 := Scalar.cmpi .slt v30 v31
  let v33 : BitVec 1 := Scalar.andi v29 v32
  let v34 : BitVec 32 := Scalar.addi v24 c0_i32_15
  let c0_i32_16 : BitVec 32 := 0#32
  let v35 : BitVec 32 := Scalar.addi v15 c0_i32_16
  let v36 : BitVec 32 := Scalar.subi v34 v35
  let c8_i32_17 : BitVec 32 := 8#32
  let v37 : BitVec 32 := Scalar.addi v36 c8_i32_17
  let c1_i32_18 : BitVec 32 := 1#32
  let v38 : BitVec 32 := Scalar.subi v37 c1_i32_18
  let c15_i32 : BitVec 32 := 15#32
  let v39 : BitVec 32 := Scalar.select v33 v38 c15_i32
  let v700 : Index := Scalar.indexCast v39
  let c0_492 : Index := 0#32
  let c0_493 : Index := 0#32
  ![0, 1, v700.toNat, 0, 0]
def k0_off6_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off7 (i : grid0.Coords) (c0_i32_4 : BitVec 32) (c0_i32_86 : BitVec 32) (c0_i32_87 : BitVec 32) (c0_i32_89 : BitVec 32) : Fin 5 → Nat :=
  let c0_531 : Index := 0#32
  let c1_532 : Index := 1#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v148 : BitVec 32 := Scalar.addi v24 c0_i32_86
  let c56_i32_11 : BitVec 32 := 56#32
  let c0_i32_10 : BitVec 32 := 0#32
  let c1_i32_8 : BitVec 32 := 1#32
  let v20 : BitVec 32 := Scalar.addi v15 c1_i32_8
  let c4_i32_9 : BitVec 32 := 4#32
  let v21 : BitVec 32 := Scalar.subi v20 c4_i32_9
  let v22 : BitVec 32 := Scalar.maxsi c0_i32_10 v21
  let v23 : BitVec 32 := Scalar.minsi c56_i32_11 v22
  let v149 : BitVec 1 := Scalar.cmpi .sge v148 v23
  let v150 : BitVec 32 := Scalar.addi v24 c0_i32_87
  let c8_i32_88 : BitVec 32 := 8#32
  let v151 : BitVec 32 := Scalar.addi v23 c8_i32_88
  let v152 : BitVec 1 := Scalar.cmpi .slt v150 v151
  let v153 : BitVec 1 := Scalar.andi v149 v152
  let v154 : BitVec 32 := Scalar.addi v24 c0_i32_89
  let c1_i32_90 : BitVec 32 := 1#32
  let v155 : BitVec 32 := Scalar.addi v15 c1_i32_90
  let v156 : BitVec 32 := Scalar.subi v154 v155
  let c8_i32_91 : BitVec 32 := 8#32
  let v157 : BitVec 32 := Scalar.addi v156 c8_i32_91
  let c1_i32_92 : BitVec 32 := 1#32
  let v158 : BitVec 32 := Scalar.subi v157 c1_i32_92
  let c15_i32_93 : BitVec 32 := 15#32
  let v159 : BitVec 32 := Scalar.select v153 v158 c15_i32_93
  let v737 : Index := Scalar.indexCast v159
  let c0_533 : Index := 0#32
  let c0_534 : Index := 0#32
  ![0, 1, v737.toNat, 0, 0]
def k0_off7_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off8 (i : grid0.Coords) (c0_i32_4 : BitVec 32) (c0_i32_13 : BitVec 32) (c0_i32_14 : BitVec 32) (c0_i32_15 : BitVec 32) : Fin 5 → Nat :=
  let c0_572 : Index := 0#32
  let c2 : Index := 2#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v28 : BitVec 32 := Scalar.addi v24 c0_i32_13
  let v29 : BitVec 1 := Scalar.cmpi .sge v28 v19
  let v30 : BitVec 32 := Scalar.addi v24 c0_i32_14
  let c8_i32 : BitVec 32 := 8#32
  let v31 : BitVec 32 := Scalar.addi v19 c8_i32
  let v32 : BitVec 1 := Scalar.cmpi .slt v30 v31
  let v33 : BitVec 1 := Scalar.andi v29 v32
  let v34 : BitVec 32 := Scalar.addi v24 c0_i32_15
  let c0_i32_16 : BitVec 32 := 0#32
  let v35 : BitVec 32 := Scalar.addi v15 c0_i32_16
  let v36 : BitVec 32 := Scalar.subi v34 v35
  let c8_i32_17 : BitVec 32 := 8#32
  let v37 : BitVec 32 := Scalar.addi v36 c8_i32_17
  let c1_i32_18 : BitVec 32 := 1#32
  let v38 : BitVec 32 := Scalar.subi v37 c1_i32_18
  let c15_i32 : BitVec 32 := 15#32
  let v39 : BitVec 32 := Scalar.select v33 v38 c15_i32
  let v776 : Index := Scalar.indexCast v39
  let c0_573 : Index := 0#32
  let c0_574 : Index := 0#32
  ![0, 2, v776.toNat, 0, 0]
def k0_off8_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off9 (i : grid0.Coords) (c0_i32_4 : BitVec 32) (c0_i32_86 : BitVec 32) (c0_i32_87 : BitVec 32) (c0_i32_89 : BitVec 32) : Fin 5 → Nat :=
  let c0_612 : Index := 0#32
  let c2_613 : Index := 2#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v148 : BitVec 32 := Scalar.addi v24 c0_i32_86
  let c56_i32_11 : BitVec 32 := 56#32
  let c0_i32_10 : BitVec 32 := 0#32
  let c1_i32_8 : BitVec 32 := 1#32
  let v20 : BitVec 32 := Scalar.addi v15 c1_i32_8
  let c4_i32_9 : BitVec 32 := 4#32
  let v21 : BitVec 32 := Scalar.subi v20 c4_i32_9
  let v22 : BitVec 32 := Scalar.maxsi c0_i32_10 v21
  let v23 : BitVec 32 := Scalar.minsi c56_i32_11 v22
  let v149 : BitVec 1 := Scalar.cmpi .sge v148 v23
  let v150 : BitVec 32 := Scalar.addi v24 c0_i32_87
  let c8_i32_88 : BitVec 32 := 8#32
  let v151 : BitVec 32 := Scalar.addi v23 c8_i32_88
  let v152 : BitVec 1 := Scalar.cmpi .slt v150 v151
  let v153 : BitVec 1 := Scalar.andi v149 v152
  let v154 : BitVec 32 := Scalar.addi v24 c0_i32_89
  let c1_i32_90 : BitVec 32 := 1#32
  let v155 : BitVec 32 := Scalar.addi v15 c1_i32_90
  let v156 : BitVec 32 := Scalar.subi v154 v155
  let c8_i32_91 : BitVec 32 := 8#32
  let v157 : BitVec 32 := Scalar.addi v156 c8_i32_91
  let c1_i32_92 : BitVec 32 := 1#32
  let v158 : BitVec 32 := Scalar.subi v157 c1_i32_92
  let c15_i32_93 : BitVec 32 := 15#32
  let v159 : BitVec 32 := Scalar.select v153 v158 c15_i32_93
  let v813 : Index := Scalar.indexCast v159
  let c0_614 : Index := 0#32
  let c0_615 : Index := 0#32
  ![0, 2, v813.toNat, 0, 0]
def k0_off9_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off10 (i : grid0.Coords) (c0_i32_4 : BitVec 32) (c0_i32_13 : BitVec 32) (c0_i32_14 : BitVec 32) (c0_i32_15 : BitVec 32) : Fin 5 → Nat :=
  let c0_653 : Index := 0#32
  let c3 : Index := 3#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v28 : BitVec 32 := Scalar.addi v24 c0_i32_13
  let v29 : BitVec 1 := Scalar.cmpi .sge v28 v19
  let v30 : BitVec 32 := Scalar.addi v24 c0_i32_14
  let c8_i32 : BitVec 32 := 8#32
  let v31 : BitVec 32 := Scalar.addi v19 c8_i32
  let v32 : BitVec 1 := Scalar.cmpi .slt v30 v31
  let v33 : BitVec 1 := Scalar.andi v29 v32
  let v34 : BitVec 32 := Scalar.addi v24 c0_i32_15
  let c0_i32_16 : BitVec 32 := 0#32
  let v35 : BitVec 32 := Scalar.addi v15 c0_i32_16
  let v36 : BitVec 32 := Scalar.subi v34 v35
  let c8_i32_17 : BitVec 32 := 8#32
  let v37 : BitVec 32 := Scalar.addi v36 c8_i32_17
  let c1_i32_18 : BitVec 32 := 1#32
  let v38 : BitVec 32 := Scalar.subi v37 c1_i32_18
  let c15_i32 : BitVec 32 := 15#32
  let v39 : BitVec 32 := Scalar.select v33 v38 c15_i32
  let v850 : Index := Scalar.indexCast v39
  let c0_654 : Index := 0#32
  let c0_655 : Index := 0#32
  ![0, 3, v850.toNat, 0, 0]
def k0_off10_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off11 (i : grid0.Coords) (c0_i32_4 : BitVec 32) (c0_i32_86 : BitVec 32) (c0_i32_87 : BitVec 32) (c0_i32_89 : BitVec 32) : Fin 5 → Nat :=
  let c0_693 : Index := 0#32
  let c3_694 : Index := 3#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v148 : BitVec 32 := Scalar.addi v24 c0_i32_86
  let c56_i32_11 : BitVec 32 := 56#32
  let c0_i32_10 : BitVec 32 := 0#32
  let c1_i32_8 : BitVec 32 := 1#32
  let v20 : BitVec 32 := Scalar.addi v15 c1_i32_8
  let c4_i32_9 : BitVec 32 := 4#32
  let v21 : BitVec 32 := Scalar.subi v20 c4_i32_9
  let v22 : BitVec 32 := Scalar.maxsi c0_i32_10 v21
  let v23 : BitVec 32 := Scalar.minsi c56_i32_11 v22
  let v149 : BitVec 1 := Scalar.cmpi .sge v148 v23
  let v150 : BitVec 32 := Scalar.addi v24 c0_i32_87
  let c8_i32_88 : BitVec 32 := 8#32
  let v151 : BitVec 32 := Scalar.addi v23 c8_i32_88
  let v152 : BitVec 1 := Scalar.cmpi .slt v150 v151
  let v153 : BitVec 1 := Scalar.andi v149 v152
  let v154 : BitVec 32 := Scalar.addi v24 c0_i32_89
  let c1_i32_90 : BitVec 32 := 1#32
  let v155 : BitVec 32 := Scalar.addi v15 c1_i32_90
  let v156 : BitVec 32 := Scalar.subi v154 v155
  let c8_i32_91 : BitVec 32 := 8#32
  let v157 : BitVec 32 := Scalar.addi v156 c8_i32_91
  let c1_i32_92 : BitVec 32 := 1#32
  let v158 : BitVec 32 := Scalar.subi v157 c1_i32_92
  let c15_i32_93 : BitVec 32 := 15#32
  let v159 : BitVec 32 := Scalar.select v153 v158 c15_i32_93
  let v887 : Index := Scalar.indexCast v159
  let c0_695 : Index := 0#32
  let c0_696 : Index := 0#32
  ![0, 3, v887.toNat, 0, 0]
def k0_off11_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off12 (i : grid0.Coords) (c0_i32_4 : BitVec 32) (c0_i32_13 : BitVec 32) (c0_i32_14 : BitVec 32) (c0_i32_15 : BitVec 32) : Fin 5 → Nat :=
  let c0_734 : Index := 0#32
  let c4 : Index := 4#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v28 : BitVec 32 := Scalar.addi v24 c0_i32_13
  let v29 : BitVec 1 := Scalar.cmpi .sge v28 v19
  let v30 : BitVec 32 := Scalar.addi v24 c0_i32_14
  let c8_i32 : BitVec 32 := 8#32
  let v31 : BitVec 32 := Scalar.addi v19 c8_i32
  let v32 : BitVec 1 := Scalar.cmpi .slt v30 v31
  let v33 : BitVec 1 := Scalar.andi v29 v32
  let v34 : BitVec 32 := Scalar.addi v24 c0_i32_15
  let c0_i32_16 : BitVec 32 := 0#32
  let v35 : BitVec 32 := Scalar.addi v15 c0_i32_16
  let v36 : BitVec 32 := Scalar.subi v34 v35
  let c8_i32_17 : BitVec 32 := 8#32
  let v37 : BitVec 32 := Scalar.addi v36 c8_i32_17
  let c1_i32_18 : BitVec 32 := 1#32
  let v38 : BitVec 32 := Scalar.subi v37 c1_i32_18
  let c15_i32 : BitVec 32 := 15#32
  let v39 : BitVec 32 := Scalar.select v33 v38 c15_i32
  let v926 : Index := Scalar.indexCast v39
  let c0_735 : Index := 0#32
  let c0_736 : Index := 0#32
  ![0, 4, v926.toNat, 0, 0]
def k0_off12_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off13 (i : grid0.Coords) (c0_i32_4 : BitVec 32) (c0_i32_86 : BitVec 32) (c0_i32_87 : BitVec 32) (c0_i32_89 : BitVec 32) : Fin 5 → Nat :=
  let c0_774 : Index := 0#32
  let c4_775 : Index := 4#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v148 : BitVec 32 := Scalar.addi v24 c0_i32_86
  let c56_i32_11 : BitVec 32 := 56#32
  let c0_i32_10 : BitVec 32 := 0#32
  let c1_i32_8 : BitVec 32 := 1#32
  let v20 : BitVec 32 := Scalar.addi v15 c1_i32_8
  let c4_i32_9 : BitVec 32 := 4#32
  let v21 : BitVec 32 := Scalar.subi v20 c4_i32_9
  let v22 : BitVec 32 := Scalar.maxsi c0_i32_10 v21
  let v23 : BitVec 32 := Scalar.minsi c56_i32_11 v22
  let v149 : BitVec 1 := Scalar.cmpi .sge v148 v23
  let v150 : BitVec 32 := Scalar.addi v24 c0_i32_87
  let c8_i32_88 : BitVec 32 := 8#32
  let v151 : BitVec 32 := Scalar.addi v23 c8_i32_88
  let v152 : BitVec 1 := Scalar.cmpi .slt v150 v151
  let v153 : BitVec 1 := Scalar.andi v149 v152
  let v154 : BitVec 32 := Scalar.addi v24 c0_i32_89
  let c1_i32_90 : BitVec 32 := 1#32
  let v155 : BitVec 32 := Scalar.addi v15 c1_i32_90
  let v156 : BitVec 32 := Scalar.subi v154 v155
  let c8_i32_91 : BitVec 32 := 8#32
  let v157 : BitVec 32 := Scalar.addi v156 c8_i32_91
  let c1_i32_92 : BitVec 32 := 1#32
  let v158 : BitVec 32 := Scalar.subi v157 c1_i32_92
  let c15_i32_93 : BitVec 32 := 15#32
  let v159 : BitVec 32 := Scalar.select v153 v158 c15_i32_93
  let v963 : Index := Scalar.indexCast v159
  let c0_776 : Index := 0#32
  let c0_777 : Index := 0#32
  ![0, 4, v963.toNat, 0, 0]
def k0_off13_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off14 (i : grid0.Coords) (c0_i32_4 : BitVec 32) (c0_i32_13 : BitVec 32) (c0_i32_14 : BitVec 32) (c0_i32_15 : BitVec 32) : Fin 5 → Nat :=
  let c0_815 : Index := 0#32
  let c5 : Index := 5#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v28 : BitVec 32 := Scalar.addi v24 c0_i32_13
  let v29 : BitVec 1 := Scalar.cmpi .sge v28 v19
  let v30 : BitVec 32 := Scalar.addi v24 c0_i32_14
  let c8_i32 : BitVec 32 := 8#32
  let v31 : BitVec 32 := Scalar.addi v19 c8_i32
  let v32 : BitVec 1 := Scalar.cmpi .slt v30 v31
  let v33 : BitVec 1 := Scalar.andi v29 v32
  let v34 : BitVec 32 := Scalar.addi v24 c0_i32_15
  let c0_i32_16 : BitVec 32 := 0#32
  let v35 : BitVec 32 := Scalar.addi v15 c0_i32_16
  let v36 : BitVec 32 := Scalar.subi v34 v35
  let c8_i32_17 : BitVec 32 := 8#32
  let v37 : BitVec 32 := Scalar.addi v36 c8_i32_17
  let c1_i32_18 : BitVec 32 := 1#32
  let v38 : BitVec 32 := Scalar.subi v37 c1_i32_18
  let c15_i32 : BitVec 32 := 15#32
  let v39 : BitVec 32 := Scalar.select v33 v38 c15_i32
  let v1000 : Index := Scalar.indexCast v39
  let c0_816 : Index := 0#32
  let c0_817 : Index := 0#32
  ![0, 5, v1000.toNat, 0, 0]
def k0_off14_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off15 (i : grid0.Coords) (c0_i32_4 : BitVec 32) (c0_i32_86 : BitVec 32) (c0_i32_87 : BitVec 32) (c0_i32_89 : BitVec 32) : Fin 5 → Nat :=
  let c0_855 : Index := 0#32
  let c5_856 : Index := 5#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let v148 : BitVec 32 := Scalar.addi v24 c0_i32_86
  let c56_i32_11 : BitVec 32 := 56#32
  let c0_i32_10 : BitVec 32 := 0#32
  let c1_i32_8 : BitVec 32 := 1#32
  let v20 : BitVec 32 := Scalar.addi v15 c1_i32_8
  let c4_i32_9 : BitVec 32 := 4#32
  let v21 : BitVec 32 := Scalar.subi v20 c4_i32_9
  let v22 : BitVec 32 := Scalar.maxsi c0_i32_10 v21
  let v23 : BitVec 32 := Scalar.minsi c56_i32_11 v22
  let v149 : BitVec 1 := Scalar.cmpi .sge v148 v23
  let v150 : BitVec 32 := Scalar.addi v24 c0_i32_87
  let c8_i32_88 : BitVec 32 := 8#32
  let v151 : BitVec 32 := Scalar.addi v23 c8_i32_88
  let v152 : BitVec 1 := Scalar.cmpi .slt v150 v151
  let v153 : BitVec 1 := Scalar.andi v149 v152
  let v154 : BitVec 32 := Scalar.addi v24 c0_i32_89
  let c1_i32_90 : BitVec 32 := 1#32
  let v155 : BitVec 32 := Scalar.addi v15 c1_i32_90
  let v156 : BitVec 32 := Scalar.subi v154 v155
  let c8_i32_91 : BitVec 32 := 8#32
  let v157 : BitVec 32 := Scalar.addi v156 c8_i32_91
  let c1_i32_92 : BitVec 32 := 1#32
  let v158 : BitVec 32 := Scalar.subi v157 c1_i32_92
  let c15_i32_93 : BitVec 32 := 15#32
  let v159 : BitVec 32 := Scalar.select v153 v158 c15_i32_93
  let v1037 : Index := Scalar.indexCast v159
  let c0_857 : Index := 0#32
  let c0_858 : Index := 0#32
  ![0, 5, v1037.toNat, 0, 0]
def k0_off15_at (r : Fin 20) : BitVec 32 × BitVec 32 × BitVec 32 × BitVec 32 :=
  if r.val < 10 then
    if r.val < 5 then
      if r.val < 2 then
        if r.val < 1 then
          (0#32, 0#32, 0#32, 0#32)
        else
          (0#32, 1#32, 1#32, 1#32)
      else
        if r.val < 3 then
          (0#32, 2#32, 2#32, 2#32)
        else
          if r.val < 4 then
            (0#32, 3#32, 3#32, 3#32)
          else
            (0#32, 4#32, 4#32, 4#32)
    else
      if r.val < 7 then
        if r.val < 6 then
          (0#32, 5#32, 5#32, 5#32)
        else
          (0#32, 6#32, 6#32, 6#32)
      else
        if r.val < 8 then
          (0#32, 7#32, 7#32, 7#32)
        else
          if r.val < 9 then
            (0#32, 8#32, 8#32, 8#32)
          else
            (0#32, 9#32, 9#32, 9#32)
  else
    if r.val < 15 then
      if r.val < 12 then
        if r.val < 11 then
          (1#32, 0#32, 0#32, 0#32)
        else
          (1#32, 1#32, 1#32, 1#32)
      else
        if r.val < 13 then
          (1#32, 2#32, 2#32, 2#32)
        else
          if r.val < 14 then
            (1#32, 3#32, 3#32, 3#32)
          else
            (1#32, 4#32, 4#32, 4#32)
    else
      if r.val < 17 then
        if r.val < 16 then
          (1#32, 5#32, 5#32, 5#32)
        else
          (1#32, 6#32, 6#32, 6#32)
      else
        if r.val < 18 then
          (1#32, 7#32, 7#32, 7#32)
        else
          if r.val < 19 then
            (1#32, 8#32, 8#32, 8#32)
          else
            (1#32, 9#32, 9#32, 9#32)
def k0_off16 (i : grid0.Coords) (c0_i32_4 : BitVec 32) : Fin 3 → Nat :=
  let c0_1388 : Index := 0#32
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  let v27 : BitVec 32 := v26
  let v1526 : Index := Scalar.indexCast v27
  let c384 : Index := 384#32
  ![0, v1526.toNat, 384]
def k0_off17 (i : grid0.Coords) (c0_i32_4 : BitVec 32) : Fin 3 → Nat :=
  let c0_1405 : Index := 0#32
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  let v27 : BitVec 32 := v26
  let v1562 : Index := Scalar.indexCast v27
  let c512 : Index := 512#32
  ![0, v1562.toNat, 512]
def k0_off18 (i : grid0.Coords) (c0_i32_4 : BitVec 32) : Fin 3 → Nat :=
  let c0_1422 : Index := 0#32
  let c256_i32 : BitVec 32 := 256#32
  let c56_i32 : BitVec 32 := 56#32
  let c0_i32_7 : BitVec 32 := 0#32
  let c2_i32_5 : BitVec 32 := 2#32
  let c2_i32 : BitVec 32 := 2#32
  let arg1 : BitVec 32 := BitVec.ofNat 32 (i 1).val
  let c1_i32_3 : BitVec 32 := 1#32
  let v12 : BitVec 32 := Scalar.subi arg1 c1_i32_3
  let v13 : BitVec 32 := Scalar.muli c2_i32 v12
  let v14 : BitVec 32 := Scalar.addi v13 c0_i32_4
  let v15 : BitVec 32 := Scalar.muli c2_i32_5 v14
  let c0_i32_6 : BitVec 32 := 0#32
  let v16 : BitVec 32 := Scalar.addi v15 c0_i32_6
  let c4_i32 : BitVec 32 := 4#32
  let v17 : BitVec 32 := Scalar.subi v16 c4_i32
  let v18 : BitVec 32 := Scalar.maxsi c0_i32_7 v17
  let v19 : BitVec 32 := Scalar.minsi c56_i32 v18
  let c54_i32 : BitVec 32 := 54#32
  let v24 : BitVec 32 := Scalar.minsi v19 c54_i32
  let c64_i32_12 : BitVec 32 := 64#32
  let v25 : BitVec 32 := Scalar.muli v24 c64_i32_12
  let v26 : BitVec 32 := Scalar.addi c256_i32 v25
  let v27 : BitVec 32 := v26
  let v1598 : Index := Scalar.indexCast v27
  let c640 : Index := 640#32
  ![0, v1598.toNat, 640]
def k0_cond2 (i : grid0.Coords) : BitVec 1 :=
  let arg1 : BitVec 32 := BitVec.ofNat 32 (i 1).val
  let c1_i32_1 : BitVec 32 := 1#32
  let v9 : BitVec 1 := Scalar.cmpi .slt arg1 c1_i32_1
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x6x16x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NattenRefIdeal.lean ====
abbrev S4x4352x2688 : Shape := ⟨3, ![4, 4352, 2688]⟩
abbrev S4x4352x768 : Shape := ⟨3, ![4, 4352, 768]⟩
abbrev S4x6x15x31 : Shape := ⟨4, ![4, 6, 15, 31]⟩
abbrev S4x4352x384 : Shape := ⟨3, ![4, 4352, 384]⟩
abbrev S4x4352x6x64 : Shape := ⟨4, ![4, 4352, 6, 64]⟩
abbrev S4x4096x6x64 : Shape := ⟨4, ![4, 4096, 6, 64]⟩
abbrev S4x256x6x64 : Shape := ⟨4, ![4, 256, 6, 64]⟩
abbrev S1x6x15x31 : Shape := ⟨4, ![1, 6, 15, 31]⟩
abbrev S6x15x31 : Shape := ⟨3, ![6, 15, 31]⟩
abbrev S_ : Shape := ⟨0, ![]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S4096x128 : Shape := ⟨2, ![4096, 128]⟩
abbrev S64x64x8x16x1 : Shape := ⟨5, ![64, 64, 8, 16, 1]⟩
abbrev S64x64x8x16x2 : Shape := ⟨5, ![64, 64, 8, 16, 2]⟩
abbrev S6x64x64x8x16 : Shape := ⟨5, ![6, 64, 64, 8, 16]⟩
abbrev S6x4096x128 : Shape := ⟨3, ![6, 4096, 128]⟩
abbrev S4096x128x1 : Shape := ⟨3, ![4096, 128, 1]⟩
abbrev S4x4096x128x6x64 : Shape := ⟨5, ![4, 4096, 128, 6, 64]⟩
abbrev S4x4096x6x128 : Shape := ⟨4, ![4, 4096, 6, 128]⟩
abbrev S4096x6x128 : Shape := ⟨3, ![4096, 6, 128]⟩
abbrev S1x4096x6x128 : Shape := ⟨4, ![1, 4096, 6, 128]⟩
abbrev S4x6x256x4096 : Shape := ⟨4, ![4, 6, 256, 4096]⟩
abbrev S4x4096x6x256 : Shape := ⟨4, ![4, 4096, 6, 256]⟩
abbrev S4x4096x6x384 : Shape := ⟨4, ![4, 4096, 6, 384]⟩
abbrev S4x4096x6 : Shape := ⟨3, ![4, 4096, 6]⟩
abbrev S4x4096x6x1 : Shape := ⟨4, ![4, 4096, 6, 1]⟩
abbrev S4x6x64x4096 : Shape := ⟨4, ![4, 6, 64, 4096]⟩
abbrev S4x6x256x256 : Shape := ⟨4, ![4, 6, 256, 256]⟩
abbrev S4x6x256 : Shape := ⟨3, ![4, 6, 256]⟩
abbrev S4x6x256x1 : Shape := ⟨4, ![4, 6, 256, 1]⟩
abbrev S4x6x64x256 : Shape := ⟨4, ![4, 6, 64, 256]⟩
abbrev S4x256x384 : Shape := ⟨3, ![4, 256, 384]⟩
abbrev S4x4096x384 : Shape := ⟨3, ![4, 4096, 384]⟩

abbrev nBuf : Space → Nat
  | .hbm => 197
  | .vmem => 0
  | .smem => 0
  | _ => 0

abbrev hbmTy0_0 (i : Nat) : BufTy := match i % 128 with
  | 0 => ⟨S4x4352x2688, .f32⟩
  | 1 => ⟨S4x4352x768, .bf16⟩
  | 2 => ⟨S4x6x15x31, .f32⟩
  | 3 => ⟨S4x4352x384, .f32⟩
  | 4 => ⟨S4x4352x6x64, .f32⟩
  | 5 => ⟨S4x4352x384, .f32⟩
  | 6 => ⟨S4x4352x768, .f32⟩
  | 7 => ⟨S4x4352x384, .f32⟩
  | 8 => ⟨S4x4352x6x64, .f32⟩
  | 9 => ⟨S4x4352x384, .f32⟩
  | 10 => ⟨S4x4352x6x64, .f32⟩
  | 11 => ⟨S4x4096x6x64, .f32⟩
  | 12 => ⟨S4x4096x6x64, .f32⟩
  | 13 => ⟨S4x4096x6x64, .f32⟩
  | 14 => ⟨S4x256x6x64, .f32⟩
  | 15 => ⟨S4x256x6x64, .f32⟩
  | 16 => ⟨S1x6x15x31, .f32⟩
  | 17 => ⟨S6x15x31, .f32⟩
  | 18 => ⟨S_, .f32⟩
  | 19 => ⟨S4x4096x6x64, .f32⟩
  | 20 => ⟨S4x4096x6x64, .f32⟩
  | 21 => ⟨S64, .i32⟩
  | 22 => ⟨S_, .i32⟩
  | 23 => ⟨S64, .i32⟩
  | 24 => ⟨S64, .i32⟩
  | 25 => ⟨S_, .i32⟩
  | 26 => ⟨S_, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64x1, .i32⟩
  | 46 => ⟨S8, .i32⟩
  | 47 => ⟨S1x8, .i32⟩
  | 48 => ⟨S64x8, .i32⟩
  | 49 => ⟨S64x8, .i32⟩
  | 50 => ⟨S64x8, .i32⟩
  | 51 => ⟨S64x1, .i32⟩
  | 52 => ⟨S16, .i32⟩
  | 53 => ⟨S1x16, .i32⟩
  | 54 => ⟨S64x16, .i32⟩
  | 55 => ⟨S64x16, .i32⟩
  | 56 => ⟨S64x16, .i32⟩
  | 57 => ⟨S64, .i32⟩
  | 58 => ⟨S64x1, .i32⟩
  | 59 => ⟨S64x8, .i32⟩
  | 60 => ⟨S64x8, .i32⟩
  | 61 => ⟨S_, .i32⟩
  | 62 => ⟨S64x8, .i32⟩
  | 63 => ⟨S64x8, .i32⟩
  | 64 => ⟨S64, .i32⟩
  | 65 => ⟨S64x1, .i32⟩
  | 66 => ⟨S64x16, .i32⟩
  | 67 => ⟨S64x16, .i32⟩
  | 68 => ⟨S_, .i32⟩
  | 69 => ⟨S64x16, .i32⟩
  | 70 => ⟨S64x16, .i32⟩
  | 71 => ⟨S64x1x8x1, .i32⟩
  | 72 => ⟨S_, .i32⟩
  | 73 => ⟨S64x1x8x1, .i32⟩
  | 74 => ⟨S64x1x8x1, .i32⟩
  | 75 => ⟨S1x64x1x16, .i32⟩
  | 76 => ⟨S64x64x8x16, .i32⟩
  | 77 => ⟨S64x64x8x16, .i32⟩
  | 78 => ⟨S64x64x8x16, .i32⟩
  | 79 => ⟨S4096x128, .i32⟩
  | 80 => ⟨S64x1x8x1, .i32⟩
  | 81 => ⟨S1x64x1x16, .i32⟩
  | 82 => ⟨S_, .i32⟩
  | 83 => ⟨S64x1x8x1, .i32⟩
  | 84 => ⟨S64x1x8x1, .i1⟩
  | 85 => ⟨S_, .i32⟩
  | 86 => ⟨S64x1x8x1, .i32⟩
  | 87 => ⟨S64x1x8x1, .i32⟩
  | 88 => ⟨S64x1x8x1, .i32⟩
  | 89 => ⟨S_, .i32⟩
  | 90 => ⟨S1x64x1x16, .i32⟩
  | 91 => ⟨S1x64x1x16, .i1⟩
  | 92 => ⟨S_, .i32⟩
  | 93 => ⟨S1x64x1x16, .i32⟩
  | 94 => ⟨S1x64x1x16, .i32⟩
  | 95 => ⟨S1x64x1x16, .i32⟩
  | 96 => ⟨S64x64x8x16, .i32⟩
  | 97 => ⟨S64x64x8x16, .i32⟩
  | 98 => ⟨S64x64x8x16x1, .i32⟩
  | 99 => ⟨S64x64x8x16x1, .i32⟩
  | 100 => ⟨S64x64x8x16x2, .i32⟩
  | 101 => ⟨S6x64x64x8x16, .f32⟩
  | 102 => ⟨S6x4096x128, .f32⟩
  | 103 => ⟨S_, .i32⟩
  | 104 => ⟨S4096x128, .i32⟩
  | 105 => ⟨S4096x128, .i1⟩
  | 106 => ⟨S_, .i32⟩
  | 107 => ⟨S4096x128, .i32⟩
  | 108 => ⟨S4096x128, .i32⟩
  | 109 => ⟨S4096x128, .i32⟩
  | 110 => ⟨S4096x128x1, .i32⟩
  | 111 => ⟨S4x4096x128x6x64, .f32⟩
  | 112 => ⟨S_, .i32⟩
  | 113 => ⟨S4096x128, .i32⟩
  | 114 => ⟨S4096x128, .i1⟩
  | 115 => ⟨S_, .i32⟩
  | 116 => ⟨S4096x128, .i32⟩
  | 117 => ⟨S4096x128, .i32⟩
  | 118 => ⟨S4096x128, .i32⟩
  | 119 => ⟨S4096x128x1, .i32⟩
  | 120 => ⟨S4x4096x128x6x64, .f32⟩
  | 121 => ⟨S4x4096x6x128, .f32⟩
  | 122 => ⟨S4096x6x128, .f32⟩
  | 123 => ⟨S1x4096x6x128, .f32⟩
  | 124 => ⟨S4x4096x6x128, .f32⟩
  | 125 => ⟨S4x4096x6x128, .f32⟩
  | 126 => ⟨S4x6x256x4096, .f32⟩
  | 127 => ⟨S4x4096x6x256, .f32⟩
  | _ => ⟨S4x4352x2688, .f32⟩

abbrev hbmTy0_1 (i : Nat) : BufTy := match i % 128 with
  | 0 => ⟨S4x4096x6x384, .f32⟩
  | 1 => ⟨S_, .f32⟩
  | 2 => ⟨S4x4096x6, .f32⟩
  | 3 => ⟨S_, .f32⟩
  | 4 => ⟨S4x4096x6, .f32⟩
  | 5 => ⟨S4x4096x6, .f32⟩
  | 6 => ⟨S4x4096x6x1, .f32⟩
  | 7 => ⟨S4x4096x6x384, .f32⟩
  | 8 => ⟨S4x4096x6x384, .f32⟩
  | 9 => ⟨S4x4096x6x384, .f32⟩
  | 10 => ⟨S_, .f32⟩
  | 11 => ⟨S4x4096x6, .f32⟩
  | 12 => ⟨S4x4096x6x1, .f32⟩
  | 13 => ⟨S4x4096x6x384, .f32⟩
  | 14 => ⟨S4x4096x6x384, .f32⟩
  | 15 => ⟨S4x4096x6x128, .f32⟩
  | 16 => ⟨S4x4096x6x64, .f32⟩
  | 17 => ⟨S4x4096x6x256, .f32⟩
  | 18 => ⟨S4x6x64x4096, .f32⟩
  | 19 => ⟨S4x4096x6x64, .f32⟩
  | 20 => ⟨S4x4096x6x64, .f32⟩
  | 21 => ⟨S4x256x6x64, .f32⟩
  | 22 => ⟨S4x256x6x64, .f32⟩
  | 23 => ⟨S4x256x6x64, .f32⟩
  | 24 => ⟨S_, .f32⟩
  | 25 => ⟨S4x256x6x64, .f32⟩
  | 26 => ⟨S4x256x6x64, .f32⟩
  | 27 => ⟨S4x6x256x256, .f32⟩
  | 28 => ⟨S_, .f32⟩
  | 29 => ⟨S4x6x256, .f32⟩
  | 30 => ⟨S_, .f32⟩
  | 31 => ⟨S4x6x256, .f32⟩
  | 32 => ⟨S4x6x256, .f32⟩
  | 33 => ⟨S4x6x256x1, .f32⟩
  | 34 => ⟨S4x6x256x256, .f32⟩
  | 35 => ⟨S4x6x256x256, .f32⟩
  | 36 => ⟨S4x6x256x256, .f32⟩
  | 37 => ⟨S_, .f32⟩
  | 38 => ⟨S4x6x256, .f32⟩
  | 39 => ⟨S4x6x256x1, .f32⟩
  | 40 => ⟨S4x6x256x256, .f32⟩
  | 41 => ⟨S4x6x256x256, .f32⟩
  | 42 => ⟨S4x6x64x256, .f32⟩
  | 43 => ⟨S4x256x6x64, .f32⟩
  | 44 => ⟨S4x256x384, .f32⟩
  | 45 => ⟨S4x256x384, .f32⟩
  | 46 => ⟨S4x256x384, .f32⟩
  | 47 => ⟨S4x256x384, .f32⟩
  | 48 => ⟨S_, .f32⟩
  | 49 => ⟨S4x256x384, .f32⟩
  | 50 => ⟨S4x256x384, .f32⟩
  | 51 => ⟨S_, .f32⟩
  | 52 => ⟨S4x256x384, .f32⟩
  | 53 => ⟨S4x256x384, .f32⟩
  | 54 => ⟨S4x256x384, .f32⟩
  | 55 => ⟨S4x256x384, .f32⟩
  | 56 => ⟨S4x4096x384, .f32⟩
  | 57 => ⟨S4x4096x384, .f32⟩
  | 58 => ⟨S4x4096x384, .f32⟩
  | 59 => ⟨S4x4096x384, .f32⟩
  | 60 => ⟨S_, .f32⟩
  | 61 => ⟨S4x4096x384, .f32⟩
  | 62 => ⟨S4x4096x384, .f32⟩
  | 63 => ⟨S_, .f32⟩
  | 64 => ⟨S4x4096x384, .f32⟩
  | 65 => ⟨S4x4096x384, .f32⟩
  | 66 => ⟨S4x4096x384, .f32⟩
  | 67 => ⟨S4x4096x384, .f32⟩
  | 68 => ⟨S4x4352x384, .f32⟩
  | _ => ⟨S4x4352x2688, .f32⟩

abbrev hbmTy (i : Nat) : BufTy := match i / 128 with
  | 0 => hbmTy0_0 i
  | 1 => hbmTy0_1 i
  | _ => ⟨S4x4352x2688, .f32⟩

abbrev bufTy : (tb : Table) → Fin (tcTables nBuf tb) → BufTy
  | .hbm, ⟨i, _⟩ => hbmTy i
  | _, _ => ⟨S4x4352x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_12 : Ref sig .tc := ⟨.hbm, 103, rfl⟩
abbrev main_v76 : Ref sig .tc := ⟨.hbm, 104, rfl⟩
abbrev main_v77 : Ref sig .tc := ⟨.hbm, 105, rfl⟩
abbrev main_c_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_14 : Ref sig .tc := ⟨.hbm, 112, rfl⟩
abbrev main_v83 : Ref sig .tc := ⟨.hbm, 113, rfl⟩
abbrev main_v84 : Ref sig .tc := ⟨.hbm, 114, rfl⟩
abbrev main_c_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_16 : Ref sig .tc := ⟨.hbm, 129, rfl⟩
abbrev main_v98 : Ref sig .tc := ⟨.hbm, 130, rfl⟩
abbrev main_cst_17 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_18 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_19 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_20 : Ref sig .tc := ⟨.hbm, 156, rfl⟩
abbrev main_v121 : Ref sig .tc := ⟨.hbm, 157, rfl⟩
abbrev main_cst_21 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_22 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_call2_v0 : Ref sig .tc := ⟨.hbm, 174, rfl⟩
abbrev main_call2_v1 : Ref sig .tc := ⟨.hbm, 175, rfl⟩
abbrev main_call2_cst : Ref sig .tc := ⟨.hbm, 176, rfl⟩
abbrev main_call2_v2 : Ref sig .tc := ⟨.hbm, 177, rfl⟩
abbrev main_call2_v3 : Ref sig .tc := ⟨.hbm, 178, rfl⟩
abbrev main_call2_cst_0 : Ref sig .tc := ⟨.hbm, 179, rfl⟩
abbrev main_call2_v4 : Ref sig .tc := ⟨.hbm, 180, rfl⟩
abbrev main_call2_v5 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_call3_v0 : Ref sig .tc := ⟨.hbm, 186, rfl⟩
abbrev main_call3_v1 : Ref sig .tc := ⟨.hbm, 187, rfl⟩
abbrev main_call3_cst : Ref sig .tc := ⟨.hbm, 188, rfl⟩
abbrev main_call3_v2 : Ref sig .tc := ⟨.hbm, 189, rfl⟩
abbrev main_call3_v3 : Ref sig .tc := ⟨.hbm, 190, rfl⟩
abbrev main_call3_cst_0 : Ref sig .tc := ⟨.hbm, 191, rfl⟩
abbrev main_call3_v4 : Ref sig .tc := ⟨.hbm, 192, rfl⟩
abbrev main_call3_v5 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩

abbrev nD : Nat := 1
abbrev τ : Topo := Topo.v7x

variable {F : FTy → Type} [FloatOps F]
-- ==== Proof.InRefTerm.lean ====
/- The reference's projections as one term of its four arguments, and the two results cut out of it. -/
module

public import proofs.«01_k».proof.Proof.Gen.InRefIdeal
public import Idealize.ShloMosaic.Lib.StableHlo.Run
public import Idealize.ShloMosaic.Lib.Pointwise

@[expose] public section

set_option maxRecDepth 16384

noncomputable section

namespace Cert.InRefIdeal.Value

open Cert.InRefIdeal Cert.InRefIdeal.Gen Idealize.ShloMosaic Idealize.ShloMosaic.TcCoe Idealize.SL.Sem Idealize.ShloMosaic.StableHlo

/-- All 3344 projections of every token, context first: modulated tokens times the first layer's weights. -/
def REFP (a0 : FVec Ideal S4x4096x1024 .f32) (a1 : FVec Ideal S4x256x1024 .f32) (a2 : FVec Ideal S4x8x3072 .f32)
    (a3 : FVec Ideal S4x1024x3344 .f32) : FVec Ideal S4x4352x3344 .f32 :=
  concatenate S4x4352x3344 1
    [⟨S4x256x3344, (Host.dotGeneral dot_S4x256x1024_S1024x3344_S4x256x3344_2_0_01_1_n_n none (addf (mulf a1 (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (extractStridedSlice S1024 ![1024] (shapeCast _ (extractStridedSlice S1x1x3072 ![0, 4, 0] a2 slices_S4x8x3072_S1x1x3072_0_4_0) shapeCasts_S1x1x3072_S3072) slices_S3072_S1024_1024))))) (broadcastInDim S4x256x1024 ![0, 1, 2] bcast_S1x1x1024_S4x256x1024_0_1_2 (broadcastInDim S1x1x1024 ![2] bcast_S1024_S1x1x1024_2 (extractStridedSlice S1024 ![0] (shapeCast _ (extractStridedSlice S1x1x3072 ![0, 4, 0] a2 slices_S4x8x3072_S1x1x3072_0_4_0) shapeCasts_S1x1x3072_S3072) slices_S3072_S1024_0)))) (shapeCast _ (extractStridedSlice S1x1024x3344 ![0, 0, 0] a3 slices_S4x1024x3344_S1x1024x3344_0_0_0) shapeCasts_S1x1024x3344_S1024x3344))⟩,
     ⟨S4x4096x3344, (Host.dotGeneral dot_S4x4096x1024_S1024x3344_S4x4096x3344_2_0_01_1_n_n none (addf (mulf a0 (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (shapeCast _ (extractStridedSlice S1x4x3072 ![0, 0, 0] a2 slices_S4x8x3072_S1x4x3072_0_0_0) shapeCasts_S1x4x3072_S4x3072) slices_S4x3072_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] (shapeCast _ (extractStridedSlice S1x4x3072 ![0, 0, 0] a2 slices_S4x8x3072_S1x4x3072_0_0_0) shapeCasts_S1x4x3072_S4x3072) slices_S4x3072_S4x1024_0_0)))) (shapeCast _ (extractStridedSlice S1x1024x3344 ![0, 0, 0] a3 slices_S4x1024x3344_S1x1024x3344_0_0_0) shapeCasts_S1x1024x3344_S1024x3344))⟩] concatenates_S4x256x3344_S4x4096x3344_S4x4352x3344_d1

/-- The reference's first result: the projections without keys and values, 112 zero columns appended. -/
def REFA (a0 : FVec Ideal S4x4096x1024 .f32) (a1 : FVec Ideal S4x256x1024 .f32) (a2 : FVec Ideal S4x8x3072 .f32)
    (a3 : FVec Ideal S4x1024x3344 .f32) : FVec Ideal S4x4352x2688 .f32 :=
  concatenate S4x4352x2688 2
    [⟨S4x4352x1920, extractStridedSlice S4x4352x1920 ![0, 0, 0] (REFP a0 a1 a2 a3) slices_S4x4352x3344_S4x4352x1920_0_0_0⟩,
     ⟨S4x4352x656, extractStridedSlice S4x4352x656 ![0, 0, 2688] (REFP a0 a1 a2 a3) slices_S4x4352x3344_S4x4352x656_0_0_2688⟩,
     ⟨S4x4352x112, broadcastInDim S4x4352x112 ![] bcast_S_S4x4352x112 (constant S_ .f32 0x00000000#32)⟩]
    concatenates_S4x4352x1920_S4x4352x656_S4x4352x112_S4x4352x2688_d2

/-- The reference's second result: the keys and values. -/
def REFB (a0 : FVec Ideal S4x4096x1024 .f32) (a1 : FVec Ideal S4x256x1024 .f32) (a2 : FVec Ideal S4x8x3072 .f32)
    (a3 : FVec Ideal S4x1024x3344 .f32) : FVec Ideal S4x4352x768 .bf16 :=
  truncf .bf16 (extractStridedSlice S4x4352x768 ![0, 0, 1920] (REFP a0 a1 a2 a3) slices_S4x4352x3344_S4x4352x768_0_0_1920) bitsLt_bf16_f32

end Cert.InRefIdeal.Value

end

end
-- ==== Proof.InHost.lean ====
/- What the host operations before the input projection leave in its operands. -/
module

public import proofs.«01_k».proof.Proof.Gen.InProjIdeal.Frame
public import proofs.«01_k».proof.Proof.InRefTerm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

variable (m : (ℓ : Loc nD τ sig) → Buf (Elt Ideal) ℓ)

/-- The integer zero is the real zero. -/
theorem zero_fill : FloatOps.sitofp (F := Ideal) FTy.bf16 (0#32) = (0 : EReal) := by
  show (((0#32 : BitVec 32).toInt : ℝ) : EReal) = 0
  simp

/-- Padding 112 zero columns, at an index. -/
theorem padded (X : FVec Ideal S4x1024x3344 .bf16) (k : Fin 1024) (q : Fin 3456) :
    pad S4x1024x3456 ![0, 0, 0] ![0, 0, 112] ![0, 0, 0] X (sitofp (F := Ideal) FTy.bf16 (constantI S_ 32 0#32))
      pads_S4x1024x3344_S4x1024x3456_000_000_01120 h_S_ (ix3 0 k q)
    = if h : (q : ℕ) < 3344 then X (ix3 0 k ⟨q, h⟩) else (0 : EReal) := by
  pointwise
  rw [zero_fill]

/-- The padded weights of the first layer: the argument's, then zero columns. -/
theorem weights (c : Dev nD) (k : Fin 1024) (q : Fin 3456) : V m c main_v1 (ix3 0 k q)
    = if h : (q : ℕ) < 3344 then m ((c : Thread nD τ).loc main_arg3) (ix3 0 k ⟨q, h⟩) else (0 : EReal) := by
  unfold V
  simp only [hostOps0, hostOps0_1, hostOps0_2, List.flatten_cons, List.flatten_nil, List.append_nil, List.cons_append, List.nil_append]
  after_results_simp
  exact padded (m ((c : Thread nD τ).loc main_arg3)) k q

/-- The selected modulations of the first layer: row `2 b` the context's, row `2 b + 1` batch `b`'s. -/
theorem modrow (c : Dev nD) (g r : Fin 8) (q : Fin 3072) (hr : (r : ℕ) = if (g : ℕ) % 2 = 0 then 4 else (g : ℕ) / 2) :
    V m c main_v8 (ix4 0 g 0 q) = m ((c : Thread nD τ).loc main_arg2) (ix3 0 r q) := by
  unfold V
  simp only [hostOps0, hostOps0_1, hostOps0_2, List.flatten_cons, List.flatten_nil, List.append_nil, List.cons_append, List.nil_append]
  after_results_simp
  pointwise
  after_results_simp
  pointwise
  by_cases h : (g : ℕ) % 2 = 0
  · rw [dif_pos (by omega)]
    rw [if_pos h] at hr
    obtain rfl : r = 4 := Fin.ext hr
    rfl
  · rw [dif_neg (by omega)]
    rw [if_neg h] at hr
    exact congrArg (fun a => m ((c : Thread nD τ).loc main_arg2) (ix3 0 a q)) (Fin.ext hr.symm)

end Cert.InProjIdeal.Value

end

end
-- ==== Proof.InValue.lean ====
/- The input projection's two result arrays are the reference's terms. -/
module

public import proofs.«01_k».proof.Proof.Gen.InProjIdeal.Frame
public import proofs.«01_k».proof.Proof.InRefTerm
public import proofs.«01_k».proof.Proof.InHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen
open Cert.InRefIdeal.Value (REFP REFA REFB)

variable (m : (ℓ : Loc nD τ sig) → Buf (Elt Ideal) ℓ)

/-- Every window's block index at every grid point. -/
theorem idx : ∀ t : Fin cfg0.N, win0_0.index t = ![t.val / 17, 0, 0]
    ∧ win0_1.index t = ![t.val / 17, t.val % 17 - 1, 0]
    ∧ win0_2.index t = ![0, t.val / 17 * 2 + min (t.val % 17) 1, 0, 0]
    ∧ win0_3.index t = ![0, 0, 0]
    ∧ win0_4.index t = ![t.val / 17, t.val % 17, 0]
    ∧ win0_5.index t = ![t.val / 17, t.val % 17, 0] :=
  (by decide +kernel : ∀ t : Fin grid0.N, _)

/-- The second grid coordinate of a point. -/
theorem coord1 : ∀ t : Fin cfg0.N, (grid0.coords t 1).val = t.val % 17 :=
  (by decide +kernel : ∀ t : Fin grid0.N, _)

/-- One row of the contraction's weights: the reference's inside its 3344 columns, zero beyond. -/
theorem wread (c : Dev nD) (t : Fin cfg0.N) (k : Fin 1024) (q : Fin 3456) : (iblk m c 3 t (ix3 0 k q) : EReal)
    = if h : (q : ℕ) < 3344 then m ((c : Thread nD τ).loc main_arg3) (ix3 0 k ⟨q, h⟩) else (0 : EReal) := by
  refine Eq.trans ?_ (weights m c k q)
  blk_ext [iblk, idx t]

/-- One entry of the point's modulation row: the context's at a row's first point, else the batch's. -/
theorem mread (c : Dev nD) (t : Fin cfg0.N) (q : Fin 3072) (r : Fin 8)
    (hr : (r : ℕ) = if t.val % 17 = 0 then 4 else t.val / 17) :
    iblk m c 2 t (ix4 0 0 0 q) = m ((c : Thread nD τ).loc main_arg2) (ix3 0 r q) := by
  have ht : t.val < 68 := lt_of_lt_of_eq t.isLt N_0
  refine Eq.trans ?_ (modrow m c ⟨t.val / 17 * 2 + min (t.val % 17) 1, by omega⟩ r q (by dsimp only; split at hr <;> split <;> omega))
  blk_ext [iblk, idx t]

/-- The contraction at one token and column: the reference's projection inside its 3344 columns. -/
theorem core (c : Dev nD) (t : Fin cfg0.N) (r : Fin 256) (q : Fin 3456) (j : Cert.InRefIdeal.S4x4352x3344.Idx)
    (hj0 : (j 0 : ℕ) = t.val / 17) (hj1 : (j 1 : ℕ) = t.val % 17 * 256 + r) (hj2 : (j 2 : ℕ) = q) :
    k0_pay2 (F := Ideal) (grid0.coords t) (iblk m c 2 t) (iblk m c 0 t) (iblk m c 1 t) (iblk m c 3 t) (ix2 r q)
      = REFP (m ((c : Thread nD τ).loc main_arg0)) (m ((c : Thread nD τ).loc main_arg1))
          (m ((c : Thread nD τ).loc main_arg2)) (m ((c : Thread nD τ).loc main_arg3)) j := by
  have ht : t.val < 68 := lt_of_lt_of_eq t.isLt N_0
  idx_vars j
  pointwise [k0_pay2, REFP] at hj0 hj1 hj2 ⊢
  rw [coord1 t]
  have hw : ∀ x : Fin 1024, (iblk m c 3 t (ix3 0 x q) : EReal) = m ((c : Thread nD τ).loc main_arg3) (ix3 0 x j2) := fun x => by
    rw [wread m c t x q, dif_pos (by omega)]
    exact congrArg (fun a => m ((c : Thread nD τ).loc main_arg3) (ix3 0 x a)) (Fin.ext hj2.symm)
  by_cases h0 : t.val % 17 = 0
  · have hs : Scalar.cmpi .eq (BitVec.ofNat 32 (t.val % 17)) 0#32 = 1#1 := by rw [h0]; rfl
    rw [dif_pos (by omega)]
    refine Finset.sum_congr rfl fun x _ => Ideal.mul_congr (Ideal.add_congr (Ideal.mul_congr ?_ (Ideal.add_congr rfl ?_)) ?_) (hw x)
    · simp only [hs, Scalar.select, show ((1#1 : BitVec 1) = 1) from rfl, if_true]
      blk_ext [iblk, V, idx t]
    · exact mread m c t _ _ (by rw [if_pos h0]; rfl)
    · exact mread m c t _ _ (by rw [if_pos h0]; rfl)
  · have hs : Scalar.cmpi .eq (BitVec.ofNat 32 (t.val % 17)) 0#32 = 0#1 := by
      have := Nat.mod_lt t.val (show 0 < 17 by decide)
      generalize t.val % 17 = n at *
      interval_cases n <;> first | rfl | exact absurd rfl h0
    rw [dif_neg (by omega)]
    refine Finset.sum_congr rfl fun x _ => Ideal.mul_congr (Ideal.add_congr (Ideal.mul_congr ?_ (Ideal.add_congr rfl ?_)) ?_) (hw x)
    · simp only [hs, Scalar.select, show ¬ ((0#1 : BitVec 1) = 1) by decide, if_false]
      blk_ext [iblk, V, idx t]
    · exact mread m c t _ _ (by rw [if_neg h0]; exact hj0)
    · exact mread m c t _ _ (by rw [if_neg h0]; exact hj0)

/-- The contraction at one token and a padded column is zero. -/
theorem core_pad (c : Dev nD) (t : Fin cfg0.N) (r : Fin 256) (q : Fin 3456) (hq : 3344 ≤ (q : ℕ)) :
    k0_pay2 (F := Ideal) (grid0.coords t) (iblk m c 2 t) (iblk m c 0 t) (iblk m c 1 t) (iblk m c 3 t) (ix2 r q) = (0 : EReal) := by
  pointwise [k0_pay2]
  refine Finset.sum_eq_zero fun x _ => ?_
  rw [wread m c t x q, dif_neg (by omega)]
  exact mul_zero _

/-- What a point leaves in the second output's block: the keys and values of its tokens. -/
theorem final5 (c : Dev nD) : (dats m 0 c).arrAt 5 (cfgs 0).N
    = REFB (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  idx_vars y
  pointwise [k0_pay1, k0_pay5, REFB]
  have h0 := y0.isLt
  refine core m c t y1 _ _ ?_ ?_ ?_
  all_goals (blk_simp [idx t] <;> try omega)

/-- The reference's first result at an index left of the keys and values. -/
theorem refa_left (a0 : FVec Ideal Cert.InRefIdeal.S4x4096x1024 .f32) (a1 : FVec Ideal Cert.InRefIdeal.S4x256x1024 .f32)
    (a2 : FVec Ideal Cert.InRefIdeal.S4x8x3072 .f32) (a3 : FVec Ideal Cert.InRefIdeal.S4x1024x3344 .f32)
    (b : Fin 4) (i : Fin 4352) (q : Fin 2688) (hq : (q : ℕ) < 1920) :
    REFA a0 a1 a2 a3 (ix3 b i q) = REFP a0 a1 a2 a3 (ix3 b i ⟨q, by omega⟩) := by
  pointwise [REFA]
  rw [dif_pos hq]

/-- The reference's first result at an index right of the keys and values, before the padding. -/
theorem refa_right (a0 : FVec Ideal Cert.InRefIdeal.S4x4096x1024 .f32) (a1 : FVec Ideal Cert.InRefIdeal.S4x256x1024 .f32)
    (a2 : FVec Ideal Cert.InRefIdeal.S4x8x3072 .f32) (a3 : FVec Ideal Cert.InRefIdeal.S4x1024x3344 .f32)
    (b : Fin 4) (i : Fin 4352) (q : Fin 2688) (hq : 1920 ≤ (q : ℕ)) (hr : (q : ℕ) < 2576) :
    REFA a0 a1 a2 a3 (ix3 b i q) = REFP a0 a1 a2 a3 (ix3 b i ⟨q + 768, by omega⟩) := by
  pointwise [REFA]
  rw [dif_neg (by omega), dif_pos (by omega)]
  exact congrArg (fun x => REFP a0 a1 a2 a3 (ix3 b i x)) (Fin.ext (by dsimp only; omega))

/-- The reference's first result in the padding. -/
theorem refa_pad (a0 : FVec Ideal Cert.InRefIdeal.S4x4096x1024 .f32) (a1 : FVec Ideal Cert.InRefIdeal.S4x256x1024 .f32)
    (a2 : FVec Ideal Cert.InRefIdeal.S4x8x3072 .f32) (a3 : FVec Ideal Cert.InRefIdeal.S4x1024x3344 .f32)
    (b : Fin 4) (i : Fin 4352) (q : Fin 2688) (hr : 2576 ≤ (q : ℕ)) :
    REFA a0 a1 a2 a3 (ix3 b i q) = (0 : EReal) := by
  pointwise [REFA]
  rw [dif_neg (by omega), dif_neg (by omega)]

/-- The first store of a point: the columns left of the keys and values. -/
theorem store_left (c : Dev nD) (t : Fin cfg0.N) (x : S1x256x1920.Idx) (j : Cert.InRefIdeal.S4x4352x2688.Idx)
    (hj0 : (j 0 : ℕ) = t.val / 17) (hj1 : (j 1 : ℕ) = t.val % 17 * 256 + x 1) (hj2 : (j 2 : ℕ) = x 2) :
    k0_pay3 (F := Ideal) (grid0.coords t) (iblk m c 2 t) (iblk m c 0 t) (iblk m c 1 t) (iblk m c 3 t) x
      = REFA (m ((c : Thread nD τ).loc main_arg0)) (m ((c : Thread nD τ).loc main_arg1))
          (m ((c : Thread nD τ).loc main_arg2)) (m ((c : Thread nD τ).loc main_arg3)) j := by
  idx_vars x
  idx_vars j
  have hx := x2.isLt
  pointwise [k0_pay3] at hj0 hj1 hj2 ⊢
  refine Eq.trans ?_ (refa_left _ _ _ _ j0 j1 j2 (by omega)).symm
  exact core m c t x1 _ _ hj0 hj1 (by pointwise; omega)

/-- The second store of a point: the columns right of the keys and values, and the padding. -/
theorem store_right (c : Dev nD) (t : Fin cfg0.N) (x : S1x256x768.Idx) (j : Cert.InRefIdeal.S4x4352x2688.Idx)
    (hj0 : (j 0 : ℕ) = t.val / 17) (hj1 : (j 1 : ℕ) = t.val % 17 * 256 + x 1) (hj2 : (j 2 : ℕ) = 1920 + x 2) :
    k0_pay4 (F := Ideal) (grid0.coords t) (iblk m c 2 t) (iblk m c 0 t) (iblk m c 1 t) (iblk m c 3 t) x
      = REFA (m ((c : Thread nD τ).loc main_arg0)) (m ((c : Thread nD τ).loc main_arg1))
          (m ((c : Thread nD τ).loc main_arg2)) (m ((c : Thread nD τ).loc main_arg3)) j := by
  idx_vars x
  idx_vars j
  have hx := x2.isLt
  pointwise [k0_pay4] at hj0 hj1 hj2 ⊢
  by_cases h : (j2 : ℕ) < 2576
  · refine Eq.trans ?_ (refa_right _ _ _ _ j0 j1 j2 (by omega) h).symm
    exact core m c t x1 _ _ hj0 hj1 (by pointwise; omega)
  · refine Eq.trans ?_ (refa_pad _ _ _ _ j0 j1 j2 (by omega)).symm
    exact core_pad m c t x1 _ (by dsimp only; omega)

/-- What the run leaves in the first output. -/
theorem final4 (c : Dev nD) : (dats m 0 c).arrAt 4 (cfgs 0).N
    = REFA (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  canon_tiles x h using View.cover_of_tiledBy _ ![1, 256, 384] (by sl_kernel_rfl) y
  · refine store_right m c t x _ ?_ ?_ ?_
    all_goals (blk_simp [idx t] <;> try omega)
  · refine store_left m c t x _ ?_ ?_ ?_
    all_goals (blk_simp [idx t] <;> try omega)

end Cert.InProjIdeal.Value

end

end
-- ==== Proof.InClaim.lean ====
/- The input projection's value claim, and its reference's frame. -/
module

public import proofs.«01_k».proof.Defs
public import proofs.«01_k».proof.Proof.InValue
public import proofs.«01_k».proof.Proof.Gen.InProjIdeal.Value
public import proofs.«01_k».proof.Proof.Gen.InRefIdeal.Run
public import Idealize.ShloMosaic.Lib.Claim

@[expose] public section

set_option maxRecDepth 16384

noncomputable section

namespace Cert.Proof

open Idealize.ShloMosaic Idealize.ShloMosaic.TcCoe Idealize.SL.Sem

attribute [local instance] Cert.InProjIdeal.Gen.facts Cert.InRefIdeal.Gen.facts

/-- The input projection's reference returns, its arguments unchanged. -/
theorem in_ref_quiescent : Cert.quiescent_InRefIdeal (hInRefIdeal := Cert.InRefIdeal.Gen.facts) := fun m g _ =>
  (θ_run Cert.InRefIdeal.defs _ _).mono (fun r h => ⟨fun c => (h c).2.2, sem_eq_zero_of_no_sems (by decide) r.2⟩)
    (Cert.InRefIdeal.Value.run (F := Ideal) m g)

/-- The input projection's kernel and its reference end with equal results. -/
theorem in_algebraic : Cert.algebraic_InProjIdeal_InRefIdeal (hInProjIdeal := Cert.InProjIdeal.Gen.facts)
    (hInRefIdeal := Cert.InRefIdeal.Gen.facts) := by
  intro m g m' g' _ hm
  refine ⟨fun c => Cert.InRefIdeal.Value.REFA (m ((c.tc : Thread _ _).loc Cert.InProjIdeal.main_arg0)) (m ((c.tc : Thread _ _).loc Cert.InProjIdeal.main_arg1)) (m ((c.tc : Thread _ _).loc Cert.InProjIdeal.main_arg2)) (m ((c.tc : Thread _ _).loc Cert.InProjIdeal.main_arg3)),
    fun c => Cert.InRefIdeal.Value.REFB (m ((c.tc : Thread _ _).loc Cert.InProjIdeal.main_arg0)) (m ((c.tc : Thread _ _).loc Cert.InProjIdeal.main_arg1)) (m ((c.tc : Thread _ _).loc Cert.InProjIdeal.main_arg2)) (m ((c.tc : Thread _ _).loc Cert.InProjIdeal.main_arg3)), ?_, ?_⟩
  · run_from Cert.InProjIdeal.Value.run_blocks m g
    · exact Cert.InProjIdeal.Value.final4 m _
    · exact Cert.InProjIdeal.Value.final5 m _
  · run_from Cert.InRefIdeal.Value.run m' g'
    · rw [← (hm c).1, ← (hm c).2.1, ← (hm c).2.2.1, ← (hm c).2.2.2]; rfl
    · rw [← (hm c).1, ← (hm c).2.1, ← (hm c).2.2.1, ← (hm c).2.2.2]; rfl

end Cert.Proof

end

end
-- ==== Proof.OutMath.lean ====
/- The output projection of one token, as functions of its rows, and the two forms of its gated norm. -/
module

public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.OutMath

/-- A channel of the same head: head of `c`, place `d`. -/
def chan (c : Fin 256) (d : Fin 64) : Fin 256 := ⟨c / 64 * 64 + d, by omega⟩

/-- The gated delta output of a token: its channels over the root mean square of their head, scaled and gated. -/
def gated (o z : Fin 256 → EReal) (nw : Fin 64 → EReal) (c : Fin 256) : EReal :=
  o c * Ideal.rsqrt (Ideal.div (∑ d : Fin 64, o (chan c d) * o (chan c d)) (Ideal.ofBits .f32 0x42800000#32)
    + Ideal.ofBits .f32 0x358637BD#32) * nw ⟨c % 64, by omega⟩ * (z c * Ideal.div 1 (1 + Ideal.exp (-z c)))

/-- The three heads' outputs side by side. -/
def mixed (hg nb : Fin 384 → EReal) (og : Fin 256 → EReal) (x : Fin 1024) : EReal :=
  if h : (x : ℕ) < 384 then hg ⟨x, h⟩ else if h' : (x : ℕ) - 384 < 384 then nb ⟨x - 384, h'⟩ else og ⟨x - 384 - 384, by omega⟩

/-- The residual stream of a token: the scaled token plus the gated projection of the heads. -/
def resid (x g mx : Fin 1024 → EReal) (w : Fin 1024 → Fin 1024 → EReal) (c : Fin 1024) : EReal :=
  Ideal.ofBits .f32 0x3FD744FD#32 * x c + g c * ∑ k : Fin 1024, mx k * w k c

/-- A row minus its mean. -/
def centred (z : Fin 1024 → EReal) (c : Fin 1024) : EReal :=
  z c - Ideal.div (∑ x : Fin 1024, z x) (Ideal.ofBits .f32 0x44800000#32)

/-- A row normalised to mean zero and variance one. -/
def normed (z : Fin 1024 → EReal) (c : Fin 1024) : EReal :=
  centred z c * Ideal.rsqrt (Ideal.div (∑ x : Fin 1024, centred z x * centred z x) (Ideal.ofBits .f32 0x44800000#32)
    + Ideal.ofBits .f32 0x3727C5AC#32)

/-- The residual stream of token `i` of batch `b` in layer `l`, its modulations in row `r`, from the arguments. -/
def zrow (l : Fin 4) (r : Fin 8) (a0 : FVec Ideal ⟨3, ![4, 4352, 1024]⟩ .f32) (a1 a2 : FVec Ideal ⟨3, ![4, 4352, 384]⟩ .f32)
    (a3 a4 : FVec Ideal ⟨3, ![4, 4352, 256]⟩ .f32) (a5 : FVec Ideal ⟨3, ![4, 4352, 2688]⟩ .f32) (a6 : FVec Ideal ⟨3, ![4, 8, 3072]⟩ .f32)
    (a7 : FVec Ideal ⟨2, ![4, 64]⟩ .f32) (a8 : FVec Ideal ⟨3, ![4, 1024, 1024]⟩ .f32) (b : Fin 4) (i : Fin 4352) : Fin 1024 → EReal :=
  resid (fun c => a0 (ix3 b i c)) (fun c => a6 (ix3 l r ⟨2048 + c, by omega⟩))
    (mixed (fun c => a1 (ix3 b i c)) (fun c => a2 (ix3 b i c))
      (gated (fun c => a3 (ix3 b i c) + a4 (ix3 b i c)) (fun c => a5 (ix3 b i ⟨2304 + c, by omega⟩)) (fun d => a7 (ix2 l d))))
    (fun k c => a8 (ix3 l k c))

/-- The kernel's gated delta output of a token. -/
def gatedK (o z : Fin 256 → EReal) (H : Fin 256 → Fin 256 → EReal) (nw : Fin 256 → EReal) (c : Fin 256) : EReal :=
  o c * Ideal.rsqrt ((∑ k, o k * o k * H k c + ∑ k, (o k * o k - o k * o k) * H k c) * Ideal.ofBits .f32 0x3C800000#32
    + Ideal.ofBits .f32 0x358637BD#32) * nw c
    * (z c * (Ideal.ofBits .f32 0x3F000000#32 * Ideal.tanh (Ideal.ofBits .f32 0x3F000000#32 * z c) + Ideal.ofBits .f32 0x3F000000#32))

/-- The sigmoid gate in its two forms: by the hyperbolic tangent of the half, and by the exponential. -/
theorem silu (x : EReal) : x * (Ideal.ofBits .f32 0x3F000000#32 * Ideal.tanh (Ideal.ofBits .f32 0x3F000000#32 * x) + Ideal.ofBits .f32 0x3F000000#32)
    = x * Ideal.div 1 (1 + Ideal.exp (-x)) := by
  have hh : Ideal.ofBits .f32 0x3F000000#32 = ((1 / 2 : ℝ) : EReal) := by
    simp [Ideal.ofBits, Ideal.ieee, -EReal.coe_mul]; norm_num
  rw [hh]
  refine congrArg (x * ·) ?_
  have hl : Ideal.div 1 (1 + Ideal.exp (-x)) = Ideal.logistic x := rfl
  rw [hl]
  induction x using EReal.rec with
  | bot =>
    rw [Ideal.logistic_bot, EReal.coe_mul_bot_of_pos (by norm_num), Ideal.tanh_bot]
    rw [show (-1 : EReal) = ((-1 : ℝ) : EReal) by simp, ← EReal.coe_mul, ← EReal.coe_add]
    norm_num
  | top =>
    rw [Ideal.logistic_top, EReal.coe_mul_top_of_pos (by norm_num), Ideal.tanh_top, mul_one, ← EReal.coe_add]
    norm_num
  | coe r =>
    rw [Ideal.logistic_coe, ← EReal.coe_mul, Ideal.tanh_coe, ← EReal.coe_mul, ← EReal.coe_add]
    refine congrArg _ ?_
    rw [Real.tanh_eq_sinh_div_cosh, Real.sinh_eq, Real.cosh_eq]
    have h1 : Real.exp (1 / 2 * r) ≠ 0 := (Real.exp_pos _).ne'
    have h2 : Real.exp (-r) = Real.exp (-(1 / 2 * r)) * Real.exp (-(1 / 2 * r)) := by rw [← Real.exp_add]; ring_nf
    have h3 : Real.exp (-(1 / 2 * r)) = (Real.exp (1 / 2 * r))⁻¹ := Real.exp_neg _
    rw [h2, h3]
    generalize Real.exp (1 / 2 * r) = e at *
    have h4 : 0 < 1 + e⁻¹ * e⁻¹ := by have := mul_self_nonneg e⁻¹; linarith
    have h5 : e + e⁻¹ ≠ 0 := by
      intro h
      have : e * (e + e⁻¹) = 0 := by rw [h, mul_zero]
      rw [mul_add, mul_inv_cancel₀ h1] at this
      nlinarith [mul_self_nonneg e]
    field_simp
    ring

/-- A sum over all channels of the terms of one head is the sum over the head. -/
theorem head_sum (s : Fin 256 → EReal) (c : Fin 256) :
    (∑ k : Fin 256, if (k : ℕ) / 64 = (c : ℕ) / 64 then s k else 0) = ∑ d : Fin 64, s (chan c d) := by
  rw [← Equiv.sum_comp (finProdFinEquiv (m := 4) (n := 64)) (fun k : Fin 256 => if (k : ℕ) / 64 = (c : ℕ) / 64 then s k else 0),
    Fintype.sum_prod_type]
  rw [Finset.sum_eq_single (⟨c / 64, by omega⟩ : Fin 4)]
  · refine Finset.sum_congr rfl fun d _ => ?_
    have hd := d.isLt
    rw [if_pos (by simp only [finProdFinEquiv_apply_val]; omega)]
    exact congrArg s (Fin.ext (by simp only [finProdFinEquiv_apply_val, chan]; omega))
  · intro b _ hb
    refine Finset.sum_eq_zero fun d _ => if_neg ?_
    have hd := d.isLt
    simp only [finProdFinEquiv_apply_val]
    intro h
    exact hb (Fin.ext (by dsimp only; omega))
  · exact fun h => absurd (Finset.mem_univ _) h

/-- The kernel's mean square, summed by two products with the heads' indicator, is the reference's where the row is finite. -/
theorem mean_square (o : Fin 256 → EReal) (H : Fin 256 → Fin 256 → EReal) (c : Fin 256)
    (hH : ∀ k, H k c = if (k : ℕ) / 64 = (c : ℕ) / 64 then 1 else 0) (ho : ∀ k, o k ≠ ⊥ ∧ o k ≠ ⊤) :
    (∑ k, o k * o k * H k c + ∑ k, (o k * o k - o k * o k) * H k c) * Ideal.ofBits .f32 0x3C800000#32
      = Ideal.div (∑ d : Fin 64, o (chan c d) * o (chan c d)) (Ideal.ofBits .f32 0x42800000#32) := by
  have h0 : ∀ k, o k * o k - o k * o k = 0 := fun k => by
    lift o k to ℝ using ⟨(ho k).2, (ho k).1⟩ with r
    rw [← EReal.coe_mul, ← EReal.coe_sub, sub_self]; rfl
  rw [Finset.sum_congr rfl (fun k _ => show (o k * o k - o k * o k) * H k c = 0 by rw [h0, zero_mul]), Finset.sum_const_zero,
    add_zero, Finset.sum_congr rfl (fun k _ => show o k * o k * H k c = if (k : ℕ) / 64 = (c : ℕ) / 64 then o k * o k else 0 by
      rw [hH]; split <;> simp), head_sum (fun k => o k * o k)]
  have e1 : Ideal.ofBits .f32 0x3C800000#32 = ((1 / 64 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  rw [e1, e2]
  unfold Ideal.div
  rw [if_neg (by norm_num), ← EReal.coe_inv]
  norm_num

/-- The kernel's gated delta output is the reference's where the row is finite. -/
theorem gatedK_eq (o z : Fin 256 → EReal) (H : Fin 256 → Fin 256 → EReal) (nk : Fin 256 → EReal) (nw : Fin 64 → EReal)
    (hH : ∀ k c : Fin 256, H k c = if (k : ℕ) / 64 = (c : ℕ) / 64 then 1 else 0) (ho : ∀ k, o k ≠ ⊥ ∧ o k ≠ ⊤)
    (hn : ∀ c : Fin 256, nk c = nw ⟨c % 64, by omega⟩) : gatedK o z H nk = gated o z nw := by
  funext c
  unfold gatedK gated
  rw [silu, mean_square o H c (fun k => hH k c) ho, hn]

/-- The head of a channel, as the host's floor division computes it on words. -/
def headword (w : BitVec 32) : BitVec 32 :=
  Scalar.select (IntOp.andi (IntOp.cmpi .ne (if w = 0 then (0 : BitVec 32) else if w.msb = true then -1 else 1)
      (if 64#32 = 0 then (0 : BitVec 32) else if (64#32).msb = true then -1 else 1)) (IntOp.cmpi .ne (IntOp.remsi .host w 64#32) 0#32))
    (IntOp.subi (IntOp.divsi .host w 64#32) 1#32) (IntOp.divsi .host w 64#32)

/-- The head of a channel is its quotient by 64. -/
theorem headword_eq : ∀ k : Fin 256, headword (BitVec.ofNat 32 k) = BitVec.ofNat 32 (k / 64) := by decide +kernel

/-- The indicator of equal heads, on words. -/
theorem same_head (k q : Fin 256) :
    FloatOps.uitofp (F := Ideal) FTy.f32 (IntOp.cmpi .eq (headword (BitVec.ofNat 32 k)) (headword (BitVec.ofNat 32 q)))
      = (if (k : ℕ) / 64 = (q : ℕ) / 64 then (1 : EReal) else 0) := by
  have h : ∀ a b : Fin 4, IntOp.cmpi .eq (BitVec.ofNat 32 a) (BitVec.ofNat 32 b) = if (a : ℕ) = b then 1#1 else 0#1 := by decide
  rw [headword_eq, headword_eq, h ⟨k / 64, by omega⟩ ⟨q / 64, by omega⟩]
  dsimp only
  split
  · show (((1#1 : BitVec 1).toNat : ℝ) : EReal) = 1
    simp
  · show (((0#1 : BitVec 1).toNat : ℝ) : EReal) = 0
    simp

end Cert.OutMath

end

end
-- ==== Proof.OutHost.lean ====
/- What the host operations before the output and next input projection leave in its operands. -/
module

public import proofs.«01_k».proof.Proof.Gen.OutInIdeal.Frame
public import proofs.«01_k».proof.Proof.OutMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutInIdeal.Value

open Cert.OutInIdeal Cert.OutInIdeal.Gen Cert.OutMath

variable (m : (ℓ : Loc nD τ sig) → Buf (Elt Ideal) ℓ)

/-- The tokens reach the call unchanged. -/
theorem arg0 (c : Dev nD) : V m c main_arg0 = m ((c : Thread nD τ).loc main_arg0) := by
  unfold V
  simp only [hostOps0, hostOps0_1, hostOps0_2, hostOps0_3, hostOps0_4, hostOps0_5, hostOps0_6, List.flatten_cons, List.flatten_nil,
    List.append_nil, List.cons_append, List.nil_append]
  after_results_simp

/-- The recurrence outputs reach the call unchanged. -/
theorem arg1 (c : Dev nD) : V m c main_arg1 = m ((c : Thread nD τ).loc main_arg1) := by
  unfold V
  simp only [hostOps0, hostOps0_1, hostOps0_2, hostOps0_3, hostOps0_4, hostOps0_5, hostOps0_6, List.flatten_cons, List.flatten_nil,
    List.append_nil, List.cons_append, List.nil_append]
  after_results_simp

/-- The attention outputs reach the call unchanged. -/
theorem arg2 (c : Dev nD) : V m c main_arg2 = m ((c : Thread nD τ).loc main_arg2) := by
  unfold V
  simp only [hostOps0, hostOps0_1, hostOps0_2, hostOps0_3, hostOps0_4, hostOps0_5, hostOps0_6, List.flatten_cons, List.flatten_nil,
    List.append_nil, List.cons_append, List.nil_append]
  after_results_simp

/-- The forward delta outputs reach the call unchanged. -/
theorem arg3 (c : Dev nD) : V m c main_arg3 = m ((c : Thread nD τ).loc main_arg3) := by
  unfold V
  simp only [hostOps0, hostOps0_1, hostOps0_2, hostOps0_3, hostOps0_4, hostOps0_5, hostOps0_6, List.flatten_cons, List.flatten_nil,
    List.append_nil, List.cons_append, List.nil_append]
  after_results_simp

/-- The backward delta outputs reach the call unchanged. -/
theorem arg4 (c : Dev nD) : V m c main_arg4 = m ((c : Thread nD τ).loc main_arg4) := by
  unfold V
  simp only [hostOps0, hostOps0_1, hostOps0_2, hostOps0_3, hostOps0_4, hostOps0_5, hostOps0_6, List.flatten_cons, List.flatten_nil,
    List.append_nil, List.cons_append, List.nil_append]
  after_results_simp

/-- The projections reach the call unchanged. -/
theorem arg5 (c : Dev nD) : V m c main_arg5 = m ((c : Thread nD τ).loc main_arg5) := by
  unfold V
  simp only [hostOps0, hostOps0_1, hostOps0_2, hostOps0_3, hostOps0_4, hostOps0_5, hostOps0_6, List.flatten_cons, List.flatten_nil,
    List.append_nil, List.cons_append, List.nil_append]
  after_results_simp

/-- The output weights: the argument's. -/
theorem wout (c : Dev nD) (l : Fin 4) (k q : Fin 1024) : V m c main_v2 (ix3 l k q) = m ((c : Thread nD τ).loc main_arg8) (ix3 l k q) := by
  unfold V
  simp only [hostOps0, hostOps0_1, hostOps0_2, hostOps0_3, hostOps0_4, hostOps0_5, hostOps0_6, List.flatten_cons, List.flatten_nil,
    List.append_nil, List.cons_append, List.nil_append]
  after_results_simp
  pointwise

/-- The norm's weights, repeated for every head. -/
theorem nw4 (c : Dev nD) (l : Fin 4) (q : Fin 256) : V m c main_v6 (ix3 l 0 q)
    = m ((c : Thread nD τ).loc main_arg7) (ix2 l ⟨q % 64, by omega⟩) := by
  unfold V
  simp only [hostOps0, hostOps0_1, hostOps0_2, hostOps0_3, hostOps0_4, hostOps0_5, hostOps0_6, List.flatten_cons, List.flatten_nil,
    List.append_nil, List.cons_append, List.nil_append]
  after_results_simp
  pointwise

/-- The indicator of two channels of one head. -/
theorem hsum (c : Dev nD) (k q : Fin 256) : V m c main_v16 (ix2 k q)
    = (if (k : ℕ) / 64 = (q : ℕ) / 64 then (1 : EReal) else 0) := by
  unfold V
  simp only [hostOps0, hostOps0_1, hostOps0_2, hostOps0_3, hostOps0_4, hostOps0_5, hostOps0_6, List.flatten_cons, List.flatten_nil,
    List.append_nil, List.cons_append, List.nil_append,
    StableHlo.TRef.binary, StableHlo.TRef.nullary, StableHlo.TRef.unary, StableHlo.TRef.ternary, StableHlo.TRef.toBuf,
    StableHlo.TRef.ofBuf, cast_eq, id]
  after_results_simp
  pointwise
  exact same_head k q

/-- The layer norm's gains: the argument's. -/
theorem lng (c : Dev nD) (l : Fin 4) (q : Fin 1024) : V m c main_v17 (ix3 l 0 q) = m ((c : Thread nD τ).loc main_arg9) (ix2 l q) := by
  unfold V
  simp only [hostOps0, hostOps0_1, hostOps0_2, hostOps0_3, hostOps0_4, hostOps0_5, hostOps0_6, List.flatten_cons, List.flatten_nil,
    List.append_nil, List.cons_append, List.nil_append]
  after_results_simp
  pointwise

/-- The layer norm's shifts: the argument's. -/
theorem lnb (c : Dev nD) (l : Fin 4) (q : Fin 1024) : V m c main_v18 (ix3 l 0 q) = m ((c : Thread nD τ).loc main_arg10) (ix2 l q) := by
  unfold V
  simp only [hostOps0, hostOps0_1, hostOps0_2, hostOps0_3, hostOps0_4, hostOps0_5, hostOps0_6, List.flatten_cons, List.flatten_nil,
    List.append_nil, List.cons_append, List.nil_append]
  after_results_simp
  pointwise

/-- The selected modulations of a layer: row `2 b` the context's, row `2 b + 1` batch `b`'s. -/
theorem modrow (c : Dev nD) (l : Fin 4) (g r : Fin 8) (q : Fin 3072) (hr : (r : ℕ) = if (g : ℕ) % 2 = 0 then 4 else (g : ℕ) / 2) :
    V m c main_v25 (ix4 l g 0 q) = m ((c : Thread nD τ).loc main_arg6) (ix3 l r q) := by
  unfold V
  simp only [hostOps0, hostOps0_1, hostOps0_2, hostOps0_3, hostOps0_4, hostOps0_5, hostOps0_6, List.flatten_cons, List.flatten_nil,
    List.append_nil, List.cons_append, List.nil_append]
  after_results_simp
  pointwise
  after_results_simp
  pointwise
  by_cases h : (g : ℕ) % 2 = 0
  · rw [dif_pos (by omega)]
    rw [if_pos h] at hr
    obtain rfl : r = 4 := Fin.ext hr
    rfl
  · rw [dif_neg (by omega)]
    rw [if_neg h] at hr
    exact congrArg (fun a => m ((c : Thread nD τ).loc main_arg6) (ix3 l a q)) (Fin.ext hr.symm)

/-- The integer zero is the real zero. -/
theorem zero_fill : FloatOps.sitofp (F := Ideal) FTy.bf16 (0#32) = (0 : EReal) := by
  show (((0#32 : BitVec 32).toInt : ℝ) : EReal) = 0
  simp

/-- Padding 112 zero columns, at an index. -/
theorem padded (X : FVec Ideal S4x1024x3344 .bf16) (l : Fin 4) (k : Fin 1024) (q : Fin 3456) :
    pad S4x1024x3456 ![0, 0, 0] ![0, 0, 112] ![0, 0, 0] X (sitofp (F := Ideal) FTy.bf16 (constantI S_ 32 0#32))
      pads_S4x1024x3344_S4x1024x3456_000_000_01120 h_S_ (ix3 l k q)
    = if h : (q : ℕ) < 3344 then X (ix3 l k ⟨q, h⟩) else (0 : EReal) := by
  pointwise
  rw [zero_fill]

/-- The padded input weights: the argument's, then zero columns. -/
theorem weights (c : Dev nD) (l : Fin 4) (k : Fin 1024) (q : Fin 3456) : V m c main_v1 (ix3 l k q)
    = if h : (q : ℕ) < 3344 then m ((c : Thread nD τ).loc main_arg11) (ix3 l k ⟨q, h⟩) else (0 : EReal) := by
  unfold V
  simp only [hostOps0, hostOps0_1, hostOps0_2, hostOps0_3, hostOps0_4, hostOps0_5, hostOps0_6, List.flatten_cons, List.flatten_nil,
    List.append_nil, List.cons_append, List.nil_append]
  after_results_simp
  exact padded (m ((c : Thread nD τ).loc main_arg11)) l k q

end Cert.OutInIdeal.Value

end

end
-- ==== Proof.OutRefTerm.lean ====
/- The reference's results as terms of its arguments, stage by stage. -/
module

public import proofs.«01_k».proof.Proof.Gen.OutInRefIdeal
public import Idealize.ShloMosaic.Lib.StableHlo.Run
public import Idealize.ShloMosaic.Lib.Pointwise

@[expose] public section

set_option maxRecDepth 16384

noncomputable section

namespace Cert.OutInRefIdeal.Value

open Cert.OutInRefIdeal Cert.OutInRefIdeal.Gen Idealize.ShloMosaic Idealize.ShloMosaic.TcCoe Idealize.SL.Sem Idealize.ShloMosaic.StableHlo

/-- The gated delta output of every token and channel. -/
def REFG (a3 : FVec Ideal S4x4352x256 .f32) (a4 : FVec Ideal S4x4352x256 .f32) (a5 : FVec Ideal S4x4352x2688 .f32) (a7 : FVec Ideal S4x64 .f32) : FVec Ideal S4x4352x256 .f32 :=
  shapeCast _ (mulf (mulf (mulf (shapeCast _ (addf a3 a4) shapeCasts_S4x4352x256_S4x4352x4x64) (broadcastInDim S4x4352x4x64 ![0, 1, 2, 3] bcast_S4x4352x4x1_S4x4352x4x64_0_1_2_3 (Host.rsqrt (addf (Host.divf (broadcastInDim S4x4352x4x1 ![0, 1, 2] bcast_S4x4352x4_S4x4352x4x1_0_1_2 (Host.reduceAdd (mulf (shapeCast _ (addf a3 a4) shapeCasts_S4x4352x256_S4x4352x4x64) (shapeCast _ (addf a3 a4) shapeCasts_S4x4352x256_S4x4352x4x64)) (constant S_ .f32 0x00000000#32) reducesTo_S4x4352x4x64_S4x4352x4_d3 h_S_)) (broadcastInDim S4x4352x4x1 ![] bcast_S_S4x4352x4x1 (constant S_ .f32 0x42800000#32))) (broadcastInDim S4x4352x4x1 ![] bcast_S_S4x4352x4x1 (constant S_ .f32 0x358637BD#32)))))) (broadcastInDim S4x4352x4x64 ![0, 1, 2, 3] bcast_S1x1x1x64_S4x4352x4x64_0_1_2_3 (broadcastInDim S1x1x1x64 ![3] bcast_S64_S1x1x1x64_3 (shapeCast _ (extractStridedSlice S1x64 ![1, 0] a7 slices_S4x64_S1x64_1_0) shapeCasts_S1x64_S64)))) (mulf (shapeCast _ (extractStridedSlice S4x4352x256 ![0, 0, 2304] a5 slices_S4x4352x2688_S4x4352x256_0_0_2304) shapeCasts_S4x4352x256_S4x4352x4x64) (Host.divf (broadcastInDim S4x4352x4x64 ![] bcast_S_S4x4352x4x64 (constant S_ .f32 0x3F800000#32)) (addf (broadcastInDim S4x4352x4x64 ![] bcast_S_S4x4352x4x64 (constant S_ .f32 0x3F800000#32)) (Host.exp (Host.negf (shapeCast _ (extractStridedSlice S4x4352x256 ![0, 0, 2304] a5 slices_S4x4352x2688_S4x4352x256_0_0_2304) shapeCasts_S4x4352x256_S4x4352x4x64))))))) shapeCasts_S4x4352x4x64_S4x4352x256

/-- The residual stream after the heads: the scaled tokens plus the gated projection. -/
def REFZ (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) : FVec Ideal S4x4352x1024 .f32 :=
  addf (mulf (broadcastInDim S4x4352x1024 ![] bcast_S_S4x4352x1024 (constant S_ .f32 0x3FD744FD#32)) a0) (mulf (concatenate S4x4352x1024 1 [⟨S4x256x1024, (broadcastInDim S4x256x1024 ![2] bcast_S1024_S4x256x1024_2 (shapeCast _ (extractStridedSlice S1x1024 ![4, 0] (shapeCast _ (extractStridedSlice S1x8x1024 ![1, 0, 2048] a6 slices_S4x8x3072_S1x8x1024_1_0_2048) shapeCasts_S1x8x1024_S8x1024) slices_S8x1024_S1x1024_4_0) shapeCasts_S1x1024_S1024))⟩, ⟨S4x4096x1024, (broadcastInDim S4x4096x1024 ![0, 1, 2] bcast_S4x1x1024_S4x4096x1024_0_1_2 (broadcastInDim S4x1x1024 ![0, 2] bcast_S4x1024_S4x1x1024_0_2 (extractStridedSlice S4x1024 ![0, 0] (shapeCast _ (extractStridedSlice S1x8x1024 ![1, 0, 2048] a6 slices_S4x8x3072_S1x8x1024_1_0_2048) shapeCasts_S1x8x1024_S8x1024) slices_S8x1024_S4x1024_0_0)))⟩] concatenates_S4x256x1024_S4x4096x1024_S4x4352x1024_d1) (Host.dotGeneral dot_S4x4352x1024_S1024x1024_S4x4352x1024_2_0_01_1_n_n none ((concatenate S4x4352x1024 2 [⟨S4x4352x384, (a1)⟩, ⟨S4x4352x384, (a2)⟩, ⟨S4x4352x256, ((REFG a3 a4 a5 a7))⟩] concatenates_S4x4352x384_S4x4352x384_S4x4352x256_S4x4352x1024_d2)) (shapeCast _ (extractStridedSlice S1x1024x1024 ![1, 0, 0] a8 slices_S4x1024x1024_S1x1024x1024_1_0_0) shapeCasts_S1x1024x1024_S1024x1024)))

/-- An array minus the means of its rows. -/
def REFC (z : FVec Ideal S4x4352x1024 .f32) : FVec Ideal S4x4352x1024 .f32 :=
  subf z (broadcastInDim S4x4352x1024 ![0, 1, 2] bcast_S4x4352x1_S4x4352x1024_0_1_2 (Host.divf (broadcastInDim S4x4352x1 ![0, 1] bcast_S4x4352_S4x4352x1_0_1 (Host.reduceAdd z (constant S_ .f32 0x00000000#32) reducesTo_S4x4352x1024_S4x4352_d2 h_S_)) (broadcastInDim S4x4352x1 ![] bcast_S_S4x4352x1 (constant S_ .f32 0x44800000#32))))

/-- The normalised stream, scaled and shifted. -/
def REFX (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) (a9 : FVec Ideal S4x1024 .f32) (a10 : FVec Ideal S4x1024 .f32) : FVec Ideal S4x4352x1024 .f32 :=
  addf (mulf (mulf (REFC (REFZ a0 a1 a2 a3 a4 a5 a6 a7 a8)) (broadcastInDim S4x4352x1024 ![0, 1, 2] bcast_S4x4352x1_S4x4352x1024_0_1_2 (Host.rsqrt (addf (Host.divf (broadcastInDim S4x4352x1 ![0, 1] bcast_S4x4352_S4x4352x1_0_1 (Host.reduceAdd (mulf (REFC (REFZ a0 a1 a2 a3 a4 a5 a6 a7 a8)) (REFC (REFZ a0 a1 a2 a3 a4 a5 a6 a7 a8))) (constant S_ .f32 0x00000000#32) reducesTo_S4x4352x1024_S4x4352_d2 h_S_)) (broadcastInDim S4x4352x1 ![] bcast_S_S4x4352x1 (constant S_ .f32 0x44800000#32))) (broadcastInDim S4x4352x1 ![] bcast_S_S4x4352x1 (constant S_ .f32 0x3727C5AC#32)))))) (broadcastInDim S4x4352x1024 ![0, 1, 2] bcast_S1x1x1024_S4x4352x1024_0_1_2 (broadcastInDim S1x1x1024 ![2] bcast_S1024_S1x1x1024_2 (shapeCast _ (extractStridedSlice S1x1024 ![1, 0] a9 slices_S4x1024_S1x1024_1_0) shapeCasts_S1x1024_S1024)))) (broadcastInDim S4x4352x1024 ![0, 1, 2] bcast_S1x1x1024_S4x4352x1024_0_1_2 (broadcastInDim S1x1x1024 ![2] bcast_S1024_S1x1x1024_2 (shapeCast _ (extractStridedSlice S1x1024 ![1, 0] a10 slices_S4x1024_S1x1024_1_0) shapeCasts_S1x1024_S1024)))

/-- All 3344 projections of the next layer. -/
def REFP (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) (a9 : FVec Ideal S4x1024 .f32) (a10 : FVec Ideal S4x1024 .f32) (a11 : FVec Ideal S4x1024x3344 .f32) : FVec Ideal S4x4352x3344 .f32 :=
  Host.dotGeneral dot_S4x4352x1024_S1024x3344_S4x4352x3344_2_0_01_1_n_n none (addf (mulf (REFX a0 a1 a2 a3 a4 a5 a6 a7 a8 a9 a10) (addf (broadcastInDim S4x4352x1024 ![] bcast_S_S4x4352x1024 (constant S_ .f32 0x3F800000#32)) (concatenate S4x4352x1024 1 [⟨S4x256x1024, (broadcastInDim S4x256x1024 ![2] bcast_S1024_S4x256x1024_2 (shapeCast _ (extractStridedSlice S1x1024 ![4, 0] (shapeCast _ (extractStridedSlice S1x8x1024 ![2, 0, 1024] a6 slices_S4x8x3072_S1x8x1024_2_0_1024) shapeCasts_S1x8x1024_S8x1024) slices_S8x1024_S1x1024_4_0) shapeCasts_S1x1024_S1024))⟩, ⟨S4x4096x1024, (broadcastInDim S4x4096x1024 ![0, 1, 2] bcast_S4x1x1024_S4x4096x1024_0_1_2 (broadcastInDim S4x1x1024 ![0, 2] bcast_S4x1024_S4x1x1024_0_2 (extractStridedSlice S4x1024 ![0, 0] (shapeCast _ (extractStridedSlice S1x8x1024 ![2, 0, 1024] a6 slices_S4x8x3072_S1x8x1024_2_0_1024) shapeCasts_S1x8x1024_S8x1024) slices_S8x1024_S4x1024_0_0)))⟩] concatenates_S4x256x1024_S4x4096x1024_S4x4352x1024_d1))) (concatenate S4x4352x1024 1 [⟨S4x256x1024, (broadcastInDim S4x256x1024 ![2] bcast_S1024_S4x256x1024_2 (shapeCast _ (extractStridedSlice S1x1024 ![4, 0] (shapeCast _ (extractStridedSlice S1x8x1024 ![2, 0, 0] a6 slices_S4x8x3072_S1x8x1024_2_0_0) shapeCasts_S1x8x1024_S8x1024) slices_S8x1024_S1x1024_4_0) shapeCasts_S1x1024_S1024))⟩, ⟨S4x4096x1024, (broadcastInDim S4x4096x1024 ![0, 1, 2] bcast_S4x1x1024_S4x4096x1024_0_1_2 (broadcastInDim S4x1x1024 ![0, 2] bcast_S4x1024_S4x1x1024_0_2 (extractStridedSlice S4x1024 ![0, 0] (shapeCast _ (extractStridedSlice S1x8x1024 ![2, 0, 0] a6 slices_S4x8x3072_S1x8x1024_2_0_0) shapeCasts_S1x8x1024_S8x1024) slices_S8x1024_S4x1024_0_0)))⟩] concatenates_S4x256x1024_S4x4096x1024_S4x4352x1024_d1)) (shapeCast _ (extractStridedSlice S1x1024x3344 ![2, 0, 0] a11 slices_S4x1024x3344_S1x1024x3344_2_0_0) shapeCasts_S1x1024x3344_S1024x3344)

/-- The projections without keys and values, 112 zero columns appended. -/
def REFA (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) (a9 : FVec Ideal S4x1024 .f32) (a10 : FVec Ideal S4x1024 .f32) (a11 : FVec Ideal S4x1024x3344 .f32) : FVec Ideal S4x4352x2688 .f32 :=
  (concatenate S4x4352x2688 2 [⟨S4x4352x1920, ((extractStridedSlice S4x4352x1920 ![0, 0, 0] (REFP a0 a1 a2 a3 a4 a5 a6 a7 a8 a9 a10 a11) slices_S4x4352x3344_S4x4352x1920_0_0_0))⟩, ⟨S4x4352x656, ((extractStridedSlice S4x4352x656 ![0, 0, 2688] (REFP a0 a1 a2 a3 a4 a5 a6 a7 a8 a9 a10 a11) slices_S4x4352x3344_S4x4352x656_0_0_2688))⟩, ⟨S4x4352x112, ((broadcastInDim S4x4352x112 ![] bcast_S_S4x4352x112 (constant S_ .f32 0x00000000#32)))⟩] concatenates_S4x4352x1920_S4x4352x656_S4x4352x112_S4x4352x2688_d2)

/-- The keys and values. -/
def REFB (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) (a9 : FVec Ideal S4x1024 .f32) (a10 : FVec Ideal S4x1024 .f32) (a11 : FVec Ideal S4x1024x3344 .f32) : FVec Ideal S4x4352x768 .bf16 :=
  truncf .bf16 (extractStridedSlice S4x4352x768 ![0, 0, 1920] (REFP a0 a1 a2 a3 a4 a5 a6 a7 a8 a9 a10 a11) slices_S4x4352x3344_S4x4352x768_0_0_1920) bitsLt_bf16_f32

end Cert.OutInRefIdeal.Value

end

end
-- ==== Proof.OutRefRow.lean ====
/- The reference's results at one token, as functions of its rows. -/
module

public import proofs.«01_k».proof.Proof.OutRefTerm
public import proofs.«01_k».proof.Proof.OutMath

@[expose] public section

set_option maxRecDepth 16384

noncomputable section

namespace Cert.OutInRefIdeal.Value

open Cert.OutInRefIdeal Cert.OutInRefIdeal.Gen Cert.OutMath Idealize.ShloMosaic Idealize.ShloMosaic.TcCoe Idealize.SL.Sem Idealize.ShloMosaic.StableHlo

variable (a0 : FVec Ideal S4x4352x1024 .f32) (a1 a2 : FVec Ideal S4x4352x384 .f32) (a3 a4 : FVec Ideal S4x4352x256 .f32)
  (a5 : FVec Ideal S4x4352x2688 .f32) (a6 : FVec Ideal S4x8x3072 .f32) (a7 : FVec Ideal S4x64 .f32) (a8 : FVec Ideal S4x1024x1024 .f32)
  (a9 a10 : FVec Ideal S4x1024 .f32) (a11 : FVec Ideal S4x1024x3344 .f32)

/-- The gated delta output of a token. -/
theorem refg (b : Fin 4) (i : Fin 4352) (c : Fin 256) : REFG a3 a4 a5 a7 (ix3 b i c)
    = gated (fun c => a3 (ix3 b i c) + a4 (ix3 b i c)) (fun c => a5 (ix3 b i ⟨2304 + c, by omega⟩)) (fun d => a7 (ix2 1 d)) c := by
  pointwise [REFG]
  rfl

/-- A choice between the context's row of the modulations and the batch's is the row's. -/
theorem choice (l : Fin 4) (b : Fin 4) (i : Fin 4352) (q : Fin 3072) (r : Fin 8) (hr : (r : ℕ) = if (i : ℕ) < 256 then 4 else (b : ℕ)) :
    (if h : (i : ℕ) < 256 then a6 (ix3 l 4 q) else a6 (ix3 l ⟨b, by omega⟩ q)) = a6 (ix3 l r q) := by
  split
  next h => rw [if_pos h] at hr; exact congrArg (fun x => a6 (ix3 l x q)) (Fin.ext hr.symm)
  next h => rw [if_neg h] at hr; exact congrArg (fun x => a6 (ix3 l x q)) (Fin.ext hr.symm)

/-- The residual stream of a token. -/
theorem refz (b : Fin 4) (i : Fin 4352) (c : Fin 1024) (r : Fin 8) (hr : (r : ℕ) = if (i : ℕ) < 256 then 4 else (b : ℕ)) :
    REFZ a0 a1 a2 a3 a4 a5 a6 a7 a8 (ix3 b i c) = zrow 1 r a0 a1 a2 a3 a4 a5 a6 a7 a8 b i c := by
  pointwise [REFZ]
  simp only [refg]
  exact Ideal.add_congr rfl (Ideal.mul_congr (choice a6 1 b i _ r hr) rfl)

/-- The normalised stream of a token. -/
theorem refx (b : Fin 4) (i : Fin 4352) (c : Fin 1024) (r : Fin 8) (hr : (r : ℕ) = if (i : ℕ) < 256 then 4 else (b : ℕ)) :
    REFX a0 a1 a2 a3 a4 a5 a6 a7 a8 a9 a10 (ix3 b i c)
      = normed (zrow 1 r a0 a1 a2 a3 a4 a5 a6 a7 a8 b i) c * a9 (ix2 1 c) + a10 (ix2 1 c) := by
  pointwise [REFX, REFC]
  simp only [fun c => refz a0 a1 a2 a3 a4 a5 a6 a7 a8 b i c r hr]
  rfl

/-- The next layer's projections of a token. -/
theorem refp (b : Fin 4) (i : Fin 4352) (c : Fin 3344) (r : Fin 8) (hr : (r : ℕ) = if (i : ℕ) < 256 then 4 else (b : ℕ)) :
    REFP a0 a1 a2 a3 a4 a5 a6 a7 a8 a9 a10 a11 (ix3 b i c)
      = ∑ x : Fin 1024, ((normed (zrow 1 r a0 a1 a2 a3 a4 a5 a6 a7 a8 b i) x * a9 (ix2 1 x) + a10 (ix2 1 x))
          * (1 + a6 (ix3 2 r ⟨1024 + x, by omega⟩)) + a6 (ix3 2 r ⟨x, by omega⟩)) * a11 (ix3 2 x c) := by
  pointwise [REFP]
  refine Finset.sum_congr rfl fun x _ => Ideal.mul_congr (Ideal.add_congr (Ideal.mul_congr ?_ (Ideal.add_congr rfl ?_)) ?_) rfl
  · exact refx a0 a1 a2 a3 a4 a5 a6 a7 a8 a9 a10 b i x r hr
  · exact choice a6 2 b i _ r hr
  · exact choice a6 2 b i _ r hr

end Cert.OutInRefIdeal.Value

end

end
-- ==== Proof.OutValue.lean ====
/- The output projection's result arrays are the reference's terms. -/
module

public import proofs.«01_k».proof.Proof.Gen.OutInIdeal.Frame
public import proofs.«01_k».proof.Proof.OutMath
public import proofs.«01_k».proof.Proof.OutHost
public import proofs.«01_k».proof.Proof.OutRefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutInIdeal.Value

open Cert.OutInIdeal Cert.OutInIdeal.Gen Cert.OutMath
open Cert.OutInRefIdeal.Value (REFX REFP REFA REFB refx refp)

/-- The kernel's gated delta output of a row. -/
theorem pay2 (v0 v2 : Vec Ideal S1x256x256 .f32) (v5 : Vec Ideal S256x256 .bf16) (v21 : Vec Ideal S1x1x256 .f32) (v25 : Vec Ideal S1x256x256 .f32)
    (r c : Fin 256) : k0_pay2 (F := Ideal) v0 v2 v5 v21 v25 (ix2 r c)
      = gatedK (fun k => v0 (ix3 0 r k) + v2 (ix3 0 r k)) (fun k => v25 (ix3 0 r k)) (fun k q => v5 (ix2 k q)) (fun k => v21 (ix3 0 0 k)) c := by
  pointwise [k0_pay2]
  rfl

/-- The kernel's normalised stream of a row. -/
theorem pay3 (v35 : FVec Ideal S256x256 .f32) (v36 v39 : Vec Ideal S1x256x384 .f32) (v44 : Vec Ideal S1x1024x1024 .bf16) (v47 : Vec Ideal S1x1x1x3072 .f32)
    (v50 : Vec Ideal S1x256x1024 .f32) (r : Fin 256) (c : Fin 1024) : k0_pay3 (F := Ideal) v35 v36 v39 v44 v47 v50 (ix2 r c)
      = normed (resid (fun q => v50 (ix3 0 r q)) (fun q => v47 (ix4 0 0 0 ⟨2048 + q, by omega⟩))
          (mixed (fun q => v36 (ix3 0 r q)) (fun q => v39 (ix3 0 r q)) (fun q => v35 (ix2 r q))) (fun k q => v44 (ix3 0 k q))) c := by
  pointwise [k0_pay3]
  rfl

variable (m : (ℓ : Loc nD τ sig) → Buf (Elt Ideal) ℓ)

/-- Every window's block index at every grid point. -/
theorem idx : ∀ t : Fin cfg0.N, win0_0.index t = ![t.val / 17, t.val % 17, 0]
    ∧ win0_1.index t = ![t.val / 17, t.val % 17, 0]
    ∧ win0_2.index t = ![t.val / 17, t.val % 17, 0]
    ∧ win0_3.index t = ![t.val / 17, t.val % 17, 0]
    ∧ win0_4.index t = ![t.val / 17, t.val % 17, 0]
    ∧ win0_5.index t = ![t.val / 17, t.val % 17, 9]
    ∧ win0_6.index t = ![1, t.val / 17 * 2 + min (t.val % 17) 1, 0, 0]
    ∧ win0_7.index t = ![1, 0, 0]
    ∧ win0_8.index t = ![1, 0, 0]
    ∧ win0_9.index t = ![0, 0]
    ∧ win0_10.index t = ![1, 0, 0]
    ∧ win0_11.index t = ![1, 0, 0]
    ∧ win0_12.index t = ![2, t.val / 17 * 2 + min (t.val % 17) 1, 0, 0]
    ∧ win0_13.index t = ![2, 0, 0]
    ∧ win0_14.index t = ![t.val / 17, t.val % 17, 0]
    ∧ win0_15.index t = ![t.val / 17, t.val % 17, 0]
    ∧ win0_16.index t = ![t.val / 17, t.val % 17, 0] :=
  (by decide +kernel : ∀ t : Fin grid0.N, _)

/-- An entry of the tokens' block. -/
theorem read0 (c : Dev nD) (t : Fin cfg0.N) (r : Fin 256) (k : Fin 1024) (b : Fin 4) (i : Fin 4352) (hb : (b : ℕ) = t.val / 17)
    (hi : (i : ℕ) = t.val % 17 * 256 + r) : iblk m c 0 t (ix3 0 r k) = m ((c : Thread nD τ).loc main_arg0) (ix3 b i k) := by
  refine Eq.trans ?_ (congrFun (arg0 m c) (ix3 b i k))
  blk_ext [iblk, idx t]

/-- An entry of the recurrence outputs' block. -/
theorem read1 (c : Dev nD) (t : Fin cfg0.N) (r : Fin 256) (k : Fin 384) (b : Fin 4) (i : Fin 4352) (hb : (b : ℕ) = t.val / 17)
    (hi : (i : ℕ) = t.val % 17 * 256 + r) : iblk m c 1 t (ix3 0 r k) = m ((c : Thread nD τ).loc main_arg1) (ix3 b i k) := by
  refine Eq.trans ?_ (congrFun (arg1 m c) (ix3 b i k))
  blk_ext [iblk, idx t]

/-- An entry of the attention outputs' block. -/
theorem read2 (c : Dev nD) (t : Fin cfg0.N) (r : Fin 256) (k : Fin 384) (b : Fin 4) (i : Fin 4352) (hb : (b : ℕ) = t.val / 17)
    (hi : (i : ℕ) = t.val % 17 * 256 + r) : iblk m c 2 t (ix3 0 r k) = m ((c : Thread nD τ).loc main_arg2) (ix3 b i k) := by
  refine Eq.trans ?_ (congrFun (arg2 m c) (ix3 b i k))
  blk_ext [iblk, idx t]

/-- An entry of the forward delta outputs' block. -/
theorem read3 (c : Dev nD) (t : Fin cfg0.N) (r : Fin 256) (k : Fin 256) (b : Fin 4) (i : Fin 4352) (hb : (b : ℕ) = t.val / 17)
    (hi : (i : ℕ) = t.val % 17 * 256 + r) : iblk m c 3 t (ix3 0 r k) = m ((c : Thread nD τ).loc main_arg3) (ix3 b i k) := by
  refine Eq.trans ?_ (congrFun (arg3 m c) (ix3 b i k))
  blk_ext [iblk, idx t]

/-- An entry of the backward delta outputs' block. -/
theorem read4 (c : Dev nD) (t : Fin cfg0.N) (r : Fin 256) (k : Fin 256) (b : Fin 4) (i : Fin 4352) (hb : (b : ℕ) = t.val / 17)
    (hi : (i : ℕ) = t.val % 17 * 256 + r) : iblk m c 4 t (ix3 0 r k) = m ((c : Thread nD τ).loc main_arg4) (ix3 b i k) := by
  refine Eq.trans ?_ (congrFun (arg4 m c) (ix3 b i k))
  blk_ext [iblk, idx t]

/-- The gate of the delta output, read from the projections. -/
theorem zread (c : Dev nD) (t : Fin cfg0.N) (r k : Fin 256) (b : Fin 4) (i : Fin 4352) (hb : (b : ℕ) = t.val / 17)
    (hi : (i : ℕ) = t.val % 17 * 256 + r) :
    X0_5 m c t (ix3 0 r k) = m ((c : Thread nD τ).loc main_arg5) (ix3 b i ⟨2304 + k, by omega⟩) := by
  unfold X0_5 Pipeline.Window.fill
  rw [dif_pos (moved0_5 t _)]
  refine Eq.trans ?_ (congrFun (arg5 m c) _)
  blk_ext [iblk, idx t]

/-- An entry of the point's modulation row. -/
theorem mread (c : Dev nD) (t : Fin cfg0.N) (q : Fin 3072) (b : Fin 4) (r : Fin 8) (hb : (b : ℕ) = t.val / 17)
    (hr : (r : ℕ) = if t.val % 17 = 0 then 4 else (b : ℕ)) :
    iblk m c 6 t (ix4 0 0 0 q) = m ((c : Thread nD τ).loc main_arg6) (ix3 1 r q) := by
  have ht : t.val < 68 := lt_of_lt_of_eq t.isLt N_0
  refine Eq.trans ?_ (modrow m c 1 ⟨t.val / 17 * 2 + min (t.val % 17) 1, by omega⟩ r q (by dsimp only; split at hr <;> split <;> omega))
  blk_ext [iblk, idx t]

/-- An entry of the point's modulation row of the next layer. -/
theorem mread' (c : Dev nD) (t : Fin cfg0.N) (q : Fin 3072) (b : Fin 4) (r : Fin 8) (hb : (b : ℕ) = t.val / 17)
    (hr : (r : ℕ) = if t.val % 17 = 0 then 4 else (b : ℕ)) :
    iblk m c 12 t (ix4 0 0 0 q) = m ((c : Thread nD τ).loc main_arg6) (ix3 2 r q) := by
  have ht : t.val < 68 := lt_of_lt_of_eq t.isLt N_0
  refine Eq.trans ?_ (modrow m c 2 ⟨t.val / 17 * 2 + min (t.val % 17) 1, by omega⟩ r q (by dsimp only; split at hr <;> split <;> omega))
  blk_ext [iblk, idx t]

/-- One row of the next layer's weights: the reference's inside its 3344 columns, zero beyond. -/
theorem wread (c : Dev nD) (t : Fin cfg0.N) (k : Fin 1024) (q : Fin 3456) : (iblk m c 13 t (ix3 0 k q) : EReal)
    = if h : (q : ℕ) < 3344 then m ((c : Thread nD τ).loc main_arg11) (ix3 2 k ⟨q, h⟩) else (0 : EReal) := by
  refine Eq.trans ?_ (weights m c 2 k q)
  blk_ext [iblk, idx t]

/-- The kernel's table of equal heads. -/
theorem hread (c : Dev nD) (t : Fin cfg0.N) (k q : Fin 256) :
    iblk m c 9 t (ix2 k q) = if (k : ℕ) / 64 = (q : ℕ) / 64 then (1 : EReal) else 0 := by
  refine Eq.trans ?_ (hsum m c k q)
  blk_ext [iblk, idx t]

/-- The delta output's weight at a channel. -/
theorem nread (c : Dev nD) (t : Fin cfg0.N) (q : Fin 256) :
    iblk m c 8 t (ix3 0 0 q) = m ((c : Thread nD τ).loc main_arg7) (ix2 1 ⟨q % 64, by omega⟩) := by
  refine Eq.trans ?_ (nw4 m c 1 q)
  blk_ext [iblk, idx t]

/-- An entry of the output projection's weights. -/
theorem oread (c : Dev nD) (t : Fin cfg0.N) (k q : Fin 1024) :
    iblk m c 7 t (ix3 0 k q) = m ((c : Thread nD τ).loc main_arg8) (ix3 1 k q) := by
  refine Eq.trans ?_ (wout m c 1 k q)
  blk_ext [iblk, idx t]

/-- The sums of the two delta outputs are finite. -/
abbrev Finite (c : Dev nD) : Prop := ∀ j : S4x4352x256.Idx,
  (HAdd.hAdd (α := EReal) (β := EReal) (γ := EReal) (m ((c : Thread nD τ).loc main_arg3) j) (m ((c : Thread nD τ).loc main_arg4) j)) ≠ ⊥
    ∧ (HAdd.hAdd (α := EReal) (β := EReal) (γ := EReal) (m ((c : Thread nD τ).loc main_arg3) j) (m ((c : Thread nD τ).loc main_arg4) j)) ≠ ⊤

/-- The kernel's normalised stream at one token is the reference's residual stream, normalised. -/
theorem core (c : Dev nD) (hf : Finite m c) (t : Fin cfg0.N) (r : Fin 256) (q : Fin 1024) (b : Fin 4) (i : Fin 4352) (g : Fin 8)
    (hb : (b : ℕ) = t.val / 17) (hi : (i : ℕ) = t.val % 17 * 256 + r) (hg : (g : ℕ) = if t.val % 17 = 0 then 4 else (b : ℕ)) :
    k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t) (ix2 r q)
      = normed (zrow 1 g (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i) q := by
  have ht : t.val < 68 := lt_of_lt_of_eq t.isLt N_0
  refine (pay3 _ _ _ _ _ _ r q).trans (congrArg (fun z => normed z q) ?_)
  have h0 : (fun k : Fin 1024 => (iblk m c 0 t (ix3 0 r k) : EReal)) = fun k => m ((c : Thread nD τ).loc main_arg0) (ix3 b i k) :=
    funext fun k => read0 m c t r k b i hb hi
  have h1 : (fun k : Fin 384 => (iblk m c 1 t (ix3 0 r k) : EReal)) = fun k => m ((c : Thread nD τ).loc main_arg1) (ix3 b i k) :=
    funext fun k => read1 m c t r k b i hb hi
  have h2 : (fun k : Fin 384 => (iblk m c 2 t (ix3 0 r k) : EReal)) = fun k => m ((c : Thread nD τ).loc main_arg2) (ix3 b i k) :=
    funext fun k => read2 m c t r k b i hb hi
  have h3 : (fun k : Fin 256 => HAdd.hAdd (α := EReal) (β := EReal) (γ := EReal) (iblk m c 3 t (ix3 0 r k)) (iblk m c 4 t (ix3 0 r k)))
      = fun k => (HAdd.hAdd (α := EReal) (β := EReal) (γ := EReal) (m ((c : Thread nD τ).loc main_arg3) (ix3 b i k)) (m ((c : Thread nD τ).loc main_arg4) (ix3 b i k))) :=
    funext fun k => Ideal.add_congr (read3 m c t r k b i hb hi) (read4 m c t r k b i hb hi)
  have h5 : (fun k : Fin 256 => (X0_5 m c t (ix3 0 r k) : EReal)) = fun k : Fin 256 => m ((c : Thread nD τ).loc main_arg5) (ix3 b i ⟨2304 + k, by omega⟩) :=
    funext fun k => zread m c t r k b i hb hi
  have h6 : (fun k : Fin 1024 => (iblk m c 6 t (ix4 0 0 0 ⟨2048 + k, by omega⟩) : EReal))
      = fun k : Fin 1024 => m ((c : Thread nD τ).loc main_arg6) (ix3 1 g ⟨2048 + k, by omega⟩) :=
    funext fun k => mread m c t _ b g hb hg
  have h7 : (fun k q : Fin 1024 => (iblk m c 7 t (ix3 0 k q) : EReal)) = fun k q => m ((c : Thread nD τ).loc main_arg8) (ix3 1 k q) :=
    funext fun k => funext fun q => oread m c t k q
  have hG : (fun q : Fin 256 => (k0_pay2 (F := Ideal) (iblk m c 3 t) (iblk m c 4 t) (iblk m c 9 t) (iblk m c 8 t) (X0_5 m c t) (ix2 r q) : EReal))
      = gated (fun k => (HAdd.hAdd (α := EReal) (β := EReal) (γ := EReal) (m ((c : Thread nD τ).loc main_arg3) (ix3 b i k)) (m ((c : Thread nD τ).loc main_arg4) (ix3 b i k))))
          (fun k => m ((c : Thread nD τ).loc main_arg5) (ix3 b i ⟨2304 + k, by omega⟩)) (fun d => m ((c : Thread nD τ).loc main_arg7) (ix2 1 d)) := by
    refine (funext fun q => pay2 _ _ _ _ _ r q).trans ?_
    rw [h3, h5]
    exact gatedK_eq _ _ _ _ _ (fun k q => hread m c t k q) (fun k => hf (ix3 b i k)) (fun q => nread m c t q)
  rw [hG, h0, h1, h2, h6, h7]
  rfl

/-- The layer norm's gain and shift at a column. -/
theorem affine (c : Dev nD) (t : Fin cfg0.N) (q : Fin 1024) :
    (iblk m c 10 t (ix3 0 0 q) : EReal) = m ((c : Thread nD τ).loc main_arg9) (ix2 1 q)
      ∧ (iblk m c 11 t (ix3 0 0 q) : EReal) = m ((c : Thread nD τ).loc main_arg10) (ix2 1 q) := by
  constructor
  · refine Eq.trans ?_ (lng m c 1 q)
    blk_ext [iblk, idx t]
  · refine Eq.trans ?_ (lnb m c 1 q)
    blk_ext [iblk, idx t]

/-- The kernel's scaled and shifted stream at one token, as the reference's row. -/
theorem stream (c : Dev nD) (hf : Finite m c) (t : Fin cfg0.N) (r : Fin 256) (q : Fin 1024) (b : Fin 4) (i : Fin 4352) (g : Fin 8)
    (hb : (b : ℕ) = t.val / 17) (hi : (i : ℕ) = t.val % 17 * 256 + r) (hg : (g : ℕ) = if t.val % 17 = 0 then 4 else (b : ℕ)) :
    k0_pay4 (F := Ideal) (k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t))
        (iblk m c 10 t) (iblk m c 11 t) (ix2 r q)
      = HAdd.hAdd (α := EReal) (β := EReal) (γ := EReal) (normed (zrow 1 g (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i) q
          * (m ((c : Thread nD τ).loc main_arg9) (ix2 1 q) : EReal)) (m ((c : Thread nD τ).loc main_arg10) (ix2 1 q)) := by
  pointwise [k0_pay4]
  exact Ideal.add_congr (Ideal.mul_congr (core m c hf t r q b i g hb hi hg) (affine m c t q).1) (affine m c t q).2

/-- The row of the modulations a token reads: the context's or its batch's. -/
theorem modat (t : ℕ) (ht : t < 68) (b : Fin 4) (i : Fin 4352) (r : Fin 256) (hb : (b : ℕ) = t / 17) (hi : (i : ℕ) = t % 17 * 256 + r) :
    ∃ g : Fin 8, (g : ℕ) = (if t % 17 = 0 then 4 else (b : ℕ)) ∧ (g : ℕ) = if (i : ℕ) < 256 then 4 else (b : ℕ) := by
  by_cases h : t % 17 = 0
  · exact ⟨4, by rw [if_pos h]; rfl, by rw [if_pos (by omega)]; rfl⟩
  · exact ⟨⟨b, by omega⟩, by rw [if_neg h], by rw [if_neg (by omega)]⟩

/-- What the run leaves in the first output. -/
theorem final14 (c : Dev nD) (hf : Finite m c) : (dats m 0 c).arrAt 14 (cfgs 0).N
    = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  unfold outsAt0
  frame_out
  have ht : t.val < 68 := lt_of_lt_of_eq t.isLt N_0
  suffices h : ∀ j : Cert.OutInRefIdeal.S4x4352x1024.Idx, (j 0 : ℕ) = t.val / 17 → (j 1 : ℕ) = t.val % 17 * 256 + y 1 → (j 2 : ℕ) = y 2 → _ = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) j by
    refine h _ ?_ ?_ ?_
    all_goals (idx_vars y; blk_simp [idx t] <;> try omega)
  intro j hj0 hj1 hj2
  idx_vars y
  idx_vars j
  pointwise at hj0 hj1 hj2
  obtain rfl : y2 = j2 := Fin.ext hj2.symm
  obtain ⟨g, hg, hg'⟩ := modat t.val ht j0 j1 y1 hj0 hj1
  rw [refx _ _ _ _ _ _ _ _ _ _ _ j0 j1 y2 g hg']
  pointwise [k0_pay5]
  exact stream m c hf t y1 y2 j0 j1 g hj0 hj1 hg

/-- The kernel's projection at one token and column: the reference's inside its 3344 columns. -/
theorem proj (c : Dev nD) (hf : Finite m c) (t : Fin cfg0.N) (r : Fin 256) (q : Fin 3456) (j : Cert.OutInRefIdeal.S4x4352x3344.Idx)
    (hj0 : (j 0 : ℕ) = t.val / 17) (hj1 : (j 1 : ℕ) = t.val % 17 * 256 + r) (hj2 : (j 2 : ℕ) = q) :
    k0_pay6 (F := Ideal) (k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t))
        (iblk m c 10 t) (iblk m c 11 t) (iblk m c 12 t) (iblk m c 13 t) (ix2 r q)
      = REFP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) j := by
  have ht : t.val < 68 := lt_of_lt_of_eq t.isLt N_0
  idx_vars j
  pointwise at hj0 hj1 hj2
  obtain ⟨g, hg, hg'⟩ := modat t.val ht j0 j1 r hj0 hj1
  rw [refp _ _ _ _ _ _ _ _ _ _ _ _ j0 j1 j2 g hg']
  pointwise [k0_pay6]
  refine Finset.sum_congr rfl fun x _ => Ideal.mul_congr (Ideal.add_congr (Ideal.mul_congr ?_ (Ideal.add_congr rfl ?_)) ?_) ?_
  · exact stream m c hf t r x j0 j1 g hj0 hj1 hg
  · exact mread' m c t _ j0 g hj0 hg
  · exact mread' m c t _ j0 g hj0 hg
  · rw [wread m c t x q, dif_pos (by omega)]
    exact congrArg (fun a => m ((c : Thread nD τ).loc main_arg11) (ix3 2 x a)) (Fin.ext hj2.symm)

/-- The kernel's projection at one token and a padded column is zero. -/
theorem proj_pad (c : Dev nD) (t : Fin cfg0.N) (r : Fin 256) (q : Fin 3456) (hq : 3344 ≤ (q : ℕ)) :
    k0_pay6 (F := Ideal) (k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t))
        (iblk m c 10 t) (iblk m c 11 t) (iblk m c 12 t) (iblk m c 13 t) (ix2 r q) = (0 : EReal) := by
  pointwise [k0_pay6]
  refine Finset.sum_eq_zero fun x _ => ?_
  rw [wread m c t x q, dif_neg (by omega)]
  exact mul_zero _

/-- What the run leaves in the third output: the keys and values. -/
theorem final16 (c : Dev nD) (hf : Finite m c) : (dats m 0 c).arrAt 16 (cfgs 0).N
    = REFB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 16 _ (by decide +kernel) fun t _ y => ?_
  blk_simp
  rw [after0_16]
  unfold outsAt0
  frame_out
  idx_vars y
  pointwise [k0_pay1, k0_pay9, REFB]
  have h0 := y0.isLt
  refine proj m c hf t y1 _ _ ?_ ?_ ?_
  all_goals (blk_simp [idx t] <;> try omega)

/-- The reference's second result: left of the keys and values, right of them, and the padding. -/
theorem rest_cases (a0 : FVec Ideal Cert.OutInRefIdeal.S4x4352x1024 .f32) (a1 a2 : FVec Ideal Cert.OutInRefIdeal.S4x4352x384 .f32)
    (a3 a4 : FVec Ideal Cert.OutInRefIdeal.S4x4352x256 .f32) (a5 : FVec Ideal Cert.OutInRefIdeal.S4x4352x2688 .f32)
    (a6 : FVec Ideal Cert.OutInRefIdeal.S4x8x3072 .f32) (a7 : FVec Ideal Cert.OutInRefIdeal.S4x64 .f32)
    (a8 : FVec Ideal Cert.OutInRefIdeal.S4x1024x1024 .f32) (a9 a10 : FVec Ideal Cert.OutInRefIdeal.S4x1024 .f32)
    (a11 : FVec Ideal Cert.OutInRefIdeal.S4x1024x3344 .f32) (b : Fin 4) (i : Fin 4352) (q : Fin 2688) :
    REFA a0 a1 a2 a3 a4 a5 a6 a7 a8 a9 a10 a11 (ix3 b i q)
      = if h : (q : ℕ) < 1920 then REFP a0 a1 a2 a3 a4 a5 a6 a7 a8 a9 a10 a11 (ix3 b i ⟨q, by omega⟩)
        else if h' : (q : ℕ) < 2576 then REFP a0 a1 a2 a3 a4 a5 a6 a7 a8 a9 a10 a11 (ix3 b i ⟨q + 768, by omega⟩) else (0 : EReal) := by
  pointwise [REFA]
  split
  next h => rfl
  next h =>
    by_cases h' : (q : ℕ) < 2576
    · rw [dif_pos (by omega), dif_pos h']
      exact congrArg (fun x => REFP a0 a1 a2 a3 a4 a5 a6 a7 a8 a9 a10 a11 (ix3 b i x)) (Fin.ext (by dsimp only; omega))
    · rw [dif_neg (by omega), dif_neg h']

/-- The first store of a point: the columns left of the keys and values. -/
theorem store_left (c : Dev nD) (hf : Finite m c) (t : Fin cfg0.N) (x : S1x256x1920.Idx) (j : Cert.OutInRefIdeal.S4x4352x2688.Idx)
    (hj0 : (j 0 : ℕ) = t.val / 17) (hj1 : (j 1 : ℕ) = t.val % 17 * 256 + x 1) (hj2 : (j 2 : ℕ) = x 2) :
    k0_pay7 (F := Ideal) (k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t))
        (iblk m c 10 t) (iblk m c 11 t) (iblk m c 12 t) (iblk m c 13 t) x
      = REFA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) j := by
  idx_vars x
  idx_vars j
  have hx := x2.isLt
  pointwise [k0_pay7] at hj0 hj1 hj2 ⊢
  rw [rest_cases, dif_pos (by omega)]
  exact proj m c hf t x1 _ _ hj0 hj1 (by pointwise; omega)

/-- The second store of a point: the columns right of the keys and values, and the padding. -/
theorem store_right (c : Dev nD) (hf : Finite m c) (t : Fin cfg0.N) (x : S1x256x768.Idx) (j : Cert.OutInRefIdeal.S4x4352x2688.Idx)
    (hj0 : (j 0 : ℕ) = t.val / 17) (hj1 : (j 1 : ℕ) = t.val % 17 * 256 + x 1) (hj2 : (j 2 : ℕ) = 1920 + x 2) :
    k0_pay8 (F := Ideal) (k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t))
        (iblk m c 10 t) (iblk m c 11 t) (iblk m c 12 t) (iblk m c 13 t) x
      = REFA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) j := by
  idx_vars x
  idx_vars j
  have hx := x2.isLt
  pointwise [k0_pay8] at hj0 hj1 hj2 ⊢
  rw [rest_cases, dif_neg (by omega)]
  by_cases h : (j2 : ℕ) < 2576
  · rw [dif_pos h]
    exact proj m c hf t x1 _ _ hj0 hj1 (by pointwise; omega)
  · rw [dif_neg h]
    exact proj_pad m c t x1 _ (by dsimp only; omega)

/-- What the run leaves in the second output. -/
theorem final15 (c : Dev nD) (hf : Finite m c) : (dats m 0 c).arrAt 15 (cfgs 0).N
    = REFA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]
  unfold outsAt0
  frame_out
  canon_tiles x h using View.cover_of_tiledBy _ ![1, 256, 384] (by sl_kernel_rfl) y
  · refine store_right m c hf t x _ ?_ ?_ ?_
    all_goals (blk_simp [idx t] <;> try omega)
  · refine store_left m c hf t x _ ?_ ?_ ?_
    all_goals (blk_simp [idx t] <;> try omega)

end Cert.OutInIdeal.Value

end

end
-- ==== Proof.LastHost.lean ====
/- What the host operations before the last output projection leave in its operands. -/
module

public import proofs.«01_k».proof.Proof.Gen.LastIdeal.Frame
public import proofs.«01_k».proof.Proof.OutMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastIdeal.Value

open Cert.LastIdeal Cert.LastIdeal.Gen Cert.OutMath

variable (m : (ℓ : Loc nD τ sig) → Buf (Elt Ideal) ℓ)

/-- The tokens reach the call unchanged. -/
theorem arg0 (c : Dev nD) : V m c main_arg0 = m ((c : Thread nD τ).loc main_arg0) := by
  unfold V
  simp only [hostOps0, hostOps0_1, hostOps0_2, hostOps0_3, hostOps0_4, List.flatten_cons, List.flatten_nil,
    List.append_nil, List.cons_append, List.nil_append]
  after_results_simp

/-- The recurrence outputs reach the call unchanged. -/
theorem arg1 (c : Dev nD) : V m c main_arg1 = m ((c : Thread nD τ).loc main_arg1) := by
  unfold V
  simp only [hostOps0, hostOps0_1, hostOps0_2, hostOps0_3, hostOps0_4, List.flatten_cons, List.flatten_nil,
    List.append_nil, List.cons_append, List.nil_append]
  after_results_simp

/-- The attention outputs reach the call unchanged. -/
theorem arg2 (c : Dev nD) : V m c main_arg2 = m ((c : Thread nD τ).loc main_arg2) := by
  unfold V
  simp only [hostOps0, hostOps0_1, hostOps0_2, hostOps0_3, hostOps0_4, List.flatten_cons, List.flatten_nil,
    List.append_nil, List.cons_append, List.nil_append]
  after_results_simp

/-- The forward delta outputs reach the call unchanged. -/
theorem arg3 (c : Dev nD) : V m c main_arg3 = m ((c : Thread nD τ).loc main_arg3) := by
  unfold V
  simp only [hostOps0, hostOps0_1, hostOps0_2, hostOps0_3, hostOps0_4, List.flatten_cons, List.flatten_nil,
    List.append_nil, List.cons_append, List.nil_append]
  after_results_simp

/-- The backward delta outputs reach the call unchanged. -/
theorem arg4 (c : Dev nD) : V m c main_arg4 = m ((c : Thread nD τ).loc main_arg4) := by
  unfold V
  simp only [hostOps0, hostOps0_1, hostOps0_2, hostOps0_3, hostOps0_4, List.flatten_cons, List.flatten_nil,
    List.append_nil, List.cons_append, List.nil_append]
  after_results_simp

/-- The projections reach the call unchanged. -/
theorem arg5 (c : Dev nD) : V m c main_arg5 = m ((c : Thread nD τ).loc main_arg5) := by
  unfold V
  simp only [hostOps0, hostOps0_1, hostOps0_2, hostOps0_3, hostOps0_4, List.flatten_cons, List.flatten_nil,
    List.append_nil, List.cons_append, List.nil_append]
  after_results_simp

/-- The output weights: the argument's. -/
theorem wout (c : Dev nD) (l : Fin 4) (k q : Fin 1024) : V m c main_v0 (ix3 l k q) = m ((c : Thread nD τ).loc main_arg8) (ix3 l k q) := by
  unfold V
  simp only [hostOps0, hostOps0_1, hostOps0_2, hostOps0_3, hostOps0_4, List.flatten_cons, List.flatten_nil,
    List.append_nil, List.cons_append, List.nil_append]
  after_results_simp
  pointwise

/-- The norm's weights, repeated for every head. -/
theorem nw4 (c : Dev nD) (l : Fin 4) (q : Fin 256) : V m c main_v4 (ix3 l 0 q)
    = m ((c : Thread nD τ).loc main_arg7) (ix2 l ⟨q % 64, by omega⟩) := by
  unfold V
  simp only [hostOps0, hostOps0_1, hostOps0_2, hostOps0_3, hostOps0_4, List.flatten_cons, List.flatten_nil,
    List.append_nil, List.cons_append, List.nil_append]
  after_results_simp
  pointwise

/-- The indicator of two channels of one head. -/
theorem hsum (c : Dev nD) (k q : Fin 256) : V m c main_v14 (ix2 k q)
    = (if (k : ℕ) / 64 = (q : ℕ) / 64 then (1 : EReal) else 0) := by
  unfold V
  simp only [hostOps0, hostOps0_1, hostOps0_2, hostOps0_3, hostOps0_4, List.flatten_cons, List.flatten_nil,
    List.append_nil, List.cons_append, List.nil_append,
    StableHlo.TRef.binary, StableHlo.TRef.nullary, StableHlo.TRef.unary, StableHlo.TRef.ternary, StableHlo.TRef.toBuf,
    StableHlo.TRef.ofBuf, cast_eq, id]
  after_results_simp
  pointwise
  exact same_head k q

/-- The layer norm's gains: the argument's. -/
theorem lng (c : Dev nD) (l : Fin 4) (q : Fin 1024) : V m c main_v15 (ix3 l 0 q) = m ((c : Thread nD τ).loc main_arg9) (ix2 l q) := by
  unfold V
  simp only [hostOps0, hostOps0_1, hostOps0_2, hostOps0_3, hostOps0_4, List.flatten_cons, List.flatten_nil,
    List.append_nil, List.cons_append, List.nil_append]
  after_results_simp
  pointwise

/-- The layer norm's shifts: the argument's. -/
theorem lnb (c : Dev nD) (l : Fin 4) (q : Fin 1024) : V m c main_v16 (ix3 l 0 q) = m ((c : Thread nD τ).loc main_arg10) (ix2 l q) := by
  unfold V
  simp only [hostOps0, hostOps0_1, hostOps0_2, hostOps0_3, hostOps0_4, List.flatten_cons, List.flatten_nil,
    List.append_nil, List.cons_append, List.nil_append]
  after_results_simp
  pointwise

/-- The selected modulations of a layer: row `2 b` the context's, row `2 b + 1` batch `b`'s. -/
theorem modrow (c : Dev nD) (l : Fin 4) (g r : Fin 8) (q : Fin 3072) (hr : (r : ℕ) = if (g : ℕ) % 2 = 0 then 4 else (g : ℕ) / 2) :
    V m c main_v23 (ix4 l g 0 q) = m ((c : Thread nD τ).loc main_arg6) (ix3 l r q) := by
  unfold V
  simp only [hostOps0, hostOps0_1, hostOps0_2, hostOps0_3, hostOps0_4, List.flatten_cons, List.flatten_nil,
    List.append_nil, List.cons_append, List.nil_append]
  after_results_simp
  pointwise
  after_results_simp
  pointwise
  by_cases h : (g : ℕ) % 2 = 0
  · rw [dif_pos (by omega)]
    rw [if_pos h] at hr
    obtain rfl : r = 4 := Fin.ext hr
    rfl
  · rw [dif_neg (by omega)]
    rw [if_neg h] at hr
    exact congrArg (fun a => m ((c : Thread nD τ).loc main_arg6) (ix3 l a q)) (Fin.ext hr.symm)

end Cert.LastIdeal.Value

end

end
-- ==== Proof.LastRefTerm.lean ====
/- The reference's results as terms of its arguments, stage by stage. -/
module

public import proofs.«01_k».proof.Proof.Gen.LastRefIdeal
public import Idealize.ShloMosaic.Lib.StableHlo.Run
public import Idealize.ShloMosaic.Lib.Pointwise

@[expose] public section

set_option maxRecDepth 16384

noncomputable section

namespace Cert.LastRefIdeal.Value

open Cert.LastRefIdeal Cert.LastRefIdeal.Gen Idealize.ShloMosaic Idealize.ShloMosaic.TcCoe Idealize.SL.Sem Idealize.ShloMosaic.StableHlo

/-- The gated delta output of every token and channel. -/
def REFG (a3 : FVec Ideal S4x4352x256 .f32) (a4 : FVec Ideal S4x4352x256 .f32) (a5 : FVec Ideal S4x4352x2688 .f32) (a7 : FVec Ideal S4x64 .f32) : FVec Ideal S4x4096x256 .f32 :=
  shapeCast _ (mulf (mulf (mulf (shapeCast _ (addf (extractStridedSlice S4x4096x256 ![0, 256, 0] a3 slices_S4x4352x256_S4x4096x256_0_256_0) (extractStridedSlice S4x4096x256 ![0, 256, 0] a4 slices_S4x4352x256_S4x4096x256_0_256_0)) shapeCasts_S4x4096x256_S4x4096x4x64) (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf (shapeCast _ (addf (extractStridedSlice S4x4096x256 ![0, 256, 0] a3 slices_S4x4352x256_S4x4096x256_0_256_0) (extractStridedSlice S4x4096x256 ![0, 256, 0] a4 slices_S4x4352x256_S4x4096x256_0_256_0)) shapeCasts_S4x4096x256_S4x4096x4x64) (shapeCast _ (addf (extractStridedSlice S4x4096x256 ![0, 256, 0] a3 slices_S4x4352x256_S4x4096x256_0_256_0) (extractStridedSlice S4x4096x256 ![0, 256, 0] a4 slices_S4x4352x256_S4x4096x256_0_256_0)) shapeCasts_S4x4096x256_S4x4096x4x64)) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x1x64_S4x4096x4x64_0_1_2_3 (broadcastInDim S1x1x1x64 ![3] bcast_S64_S1x1x1x64_3 (shapeCast _ (extractStridedSlice S1x64 ![3, 0] a7 slices_S4x64_S1x64_3_0) shapeCasts_S1x64_S64)))) (mulf (shapeCast _ (extractStridedSlice S4x4096x256 ![0, 256, 0] (extractStridedSlice S4x4352x256 ![0, 0, 2304] a5 slices_S4x4352x2688_S4x4352x256_0_0_2304) slices_S4x4352x256_S4x4096x256_0_256_0) shapeCasts_S4x4096x256_S4x4096x4x64) (Host.divf (broadcastInDim S4x4096x4x64 ![] bcast_S_S4x4096x4x64 (constant S_ .f32 0x3F800000#32)) (addf (broadcastInDim S4x4096x4x64 ![] bcast_S_S4x4096x4x64 (constant S_ .f32 0x3F800000#32)) (Host.exp (Host.negf (shapeCast _ (extractStridedSlice S4x4096x256 ![0, 256, 0] (extractStridedSlice S4x4352x256 ![0, 0, 2304] a5 slices_S4x4352x2688_S4x4352x256_0_0_2304) slices_S4x4352x256_S4x4096x256_0_256_0) shapeCasts_S4x4096x256_S4x4096x4x64))))))) shapeCasts_S4x4096x4x64_S4x4096x256

/-- The residual stream after the heads: the scaled tokens plus the gated projection. -/
def REFZ (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) : FVec Ideal S4x4096x1024 .f32 :=
  addf (mulf (broadcastInDim S4x4096x1024 ![] bcast_S_S4x4096x1024 (constant S_ .f32 0x3FD744FD#32)) (extractStridedSlice S4x4096x1024 ![0, 256, 0] a0 slices_S4x4352x1024_S4x4096x1024_0_256_0)) (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1024 ![3, 0, 2048] a6 slices_S4x8x3072_S1x4x1024_3_0_2048) shapeCasts_S1x4x1024_S4x1024))) (Host.dotGeneral dot_S4x4096x1024_S1024x1024_S4x4096x1024_2_0_01_1_n_n none ((concatenate S4x4096x1024 2 [⟨S4x4096x384, ((extractStridedSlice S4x4096x384 ![0, 256, 0] a1 slices_S4x4352x384_S4x4096x384_0_256_0))⟩, ⟨S4x4096x384, ((extractStridedSlice S4x4096x384 ![0, 256, 0] a2 slices_S4x4352x384_S4x4096x384_0_256_0))⟩, ⟨S4x4096x256, ((REFG a3 a4 a5 a7))⟩] concatenates_S4x4096x384_S4x4096x384_S4x4096x256_S4x4096x1024_d2)) (shapeCast _ (extractStridedSlice S1x1024x1024 ![3, 0, 0] a8 slices_S4x1024x1024_S1x1024x1024_3_0_0) shapeCasts_S1x1024x1024_S1024x1024)))

/-- An array minus the means of its rows. -/
def REFC (z : FVec Ideal S4x4096x1024 .f32) : FVec Ideal S4x4096x1024 .f32 :=
  subf z (broadcastInDim S4x4096x1024 ![0, 1, 2] bcast_S4x4096x1_S4x4096x1024_0_1_2 (Host.divf (broadcastInDim S4x4096x1 ![0, 1] bcast_S4x4096_S4x4096x1_0_1 (Host.reduceAdd z (constant S_ .f32 0x00000000#32) reducesTo_S4x4096x1024_S4x4096_d2 h_S_)) (broadcastInDim S4x4096x1 ![] bcast_S_S4x4096x1 (constant S_ .f32 0x44800000#32))))

/-- The normalised stream, scaled and shifted. -/
def REFX (a0 : FVec Ideal S4x4352x1024 .f32) (a1 : FVec Ideal S4x4352x384 .f32) (a2 : FVec Ideal S4x4352x384 .f32) (a3 : FVec Ideal S4x4352x256 .f32) (a4 : FVec Ideal S4x4352x256 .f32) (a5 : FVec Ideal S4x4352x2688 .f32) (a6 : FVec Ideal S4x8x3072 .f32) (a7 : FVec Ideal S4x64 .f32) (a8 : FVec Ideal S4x1024x1024 .f32) (a9 : FVec Ideal S4x1024 .f32) (a10 : FVec Ideal S4x1024 .f32) : FVec Ideal S4x4096x1024 .f32 :=
  addf (mulf (mulf (REFC (REFZ a0 a1 a2 a3 a4 a5 a6 a7 a8)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (REFC (REFZ a0 a1 a2 a3 a4 a5 a6 a7 a8)) (REFC (REFZ a0 a1 a2 a3 a4 a5 a6 a7 a8))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ (extractStridedSlice S1x1024 ![3, 0] a9 slices_S4x1024_S1x1024_3_0) shapeCasts_S1x1024_S1024)))) (broadcastInDim S4x4096x1024 ![0, 1, 2] bcast_S1x1x1024_S4x4096x1024_0_1_2 (broadcastInDim S1x1x1024 ![2] bcast_S1024_S1x1x1024_2 (shapeCast _ (extractStridedSlice S1x1024 ![3, 0] a10 slices_S4x1024_S1x1024_3_0) shapeCasts_S1x1024_S1024)))

end Cert.LastRefIdeal.Value

end

end
-- ==== Proof.LastRefRow.lean ====
/- The reference's results at one token, as functions of its rows. -/
module

public import proofs.«01_k».proof.Proof.LastRefTerm
public import proofs.«01_k».proof.Proof.OutMath

@[expose] public section

set_option maxRecDepth 16384

noncomputable section

namespace Cert.LastRefIdeal.Value

open Cert.LastRefIdeal Cert.LastRefIdeal.Gen Cert.OutMath Idealize.ShloMosaic Idealize.ShloMosaic.TcCoe Idealize.SL.Sem Idealize.ShloMosaic.StableHlo

variable (a0 : FVec Ideal S4x4352x1024 .f32) (a1 a2 : FVec Ideal S4x4352x384 .f32) (a3 a4 : FVec Ideal S4x4352x256 .f32)
  (a5 : FVec Ideal S4x4352x2688 .f32) (a6 : FVec Ideal S4x8x3072 .f32) (a7 : FVec Ideal S4x64 .f32) (a8 : FVec Ideal S4x1024x1024 .f32)
  (a9 a10 : FVec Ideal S4x1024 .f32)

/-- The gated delta output of a token. -/
theorem refg (b : Fin 4) (i : Fin 4096) (c : Fin 256) : REFG a3 a4 a5 a7 (ix3 b i c)
    = gated (fun c => a3 (ix3 b ⟨256 + i, by omega⟩ c) + a4 (ix3 b ⟨256 + i, by omega⟩ c)) (fun c => a5 (ix3 b ⟨256 + i, by omega⟩ ⟨2304 + c, by omega⟩)) (fun d => a7 (ix2 3 d)) c := by
  pointwise [REFG]
  rfl

/-- The residual stream of a token. -/
theorem refz (b : Fin 4) (i : Fin 4096) (c : Fin 1024) (r : Fin 8) (hr : (r : ℕ) = (b : ℕ)) :
    REFZ a0 a1 a2 a3 a4 a5 a6 a7 a8 (ix3 b i c) = zrow 3 r a0 a1 a2 a3 a4 a5 a6 a7 a8 b ⟨256 + i, by omega⟩ c := by
  pointwise [REFZ]
  simp only [refg]
  exact Ideal.add_congr rfl (Ideal.mul_congr (congrArg (fun x => a6 (ix3 3 x ⟨2048 + c, by omega⟩)) (Fin.ext hr.symm)) rfl)

/-- The normalised stream of a token. -/
theorem refx (b : Fin 4) (i : Fin 4096) (c : Fin 1024) (r : Fin 8) (hr : (r : ℕ) = (b : ℕ)) :
    REFX a0 a1 a2 a3 a4 a5 a6 a7 a8 a9 a10 (ix3 b i c)
      = normed (zrow 3 r a0 a1 a2 a3 a4 a5 a6 a7 a8 b ⟨256 + i, by omega⟩) c * a9 (ix2 3 c) + a10 (ix2 3 c) := by
  pointwise [REFX, REFC]
  simp only [fun c => refz a0 a1 a2 a3 a4 a5 a6 a7 a8 b i c r hr]
  rfl

end Cert.LastRefIdeal.Value

end

end
-- ==== Proof.LastValue.lean ====
/- The output projection's result arrays are the reference's terms. -/
module

public import proofs.«01_k».proof.Proof.Gen.LastIdeal.Frame
public import proofs.«01_k».proof.Proof.OutMath
public import proofs.«01_k».proof.Proof.LastHost
public import proofs.«01_k».proof.Proof.LastRefRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastIdeal.Value

open Cert.LastIdeal Cert.LastIdeal.Gen Cert.OutMath
open Cert.LastRefIdeal.Value (REFX refx)

/-- The kernel's gated delta output of a row. -/
theorem pay2 (v0 v2 : Vec Ideal S1x256x256 .f32) (v5 : Vec Ideal S256x256 .bf16) (v21 : Vec Ideal S1x1x256 .f32) (v25 : Vec Ideal S1x256x256 .f32)
    (r c : Fin 256) : k0_pay2 (F := Ideal) v0 v2 v5 v21 v25 (ix2 r c)
      = gatedK (fun k => v0 (ix3 0 r k) + v2 (ix3 0 r k)) (fun k => v25 (ix3 0 r k)) (fun k q => v5 (ix2 k q)) (fun k => v21 (ix3 0 0 k)) c := by
  pointwise [k0_pay2]
  rfl

/-- The kernel's normalised stream of a row. -/
theorem pay3 (v35 : FVec Ideal S256x256 .f32) (v36 v39 : Vec Ideal S1x256x384 .f32) (v44 : Vec Ideal S1x1024x1024 .bf16) (v47 : Vec Ideal S1x1x1x3072 .f32)
    (v50 : Vec Ideal S1x256x1024 .f32) (r : Fin 256) (c : Fin 1024) : k0_pay3 (F := Ideal) v35 v36 v39 v44 v47 v50 (ix2 r c)
      = normed (resid (fun q => v50 (ix3 0 r q)) (fun q => v47 (ix4 0 0 0 ⟨2048 + q, by omega⟩))
          (mixed (fun q => v36 (ix3 0 r q)) (fun q => v39 (ix3 0 r q)) (fun q => v35 (ix2 r q))) (fun k q => v44 (ix3 0 k q))) c := by
  pointwise [k0_pay3]
  rfl

variable (m : (ℓ : Loc nD τ sig) → Buf (Elt Ideal) ℓ)

/-- Every window's block index at every grid point. -/
theorem idx : ∀ t : Fin cfg0.N, win0_0.index t = ![t.val / 16, t.val % 16 + 1, 0]
    ∧ win0_1.index t = ![t.val / 16, t.val % 16 + 1, 0]
    ∧ win0_2.index t = ![t.val / 16, t.val % 16 + 1, 0]
    ∧ win0_3.index t = ![t.val / 16, t.val % 16 + 1, 0]
    ∧ win0_4.index t = ![t.val / 16, t.val % 16 + 1, 0]
    ∧ win0_5.index t = ![t.val / 16, t.val % 16 + 1, 9]
    ∧ win0_6.index t = ![3, t.val / 16 * 2 + 1, 0, 0]
    ∧ win0_7.index t = ![3, 0, 0]
    ∧ win0_8.index t = ![3, 0, 0]
    ∧ win0_9.index t = ![0, 0]
    ∧ win0_10.index t = ![3, 0, 0]
    ∧ win0_11.index t = ![3, 0, 0]
    ∧ win0_12.index t = ![t.val / 16, t.val % 16, 0] :=
  (by decide +kernel : ∀ t : Fin grid0.N, _)

/-- An entry of the tokens' block. -/
theorem read0 (c : Dev nD) (t : Fin cfg0.N) (r : Fin 256) (k : Fin 1024) (b : Fin 4) (i : Fin 4352) (hb : (b : ℕ) = t.val / 16)
    (hi : (i : ℕ) = (t.val % 16 + 1) * 256 + r) : iblk m c 0 t (ix3 0 r k) = m ((c : Thread nD τ).loc main_arg0) (ix3 b i k) := by
  refine Eq.trans ?_ (congrFun (arg0 m c) (ix3 b i k))
  blk_ext [iblk, idx t]

/-- An entry of the recurrence outputs' block. -/
theorem read1 (c : Dev nD) (t : Fin cfg0.N) (r : Fin 256) (k : Fin 384) (b : Fin 4) (i : Fin 4352) (hb : (b : ℕ) = t.val / 16)
    (hi : (i : ℕ) = (t.val % 16 + 1) * 256 + r) : iblk m c 1 t (ix3 0 r k) = m ((c : Thread nD τ).loc main_arg1) (ix3 b i k) := by
  refine Eq.trans ?_ (congrFun (arg1 m c) (ix3 b i k))
  blk_ext [iblk, idx t]

/-- An entry of the attention outputs' block. -/
theorem read2 (c : Dev nD) (t : Fin cfg0.N) (r : Fin 256) (k : Fin 384) (b : Fin 4) (i : Fin 4352) (hb : (b : ℕ) = t.val / 16)
    (hi : (i : ℕ) = (t.val % 16 + 1) * 256 + r) : iblk m c 2 t (ix3 0 r k) = m ((c : Thread nD τ).loc main_arg2) (ix3 b i k) := by
  refine Eq.trans ?_ (congrFun (arg2 m c) (ix3 b i k))
  blk_ext [iblk, idx t]

/-- An entry of the forward delta outputs' block. -/
theorem read3 (c : Dev nD) (t : Fin cfg0.N) (r : Fin 256) (k : Fin 256) (b : Fin 4) (i : Fin 4352) (hb : (b : ℕ) = t.val / 16)
    (hi : (i : ℕ) = (t.val % 16 + 1) * 256 + r) : iblk m c 3 t (ix3 0 r k) = m ((c : Thread nD τ).loc main_arg3) (ix3 b i k) := by
  refine Eq.trans ?_ (congrFun (arg3 m c) (ix3 b i k))
  blk_ext [iblk, idx t]

/-- An entry of the backward delta outputs' block. -/
theorem read4 (c : Dev nD) (t : Fin cfg0.N) (r : Fin 256) (k : Fin 256) (b : Fin 4) (i : Fin 4352) (hb : (b : ℕ) = t.val / 16)
    (hi : (i : ℕ) = (t.val % 16 + 1) * 256 + r) : iblk m c 4 t (ix3 0 r k) = m ((c : Thread nD τ).loc main_arg4) (ix3 b i k) := by
  refine Eq.trans ?_ (congrFun (arg4 m c) (ix3 b i k))
  blk_ext [iblk, idx t]

/-- The gate of the delta output, read from the projections. -/
theorem zread (c : Dev nD) (t : Fin cfg0.N) (r k : Fin 256) (b : Fin 4) (i : Fin 4352) (hb : (b : ℕ) = t.val / 16)
    (hi : (i : ℕ) = (t.val % 16 + 1) * 256 + r) :
    X0_5 m c t (ix3 0 r k) = m ((c : Thread nD τ).loc main_arg5) (ix3 b i ⟨2304 + k, by omega⟩) := by
  unfold X0_5 Pipeline.Window.fill
  rw [dif_pos (moved0_5 t _)]
  refine Eq.trans ?_ (congrFun (arg5 m c) _)
  blk_ext [iblk, idx t]

/-- An entry of the point's modulation row. -/
theorem mread (c : Dev nD) (t : Fin cfg0.N) (q : Fin 3072) (b : Fin 4) (r : Fin 8) (hb : (b : ℕ) = t.val / 16)
    (hr : (r : ℕ) = (b : ℕ)) :
    iblk m c 6 t (ix4 0 0 0 q) = m ((c : Thread nD τ).loc main_arg6) (ix3 3 r q) := by
  have ht : t.val < 64 := lt_of_lt_of_eq t.isLt N_0
  refine Eq.trans ?_ (modrow m c 3 ⟨t.val / 16 * 2 + 1, by omega⟩ r q (by dsimp only; rw [if_neg (by omega)]; omega))
  blk_ext [iblk, idx t]

/-- The kernel's table of equal heads. -/
theorem hread (c : Dev nD) (t : Fin cfg0.N) (k q : Fin 256) :
    iblk m c 9 t (ix2 k q) = if (k : ℕ) / 64 = (q : ℕ) / 64 then (1 : EReal) else 0 := by
  refine Eq.trans ?_ (hsum m c k q)
  blk_ext [iblk, idx t]

/-- The delta output's weight at a channel. -/
theorem nread (c : Dev nD) (t : Fin cfg0.N) (q : Fin 256) :
    iblk m c 8 t (ix3 0 0 q) = m ((c : Thread nD τ).loc main_arg7) (ix2 3 ⟨q % 64, by omega⟩) := by
  refine Eq.trans ?_ (nw4 m c 3 q)
  blk_ext [iblk, idx t]

/-- An entry of the output projection's weights. -/
theorem oread (c : Dev nD) (t : Fin cfg0.N) (k q : Fin 1024) :
    iblk m c 7 t (ix3 0 k q) = m ((c : Thread nD τ).loc main_arg8) (ix3 3 k q) := by
  refine Eq.trans ?_ (wout m c 3 k q)
  blk_ext [iblk, idx t]

/-- The sums of the two delta outputs are finite. -/
abbrev Finite (c : Dev nD) : Prop := ∀ j : S4x4352x256.Idx,
  (HAdd.hAdd (α := EReal) (β := EReal) (γ := EReal) (m ((c : Thread nD τ).loc main_arg3) j) (m ((c : Thread nD τ).loc main_arg4) j)) ≠ ⊥
    ∧ (HAdd.hAdd (α := EReal) (β := EReal) (γ := EReal) (m ((c : Thread nD τ).loc main_arg3) j) (m ((c : Thread nD τ).loc main_arg4) j)) ≠ ⊤

/-- The kernel's normalised stream at one token is the reference's residual stream, normalised. -/
theorem core (c : Dev nD) (hf : Finite m c) (t : Fin cfg0.N) (r : Fin 256) (q : Fin 1024) (b : Fin 4) (i : Fin 4352) (g : Fin 8)
    (hb : (b : ℕ) = t.val / 16) (hi : (i : ℕ) = (t.val % 16 + 1) * 256 + r) (hg : (g : ℕ) = (b : ℕ)) :
    k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t) (ix2 r q)
      = normed (zrow 3 g (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i) q := by
  have ht : t.val < 64 := lt_of_lt_of_eq t.isLt N_0
  refine (pay3 _ _ _ _ _ _ r q).trans (congrArg (fun z => normed z q) ?_)
  have h0 : (fun k : Fin 1024 => (iblk m c 0 t (ix3 0 r k) : EReal)) = fun k => m ((c : Thread nD τ).loc main_arg0) (ix3 b i k) :=
    funext fun k => read0 m c t r k b i hb hi
  have h1 : (fun k : Fin 384 => (iblk m c 1 t (ix3 0 r k) : EReal)) = fun k => m ((c : Thread nD τ).loc main_arg1) (ix3 b i k) :=
    funext fun k => read1 m c t r k b i hb hi
  have h2 : (fun k : Fin 384 => (iblk m c 2 t (ix3 0 r k) : EReal)) = fun k => m ((c : Thread nD τ).loc main_arg2) (ix3 b i k) :=
    funext fun k => read2 m c t r k b i hb hi
  have h3 : (fun k : Fin 256 => HAdd.hAdd (α := EReal) (β := EReal) (γ := EReal) (iblk m c 3 t (ix3 0 r k)) (iblk m c 4 t (ix3 0 r k)))
      = fun k => (HAdd.hAdd (α := EReal) (β := EReal) (γ := EReal) (m ((c : Thread nD τ).loc main_arg3) (ix3 b i k)) (m ((c : Thread nD τ).loc main_arg4) (ix3 b i k))) :=
    funext fun k => Ideal.add_congr (read3 m c t r k b i hb hi) (read4 m c t r k b i hb hi)
  have h5 : (fun k : Fin 256 => (X0_5 m c t (ix3 0 r k) : EReal)) = fun k : Fin 256 => m ((c : Thread nD τ).loc main_arg5) (ix3 b i ⟨2304 + k, by omega⟩) :=
    funext fun k => zread m c t r k b i hb hi
  have h6 : (fun k : Fin 1024 => (iblk m c 6 t (ix4 0 0 0 ⟨2048 + k, by omega⟩) : EReal))
      = fun k : Fin 1024 => m ((c : Thread nD τ).loc main_arg6) (ix3 3 g ⟨2048 + k, by omega⟩) :=
    funext fun k => mread m c t _ b g hb hg
  have h7 : (fun k q : Fin 1024 => (iblk m c 7 t (ix3 0 k q) : EReal)) = fun k q => m ((c : Thread nD τ).loc main_arg8) (ix3 3 k q) :=
    funext fun k => funext fun q => oread m c t k q
  have hG : (fun q : Fin 256 => (k0_pay2 (F := Ideal) (iblk m c 3 t) (iblk m c 4 t) (iblk m c 9 t) (iblk m c 8 t) (X0_5 m c t) (ix2 r q) : EReal))
      = gated (fun k => (HAdd.hAdd (α := EReal) (β := EReal) (γ := EReal) (m ((c : Thread nD τ).loc main_arg3) (ix3 b i k)) (m ((c : Thread nD τ).loc main_arg4) (ix3 b i k))))
          (fun k => m ((c : Thread nD τ).loc main_arg5) (ix3 b i ⟨2304 + k, by omega⟩)) (fun d => m ((c : Thread nD τ).loc main_arg7) (ix2 3 d)) := by
    refine (funext fun q => pay2 _ _ _ _ _ r q).trans ?_
    rw [h3, h5]
    exact gatedK_eq _ _ _ _ _ (fun k q => hread m c t k q) (fun k => hf (ix3 b i k)) (fun q => nread m c t q)
  rw [hG, h0, h1, h2, h6, h7]
  rfl

/-- The layer norm's gain and shift at a column. -/
theorem affine (c : Dev nD) (t : Fin cfg0.N) (q : Fin 1024) :
    (iblk m c 10 t (ix3 0 0 q) : EReal) = m ((c : Thread nD τ).loc main_arg9) (ix2 3 q)
      ∧ (iblk m c 11 t (ix3 0 0 q) : EReal) = m ((c : Thread nD τ).loc main_arg10) (ix2 3 q) := by
  constructor
  · refine Eq.trans ?_ (lng m c 3 q)
    blk_ext [iblk, idx t]
  · refine Eq.trans ?_ (lnb m c 3 q)
    blk_ext [iblk, idx t]

/-- The kernel's scaled and shifted stream at one token is the reference's. -/
theorem stream (c : Dev nD) (hf : Finite m c) (t : Fin cfg0.N) (r : Fin 256) (q : Fin 1024) (j : Cert.LastRefIdeal.S4x4096x1024.Idx)
    (hj0 : (j 0 : ℕ) = t.val / 16) (hj1 : (j 1 : ℕ) = t.val % 16 * 256 + r) (hj2 : (j 2 : ℕ) = q) :
    k0_pay1 (F := Ideal) (k0_pay3 (F := Ideal) (k0_pay2 (F := Ideal) (iblk m c 3 t) (iblk m c 4 t) (iblk m c 9 t) (iblk m c 8 t) (X0_5 m c t))
        (iblk m c 1 t) (iblk m c 2 t) (iblk m c 7 t) (iblk m c 6 t) (iblk m c 0 t))
        (iblk m c 10 t) (iblk m c 11 t) (ix3 0 r q)
      = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) j := by
  idx_vars j
  pointwise at hj0 hj1 hj2
  obtain rfl : q = j2 := Fin.ext hj2.symm
  rw [refx _ _ _ _ _ _ _ _ _ _ _ j0 j1 q ⟨j0, by omega⟩ rfl]
  pointwise [k0_pay1]
  exact Ideal.add_congr (Ideal.mul_congr (core m c hf t r q j0 ⟨256 + j1, by omega⟩ ⟨j0, by omega⟩ hj0 (by dsimp only; omega) rfl)
    (affine m c t q).1) (affine m c t q).2

/-- What the run leaves in the output. -/
theorem final12 (c : Dev nD) (hf : Finite m c) : (dats m 0 c).arrAt 12 (cfgs 0).N
    = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]
  unfold outsAt0
  frame_out
  idx_vars y
  obtain rfl : y0 = 0 := Subsingleton.elim _ _
  refine stream m c hf t y1 y2 _ ?_ ?_ ?_
  all_goals (blk_simp [idx t] <;> try omega)

end Cert.LastIdeal.Value

end

end
-- ==== Proof.Precond.lean ====
/- The preconditions of the output projections' value claims, read: the sums of the two delta outputs are finite. -/
module

public import proofs.«01_k».proof.Defs
public import proofs.«01_k».proof.Proof.OutValue
public import proofs.«01_k».proof.Proof.LastValue
public import Idealize.ShloMosaic.Lib.ReduceAll
public import Idealize.ShloMosaic.Lib.Claim

@[expose] public section

set_option maxRecDepth 16384

noncomputable section

namespace Cert.Proof

open Idealize.ShloMosaic Idealize.ShloMosaic.TcCoe Idealize.SL.Sem

/-- The shape relations of the precondition of the output projection. -/
theorem delta_facts : Cert.Pre_finite_delta.Facts := ⟨by decide +kernel, by decide +kernel, by decide +kernel⟩

/-- The shape relations of the precondition of the last output projection. -/
theorem last_facts : Cert.Pre_finite_last.Facts := ⟨by decide +kernel, by decide +kernel, by decide +kernel⟩

/-- A number whose absolute value compares below infinity is finite. -/
theorem finite_of_olt (x : EReal) (h : cmpf (F := Ideal) (φ := .f32) (s := ⟨0, ![]⟩) .olt (Host.absf (fun _ => x)) (constant ⟨0, ![]⟩ .f32 0x7F800000#32) (fun k => k.elim0) = 1#1) :
    x ≠ ⊥ ∧ x ≠ ⊤ := by
  pointwise at h
  have hi : Ideal.ofBits .f32 0x7F800000#32 = ⊤ := by
    simp [Ideal.ofBits, Ideal.ieee]
  rw [hi, show FloatOps.absf (F := Ideal) (φ := .f32) x = max x (-x) from rfl] at h
  constructor
  · rintro rfl
    simp at h
  · rintro rfl
    simp at h

attribute [local instance] Cert.OutInIdeal.Gen.facts delta_facts Cert.LastIdeal.Gen.facts last_facts

/-- The output projection's precondition gives finite sums. -/
theorem out_finite (m : (ℓ : Loc Cert.OutInIdeal.nD Cert.OutInIdeal.τ Cert.OutInIdeal.sig) → Buf (Elt Ideal) ℓ)
    (h : Cert.Pre_OutInIdeal_finite_delta m) (c : Dev Cert.OutInIdeal.nD) : Cert.OutInIdeal.Value.Finite m c := fun j =>
  haveI : Subsingleton Cert.Pre_finite_delta.S_.Idx := ⟨fun a b => funext fun k => k.elim0⟩
  finite_of_olt _ (Host.reduce_andi_all _ _ _ _ (fun k => k.elim0) (congrFun (h c) (fun k => k.elim0)) j)

/-- The last output projection's precondition gives finite sums. -/
theorem last_finite (m : (ℓ : Loc Cert.LastIdeal.nD Cert.LastIdeal.τ Cert.LastIdeal.sig) → Buf (Elt Ideal) ℓ)
    (h : Cert.Pre_LastIdeal_finite_last m) (c : Dev Cert.LastIdeal.nD) : Cert.LastIdeal.Value.Finite m c := fun j =>
  haveI : Subsingleton Cert.Pre_finite_last.S_.Idx := ⟨fun a b => funext fun k => k.elim0⟩
  finite_of_olt _ (Host.reduce_andi_all _ _ _ _ (fun k => k.elim0) (congrFun (h c) (fun k => k.elim0)) j)

end Cert.Proof

end

end
-- ==== Proof.OutClaim.lean ====
/- The value claim of the output projection, and its reference's frame. -/
module

public import proofs.«01_k».proof.Defs
public import proofs.«01_k».proof.Proof.OutValue
public import proofs.«01_k».proof.Proof.Precond
public import proofs.«01_k».proof.Proof.Gen.OutInIdeal.Value
public import proofs.«01_k».proof.Proof.Gen.OutInRefIdeal.Run
public import Idealize.ShloMosaic.Lib.Claim

@[expose] public section

set_option maxRecDepth 16384

noncomputable section

namespace Cert.Proof

open Idealize.ShloMosaic Idealize.ShloMosaic.TcCoe Idealize.SL.Sem

attribute [local instance] Cert.OutInIdeal.Gen.facts Cert.OutInRefIdeal.Gen.facts delta_facts

/-- The reference of the output projection returns, its arguments unchanged. -/
theorem out_ref_quiescent : Cert.quiescent_OutInRefIdeal (hOutInRefIdeal := Cert.OutInRefIdeal.Gen.facts) := fun m g _ =>
  (θ_run Cert.OutInRefIdeal.defs _ _).mono (fun r h => ⟨fun c => (h c).2.2.2, sem_eq_zero_of_no_sems (by decide) r.2⟩)
    (Cert.OutInRefIdeal.Value.run (F := Ideal) m g)

set_option maxHeartbeats 4000000 in
/-- The kernel and the reference of the output projection end with equal results. -/
theorem out_algebraic : Cert.algebraic_OutInIdeal_OutInRefIdeal_pre_finite_delta (hOutInIdeal := Cert.OutInIdeal.Gen.facts)
    (hOutInRefIdeal := Cert.OutInRefIdeal.Gen.facts) (hPre_finite_delta := delta_facts) := by
  intro m g m' g' hp hm
  refine ⟨fun c => Cert.OutInRefIdeal.Value.REFX (m ((c.tc : Thread _ _).loc Cert.OutInIdeal.main_arg0)) (m ((c.tc : Thread _ _).loc Cert.OutInIdeal.main_arg1)) (m ((c.tc : Thread _ _).loc Cert.OutInIdeal.main_arg2)) (m ((c.tc : Thread _ _).loc Cert.OutInIdeal.main_arg3)) (m ((c.tc : Thread _ _).loc Cert.OutInIdeal.main_arg4)) (m ((c.tc : Thread _ _).loc Cert.OutInIdeal.main_arg5)) (m ((c.tc : Thread _ _).loc Cert.OutInIdeal.main_arg6)) (m ((c.tc : Thread _ _).loc Cert.OutInIdeal.main_arg7)) (m ((c.tc : Thread _ _).loc Cert.OutInIdeal.main_arg8)) (m ((c.tc : Thread _ _).loc Cert.OutInIdeal.main_arg9)) (m ((c.tc : Thread _ _).loc Cert.OutInIdeal.main_arg10)),
    fun c => Cert.OutInRefIdeal.Value.REFA (m ((c.tc : Thread _ _).loc Cert.OutInIdeal.main_arg0)) (m ((c.tc : Thread _ _).loc Cert.OutInIdeal.main_arg1)) (m ((c.tc : Thread _ _).loc Cert.OutInIdeal.main_arg2)) (m ((c.tc : Thread _ _).loc Cert.OutInIdeal.main_arg3)) (m ((c.tc : Thread _ _).loc Cert.OutInIdeal.main_arg4)) (m ((c.tc : Thread _ _).loc Cert.OutInIdeal.main_arg5)) (m ((c.tc : Thread _ _).loc Cert.OutInIdeal.main_arg6)) (m ((c.tc : Thread _ _).loc Cert.OutInIdeal.main_arg7)) (m ((c.tc : Thread _ _).loc Cert.OutInIdeal.main_arg8)) (m ((c.tc : Thread _ _).loc Cert.OutInIdeal.main_arg9)) (m ((c.tc : Thread _ _).loc Cert.OutInIdeal.main_arg10)) (m ((c.tc : Thread _ _).loc Cert.OutInIdeal.main_arg11)),
    fun c => Cert.OutInRefIdeal.Value.REFB (m ((c.tc : Thread _ _).loc Cert.OutInIdeal.main_arg0)) (m ((c.tc : Thread _ _).loc Cert.OutInIdeal.main_arg1)) (m ((c.tc : Thread _ _).loc Cert.OutInIdeal.main_arg2)) (m ((c.tc : Thread _ _).loc Cert.OutInIdeal.main_arg3)) (m ((c.tc : Thread _ _).loc Cert.OutInIdeal.main_arg4)) (m ((c.tc : Thread _ _).loc Cert.OutInIdeal.main_arg5)) (m ((c.tc : Thread _ _).loc Cert.OutInIdeal.main_arg6)) (m ((c.tc : Thread _ _).loc Cert.OutInIdeal.main_arg7)) (m ((c.tc : Thread _ _).loc Cert.OutInIdeal.main_arg8)) (m ((c.tc : Thread _ _).loc Cert.OutInIdeal.main_arg9)) (m ((c.tc : Thread _ _).loc Cert.OutInIdeal.main_arg10)) (m ((c.tc : Thread _ _).loc Cert.OutInIdeal.main_arg11)), ?_, ?_⟩
  · run_from Cert.OutInIdeal.Value.run_blocks m g
    · exact Cert.OutInIdeal.Value.final14 m _ (out_finite m hp _)
    · exact Cert.OutInIdeal.Value.final15 m _ (out_finite m hp _)
    · exact Cert.OutInIdeal.Value.final16 m _ (out_finite m hp _)
  · run_from Cert.OutInRefIdeal.Value.run m' g'
    · rw [← (hm c).1, ← (hm c).2.1, ← (hm c).2.2.1, ← (hm c).2.2.2.1, ← (hm c).2.2.2.2.1, ← (hm c).2.2.2.2.2.1, ← (hm c).2.2.2.2.2.2.1, ← (hm c).2.2.2.2.2.2.2.1, ← (hm c).2.2.2.2.2.2.2.2.1, ← (hm c).2.2.2.2.2.2.2.2.2.1, ← (hm c).2.2.2.2.2.2.2.2.2.2.1]; rfl
    · rw [← (hm c).1, ← (hm c).2.1, ← (hm c).2.2.1, ← (hm c).2.2.2.1, ← (hm c).2.2.2.2.1, ← (hm c).2.2.2.2.2.1, ← (hm c).2.2.2.2.2.2.1, ← (hm c).2.2.2.2.2.2.2.1, ← (hm c).2.2.2.2.2.2.2.2.1, ← (hm c).2.2.2.2.2.2.2.2.2.1, ← (hm c).2.2.2.2.2.2.2.2.2.2.1, ← (hm c).2.2.2.2.2.2.2.2.2.2.2]; rfl
    · rw [← (hm c).1, ← (hm c).2.1, ← (hm c).2.2.1, ← (hm c).2.2.2.1, ← (hm c).2.2.2.2.1, ← (hm c).2.2.2.2.2.1, ← (hm c).2.2.2.2.2.2.1, ← (hm c).2.2.2.2.2.2.2.1, ← (hm c).2.2.2.2.2.2.2.2.1, ← (hm c).2.2.2.2.2.2.2.2.2.1, ← (hm c).2.2.2.2.2.2.2.2.2.2.1, ← (hm c).2.2.2.2.2.2.2.2.2.2.2]; rfl

end Cert.Proof

end

end
-- ==== Proof.LastClaim.lean ====
/- The value claim of the last output projection, and its reference's frame. -/
module

public import proofs.«01_k».proof.Defs
public import proofs.«01_k».proof.Proof.LastValue
public import proofs.«01_k».proof.Proof.Precond
public import proofs.«01_k».proof.Proof.Gen.LastIdeal.Value
public import proofs.«01_k».proof.Proof.Gen.LastRefIdeal.Run
public import Idealize.ShloMosaic.Lib.Claim

@[expose] public section

set_option maxRecDepth 16384

noncomputable section

namespace Cert.Proof

open Idealize.ShloMosaic Idealize.ShloMosaic.TcCoe Idealize.SL.Sem

attribute [local instance] Cert.LastIdeal.Gen.facts Cert.LastRefIdeal.Gen.facts last_facts

/-- The reference of the last output projection returns, its arguments unchanged. -/
theorem last_ref_quiescent : Cert.quiescent_LastRefIdeal (hLastRefIdeal := Cert.LastRefIdeal.Gen.facts) := fun m g _ =>
  (θ_run Cert.LastRefIdeal.defs _ _).mono (fun r h => ⟨fun c => (h c).2, sem_eq_zero_of_no_sems (by decide) r.2⟩)
    (Cert.LastRefIdeal.Value.run (F := Ideal) m g)

/-- The kernel and the reference of the last output projection end with equal results. -/
theorem last_algebraic : Cert.algebraic_LastIdeal_LastRefIdeal_pre_finite_last (hLastIdeal := Cert.LastIdeal.Gen.facts)
    (hLastRefIdeal := Cert.LastRefIdeal.Gen.facts) (hPre_finite_last := last_facts) := by
  intro m g m' g' hp hm
  refine ⟨fun c => Cert.LastRefIdeal.Value.REFX (m ((c.tc : Thread _ _).loc Cert.LastIdeal.main_arg0)) (m ((c.tc : Thread _ _).loc Cert.LastIdeal.main_arg1)) (m ((c.tc : Thread _ _).loc Cert.LastIdeal.main_arg2)) (m ((c.tc : Thread _ _).loc Cert.LastIdeal.main_arg3)) (m ((c.tc : Thread _ _).loc Cert.LastIdeal.main_arg4)) (m ((c.tc : Thread _ _).loc Cert.LastIdeal.main_arg5)) (m ((c.tc : Thread _ _).loc Cert.LastIdeal.main_arg6)) (m ((c.tc : Thread _ _).loc Cert.LastIdeal.main_arg7)) (m ((c.tc : Thread _ _).loc Cert.LastIdeal.main_arg8)) (m ((c.tc : Thread _ _).loc Cert.LastIdeal.main_arg9)) (m ((c.tc : Thread _ _).loc Cert.LastIdeal.main_arg10)), ?_, ?_⟩
  · run_from Cert.LastIdeal.Value.run_blocks m g
    · exact Cert.LastIdeal.Value.final12 m _ (last_finite m hp _)
  · run_from Cert.LastRefIdeal.Value.run m' g'
    · rw [← (hm c).1, ← (hm c).2.1, ← (hm c).2.2.1, ← (hm c).2.2.2.1, ← (hm c).2.2.2.2.1, ← (hm c).2.2.2.2.2.1, ← (hm c).2.2.2.2.2.2.1, ← (hm c).2.2.2.2.2.2.2.1, ← (hm c).2.2.2.2.2.2.2.2.1, ← (hm c).2.2.2.2.2.2.2.2.2.1, ← (hm c).2.2.2.2.2.2.2.2.2.2]; rfl

end Cert.Proof

end

end
-- ==== Proof.NaMath.lean ====
/- Attention over finitely many scores on the extended reals: the reference's softmax, which divides each weight by their sum,
   and the kernel's, which divides the weighted sum; and a score of minus infinity, which has no weight. -/
module

public import Idealize.ShloMosaic.PureOps
public import Idealize.ShloMosaic.Lib.Pointwise

@[expose] public section

noncomputable section

namespace Cert.NaMath

open Idealize.ShloMosaic

variable {ι κ : Type} [Fintype ι] [Fintype κ]

/-- The largest score. -/
def top (s : ι → EReal) : EReal := Finset.univ.fold max ⊥ s

/-- The sum of the scores' weights. -/
def den (s : ι → EReal) : EReal := ∑ n, Ideal.exp (s n - top s)

/-- The reference's attention: each weight divided by their sum. -/
def att (s v : ι → EReal) : EReal := ∑ n, Ideal.div (Ideal.exp (s n - top s)) (den s) * v n

/-- The kernel's attention: the weighted sum times one over the weights' sum. -/
def attK (s v : ι → EReal) : EReal := (∑ n, Ideal.exp (s n - top s) * v n) * Ideal.div 1 (den s)

theorem top_eq_sup (s : ι → EReal) : top s = Finset.univ.sup s := by
  unfold top Finset.sup
  rfl

/-- The largest of scores below infinity, one of them above minus infinity, is finite. -/
theorem top_finite (s : ι → EReal) (n₀ : ι) (h0 : s n₀ ≠ ⊥) (ht : ∀ n, s n ≠ ⊤) : ∃ r : ℝ, top s = r := by
  have hb : top s ≠ ⊥ := by
    rw [top_eq_sup]
    intro h
    exact h0 (le_bot_iff.1 (h ▸ Finset.le_sup (f := s) (Finset.mem_univ n₀)))
  have hu : top s ≠ ⊤ := by
    rw [top_eq_sup]
    exact ((Finset.sup_lt_iff (bot_lt_top)).2 fun n _ => lt_top_iff_ne_top.2 (ht n)).ne
  lift top s to ℝ using ⟨hu, hb⟩ with r
  exact ⟨r, rfl⟩

/-- A weight is a real number at least zero. -/
theorem weight_real (x : EReal) (r : ℝ) (hx : x ≠ ⊤) : ∃ w : ℝ, 0 ≤ w ∧ Ideal.exp (x - r) = w ∧ (x ≠ ⊥ → 0 < w) := by
  induction x with
  | bot => exact ⟨0, le_rfl, by rw [EReal.bot_sub]; rfl, fun h => absurd rfl h⟩
  | coe x => exact ⟨Real.exp (x - r), (Real.exp_pos _).le, rfl, fun _ => Real.exp_pos _⟩
  | top => exact absurd rfl hx

/-- The weights' sum is a positive real number. -/
theorem den_real (s : ι → EReal) (n₀ : ι) (h0 : s n₀ ≠ ⊥) (ht : ∀ n, s n ≠ ⊤) : ∃ d : ℝ, 0 < d ∧ den s = d := by
  obtain ⟨r, hr⟩ := top_finite s n₀ h0 ht
  choose w hw0 hw hwp using fun n => weight_real (s n) r (ht n)
  refine ⟨∑ n, w n, Finset.sum_pos' (fun n _ => hw0 n) ⟨n₀, Finset.mem_univ _, hwp n₀ h0⟩, ?_⟩
  unfold den
  rw [hr, Finset.sum_congr rfl fun n _ => hw n]
  classical
  induction (Finset.univ : Finset ι) using Finset.induction_on with
  | empty => simp
  | insert a t ha ih => rw [Finset.sum_insert ha, Finset.sum_insert ha, ih, EReal.coe_add]

/-- A factor that is a positive real number moves into a sum. -/
theorem sum_mul_coe (f : ι → EReal) (c : ℝ) (hc : 0 < c) : (∑ n, f n) * (c : EReal) = ∑ n, f n * (c : EReal) := by
  classical
  induction (Finset.univ : Finset ι) using Finset.induction_on with
  | empty => simp
  | insert a t ha ih => rw [Finset.sum_insert ha, Finset.sum_insert ha, ← ih, EReal.right_distrib_of_nonneg_of_ne_top (by exact_mod_cast hc.le) (EReal.coe_ne_top c)]

/-- The two forms of attention are equal. -/
theorem attK_eq (s v : ι → EReal) (n₀ : ι) (h0 : s n₀ ≠ ⊥) (ht : ∀ n, s n ≠ ⊤) : attK s v = att s v := by
  obtain ⟨d, hd, hs⟩ := den_real s n₀ h0 ht
  unfold attK att
  rw [hs, Ideal.div_coe hd.ne', one_mul, sum_mul_coe _ _ (by positivity)]
  refine Finset.sum_congr rfl fun n _ => ?_
  rw [Ideal.div_coe hd.ne', mul_right_comm]

/-- Scores of minus infinity may be left out. -/
theorem att_embed (s v : ι → EReal) (s' v' : κ → EReal) (e : κ → ι) (he : Function.Injective e) (hs : ∀ k, s (e k) = s' k)
    (hv : ∀ k, v (e k) = v' k) (hb : ∀ n, (∀ k, e k ≠ n) → s n = ⊥) (k₀ : κ) (h0 : s' k₀ ≠ ⊥) (ht : ∀ k, s' k ≠ ⊤) :
    att s v = att s' v' := by
  classical
  have hT : top s = top s' := by
    rw [top_eq_sup, top_eq_sup]
    refine le_antisymm (Finset.sup_le fun n _ => ?_) (Finset.sup_le fun k _ => ?_)
    · by_cases h : ∃ k, e k = n
      · obtain ⟨k, rfl⟩ := h
        rw [hs]
        exact Finset.le_sup (f := s') (Finset.mem_univ k)
      · rw [hb n fun k hk => h ⟨k, hk⟩]
        exact bot_le
    · rw [← hs]
      exact Finset.le_sup (f := s) (Finset.mem_univ (e k))
  obtain ⟨r, hr⟩ := top_finite s' k₀ h0 ht
  have hz : ∀ n, (∀ k, e k ≠ n) → Ideal.exp (s n - top s) = 0 := fun n hn => by
    rw [hb n hn, hT, hr, EReal.bot_sub]; rfl
  have hsum : ∀ f : ι → EReal, (∀ n, (∀ k, e k ≠ n) → f n = 0) → ∑ n, f n = ∑ k, f (e k) := fun f hf => by
    rw [← Finset.sum_image (f := f) (s := Finset.univ) (g := e) (fun a _ b _ h => he h)]
    refine (Finset.sum_subset (Finset.subset_univ _) fun n _ hn => hf n fun k hk => hn ?_).symm
    exact Finset.mem_image.2 ⟨k, Finset.mem_univ _, hk⟩
  have hD : den s = den s' := by
    unfold den
    rw [hsum _ hz]
    exact Finset.sum_congr rfl fun k _ => by rw [hs, hT]
  unfold att
  rw [hsum _ (fun n hn => by
    obtain ⟨d, hd, hq⟩ := den_real s' k₀ h0 ht
    rw [hz n hn, hD, hq, Ideal.div_coe hd.ne', zero_mul, zero_mul])]
  exact Finset.sum_congr rfl fun k _ => by rw [hs, hT, hD, hv]

end Cert.NaMath

end

end
-- ==== Proof.NaKern.lean ====
/- What the attention kernel computes for one block of rows under one pair of heads, entry by entry. -/
module

public import proofs.«01_k».proof.Proof.Gen.NattenIdeal.Value
public import proofs.«01_k».proof.Proof.NaMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.NattenIdeal.Value

open Cert.NattenIdeal Cert.NattenIdeal.Gen Cert.NaMath

/-- The bias rows of one half block: the ten tables, in lane pairs, and zeros at the context keys. -/
def rowB (T : Fin 10 → FVec Ideal S1x1x1x64x128 .f32) : FVec Ideal S64x896 .f32 :=
  concatenate S64x896 1 [⟨S64x128, k0_pay14 k0_pay2 (T 0) (T 1)⟩, ⟨S64x128, k0_pay14 k0_pay2 (T 2) (T 3)⟩, ⟨S64x128, k0_pay14 k0_pay2 (T 4) (T 5)⟩,
    ⟨S64x128, k0_pay14 k0_pay2 (T 6) (T 7)⟩, ⟨S64x128, k0_pay14 k0_pay2 (T 8) (T 9)⟩, ⟨S64x256, broadcast S64x256 (Scalar.ofBits .f32 0x00000000#32)⟩]
    concatenates_S64x128_S64x128_S64x128_S64x128_S64x128_S64x256_S64x896_d1

/-- The scores of one block of latents under one pair of heads. -/
def scB (q : FVec Ideal S1x128x128 .f32) (kw : FVec Ideal S1x640x128 .bf16) (kc : FVec Ideal S1x256x128 .bf16)
    (T : Fin 4 → Fin 10 → FVec Ideal S1x1x1x64x128 .f32) : FVec Ideal S256x896 .f32 :=
  addf (k0_pay13 k0_pay1 (k0_pay12 kw kc) q)
    (concatenate S256x896 0 [⟨S64x896, rowB (T 0)⟩, ⟨S64x896, rowB (T 1)⟩, ⟨S64x896, rowB (T 2)⟩, ⟨S64x896, rowB (T 3)⟩]
      concatenates_S64x896_S64x896_S64x896_S64x896_S256x896_d0)

/-- What one block of latents stores, from its scores, values and gate. -/
def finB (sc : FVec Ideal S256x896 .f32) (vw : FVec Ideal S1x640x128 .bf16) (vc : FVec Ideal S1x256x128 .bf16) (z : FVec Ideal S1x128x128 .f32) :
    FVec Ideal S1x128x128 .f32 :=
  k0_pay3 (k0_pay149 (k0_pay145 k0_pay1 sc vw vc) (k0_pay146 z) (k0_pay147 z) k0_pay148)

/-- The row of the stacked scores behind row `r` and lane `l`. -/
def srow (r l : Fin 128) : Fin 256 := if l.val < 64 then ⟨r, by omega⟩ else ⟨128 + r, by omega⟩

/-- The key of place `n` in lane `l`: of the window, then of the context. -/
def keyB (kw : FVec Ideal S1x640x128 .bf16) (kc : FVec Ideal S1x256x128 .bf16) (l : Fin 128) (n : Fin 896) : EReal :=
  if h : (n : ℕ) < 640 then kw (ix3 0 ⟨n, h⟩ l) else kc (ix3 0 ⟨n - 640, by omega⟩ l)

theorem selLt (n : ℕ) (hn : n < 4096) (x y : EReal) :
    Scalar.select (IntOp.cmpi .slt (BitVec.ofNat 32 n) 64#32) x y = if n < 64 then x else y := by
  have e : IntOp.cmpi .slt (BitVec.ofNat 32 n) 64#32 = if n < 64 then 1#1 else 0#1 := by
    have key : ∀ n : Fin 4096, IntOp.cmpi .slt (BitVec.ofNat 32 n) 64#32 = if n.val < 64 then 1#1 else 0#1 := by decide +kernel
    exact key ⟨n, hn⟩
  rw [e]
  split <;> rfl

theorem negInf : Ideal.ofBits .f32 0xFF800000#32 = ⊥ := by simp [Ideal.ofBits, Ideal.ieee]

theorem soft (S : FVec Ideal S256x896 .f32) (p : Fin 256) (n : Fin 896) :
    (k0_pay127 S (ix2 p n) : EReal) = Ideal.exp (HSub.hSub (α := EReal) (β := EReal) (γ := EReal) (S (ix2 p n)) (top fun n => S (ix2 p n))) := by
  pointwise [k0_pay127, top, negInf]

theorem pay145_at (sc : FVec Ideal S256x896 .f32) (vw : FVec Ideal S1x640x128 .bf16) (vc : FVec Ideal S1x256x128 .bf16) (r l : Fin 128) :
    (k0_pay145 k0_pay1 sc vw vc (ix2 r l) : EReal) = attK (fun n : Fin 896 => sc (ix2 (srow r l) n)) (keyB vw vc l) := by
  have e : k0_pay145 (F := Ideal) k0_pay1 sc vw vc = select k0_pay1
      (extractStridedSlice S128x128 ![0, 0] (mulf (matmul dot_S256x896_S896x128_S256x128_1_0_0_1_n_n none (truncf .bf16 (k0_pay127 sc) bitsLt_bf16_f32) (k0_pay12 vw vc) (constant S256x128 .f32 0x00000000#32)) (broadcastTo S256x128 (divf k0_pay133 (k0_pay128 sc)) broadcasts_S256x1_S256x128)) slices_S256x128_o0_0_S128x128)
      (extractStridedSlice S128x128 ![128, 0] (mulf (matmul dot_S256x896_S896x128_S256x128_1_0_0_1_n_n none (truncf .bf16 (k0_pay127 sc) bitsLt_bf16_f32) (k0_pay12 vw vc) (constant S256x128 .f32 0x00000000#32)) (broadcastTo S256x128 (divf k0_pay133 (k0_pay128 sc)) broadcasts_S256x1_S256x128)) slices_S256x128_o128_0_S128x128) := rfl
  rw [e]
  pointwise [k0_pay12, k0_pay133, k0_pay128, k0_pay1, attK, den, keyB, srow, soft]
  rw [selLt l (by omega)]
  split <;> rfl

theorem finB_at (sc : FVec Ideal S256x896 .f32) (vw : FVec Ideal S1x640x128 .bf16) (vc : FVec Ideal S1x256x128 .bf16) (z : FVec Ideal S1x128x128 .f32) (r l : Fin 128) :
    (finB sc vw vc z (ix3 0 r l) : EReal) = HMul.hMul (α := EReal) (β := EReal) (γ := EReal) (k0_pay145 k0_pay1 sc vw vc (ix2 r l))
      (HMul.hMul (α := EReal) (β := EReal) (γ := EReal) (z (ix3 0 r l)) (Ideal.ofBits .f32 0x3F000000#32 * Ideal.tanh (Ideal.ofBits .f32 0x3F000000#32 * z (ix3 0 r l)) + Ideal.ofBits .f32 0x3F000000#32)) := by
  pointwise [finB, k0_pay3, k0_pay149, k0_pay146, k0_pay147, k0_pay148]

/-- A lane pair of tables: the first in the low half, the second in the high half. -/
theorem pair_at (x y : FVec Ideal S1x1x1x64x128 .f32) (p : Fin 64) (n : Fin 128) :
    (k0_pay14 (F := Ideal) k0_pay2 x y (ix2 p n) : EReal) = if (n : ℕ) < 64 then x (ix5 0 0 0 p n) else y (ix5 0 0 0 p n) := by
  pointwise [k0_pay14, k0_pay2]
  exact selLt n (by omega) _ _

/-- A row of blocks side by side: the block a column falls in. -/
theorem side_at (A : Fin 5 → FVec Ideal S64x128 .f32) (Z : FVec Ideal S64x256 .f32) (p : Fin 64) (n : Fin 896) :
    (concatenate S64x896 1 [⟨S64x128, A 0⟩, ⟨S64x128, A 1⟩, ⟨S64x128, A 2⟩, ⟨S64x128, A 3⟩, ⟨S64x128, A 4⟩, ⟨S64x256, Z⟩]
      concatenates_S64x128_S64x128_S64x128_S64x128_S64x128_S64x256_S64x896_d1 (ix2 p n) : EReal)
    = if h : (n : ℕ) < 640 then A ⟨n / 128, by omega⟩ (ix2 p ⟨n % 128, by omega⟩) else Z (ix2 p ⟨n - 640, by omega⟩) := by
  pointwise
  have hT : ∀ (a : Fin 5) (x : Fin 128) (h : (n : ℕ) < 640), (a : ℕ) = (n : ℕ) / 128 → (x : ℕ) = (n : ℕ) % 128 →
      (A a (ix2 p x) : EReal) = A ⟨(n : ℕ) / 128, by omega⟩ (ix2 p ⟨(n : ℕ) % 128, by omega⟩) := by
    intro a x h e1 e2
    rw [show a = ⟨(n : ℕ) / 128, by omega⟩ from Fin.ext e1, show x = ⟨(n : ℕ) % 128, by omega⟩ from Fin.ext e2]
  by_cases h : (n : ℕ) < 640
  · rw [dif_pos h]
    split_ifs <;> first | exact hT _ _ h (by simp; omega) (by simp; omega) | omega
  · rw [dif_neg h]
    split_ifs <;> first | omega | exact congrArg (fun x => Z (ix2 p x)) (Fin.ext (by simp only []; omega))

theorem zero_at (p : Fin 64) (n : Fin 256) : (broadcast S64x256 (Scalar.ofBits (F := Ideal) .f32 0x00000000#32) (ix2 p n) : EReal) = 0 := by
  pointwise

theorem rowB_at (T : Fin 10 → FVec Ideal S1x1x1x64x128 .f32) (p : Fin 64) (n : Fin 896) :
    (rowB T (ix2 p n) : EReal) = if h : (n : ℕ) < 640 then T ⟨n / 64, by omega⟩ (ix5 0 0 0 p ⟨n % 128, by omega⟩) else 0 := by
  refine (side_at ![k0_pay14 k0_pay2 (T 0) (T 1), k0_pay14 k0_pay2 (T 2) (T 3), k0_pay14 k0_pay2 (T 4) (T 5), k0_pay14 k0_pay2 (T 6) (T 7),
    k0_pay14 k0_pay2 (T 8) (T 9)] _ p n).trans ?_
  by_cases h : (n : ℕ) < 640
  · rw [dif_pos h, dif_pos h]
    have key : ∀ a : Fin 5, (n : ℕ) / 128 = a → ((![k0_pay14 (F := Ideal) k0_pay2 (T 0) (T 1), k0_pay14 k0_pay2 (T 2) (T 3), k0_pay14 k0_pay2 (T 4) (T 5), k0_pay14 k0_pay2 (T 6) (T 7),
        k0_pay14 k0_pay2 (T 8) (T 9)] a : FVec Ideal S64x128 .f32) (ix2 p ⟨(n : ℕ) % 128, by omega⟩) : EReal)
        = T ⟨(n : ℕ) / 64, by omega⟩ (ix5 0 0 0 p ⟨(n : ℕ) % 128, by omega⟩) := by
      intro a ha
      match a with
      | 0 | 1 | 2 | 3 | 4 =>
        refine (pair_at _ _ p _).trans ?_
        split
        all_goals
          next hl => exact congrArg (fun x => T x (ix5 0 0 0 p ⟨(n : ℕ) % 128, by omega⟩)) (Fin.ext (by simp at hl ha ⊢; omega))
    exact key ⟨(n : ℕ) / 128, by omega⟩ rfl
  · rw [dif_neg h, dif_neg h]
    exact zero_at p _

/-- A query row masked to one half of its lanes. -/
theorem masked (p : Fin 256) (lo hi k : Fin 128 → EReal) (a : Fin 128 → EReal) (hlo : (p : ℕ) < 128 → ∀ x, lo x = a x) (hhi : ¬(p : ℕ) < 128 → ∀ x, hi x = a x) :
    (∑ x : Fin 128, (if (p : ℕ) < 128 then (if (x : ℕ) < 64 then lo x else 0) else (if (x : ℕ) < 64 then 0 else hi x)) * k x)
      = ∑ d : Fin 64, a ⟨p / 128 * 64 + d, by omega⟩ * k ⟨p / 128 * 64 + d, by omega⟩ := by
  refine (Fin.sum_univ_add (a := 64) (b := 64) _).trans ?_
  by_cases h : (p : ℕ) < 128
  · have e : (p : ℕ) / 128 = 0 := by omega
    simp only [hlo h]
    simp [h, e]
    rfl
  · have e : (p : ℕ) / 128 = 1 := by omega
    simp only [hhi h]
    simp [h, e]
    rfl

/-- The scores of a row of the stacked block: the products with the keys, and the biases. -/
theorem scB_at (q : FVec Ideal S1x128x128 .f32) (kw : FVec Ideal S1x640x128 .bf16) (kc : FVec Ideal S1x256x128 .bf16)
    (T : Fin 4 → Fin 10 → FVec Ideal S1x1x1x64x128 .f32) (p : Fin 256) (n : Fin 896) :
    (scB q kw kc T (ix2 p n) : EReal) = HAdd.hAdd (α := EReal) (β := EReal) (γ := EReal)
      (∑ d : Fin 64, HMul.hMul (α := EReal) (β := EReal) (γ := EReal) (HMul.hMul (α := EReal) (β := EReal) (γ := EReal) (q (ix3 0 ⟨p % 128, by omega⟩ ⟨p / 128 * 64 + d, by omega⟩)) (Ideal.ofBits .f32 0x3E000000#32))
        (keyB kw kc ⟨p / 128 * 64 + d, by omega⟩ n))
      (if h : (n : ℕ) < 640 then T ⟨p / 64, by omega⟩ ⟨n / 64, by omega⟩ (ix5 0 0 0 ⟨p % 64, by omega⟩ ⟨n % 128, by omega⟩) else 0) := by
  pointwise [scB, k0_pay13, k0_pay12, k0_pay1]
  simp only [rowB_at, selLt _ (Nat.lt_trans (Fin.isLt _) (by decide : 128 < 4096))]
  refine Ideal.add_congr ?_ ?_
  · refine Eq.trans ?_ (masked p (fun x => HMul.hMul (α := EReal) (β := EReal) (γ := EReal) (q (ix3 0 ⟨p % 128, by omega⟩ x)) (Ideal.ofBits .f32 0x3E000000#32))
      (fun x => HMul.hMul (α := EReal) (β := EReal) (γ := EReal) (q (ix3 0 ⟨p % 128, by omega⟩ x)) (Ideal.ofBits .f32 0x3E000000#32)) (fun x => keyB kw kc x n)
      (fun x => HMul.hMul (α := EReal) (β := EReal) (γ := EReal) (q (ix3 0 ⟨p % 128, by omega⟩ x)) (Ideal.ofBits .f32 0x3E000000#32)) (fun _ _ => rfl) (fun _ _ => rfl))
    change (_ : EReal) = (_ : EReal)
    refine Finset.sum_congr rfl fun x _ => Ideal.mul_congr ?_ rfl
    by_cases h : (p : ℕ) < 128
    · rw [dif_pos h, if_pos h]
      rw [show (⟨p % 128, by omega⟩ : Fin 128) = ⟨p, h⟩ from Fin.ext (Nat.mod_eq_of_lt h)]
    · rw [dif_neg h, if_neg h]
      rw [show (⟨p % 128, by omega⟩ : Fin 128) = ⟨p - 128, by omega⟩ from Fin.ext (by simp only []; omega)]
  · by_cases hn : (n : ℕ) < 640
    · simp only [dif_pos hn]
      have hT : ∀ (a : Fin 4) (x : Fin 64), (a : ℕ) = (p : ℕ) / 64 → (x : ℕ) = (p : ℕ) % 64 →
          (T a ⟨(n : ℕ) / 64, by omega⟩ (ix5 0 0 0 x ⟨(n : ℕ) % 128, by omega⟩) : EReal) = T ⟨(p : ℕ) / 64, by omega⟩ ⟨(n : ℕ) / 64, by omega⟩ (ix5 0 0 0 ⟨(p : ℕ) % 64, by omega⟩ ⟨(n : ℕ) % 128, by omega⟩) := by
        intro a x e1 e2
        rw [show a = ⟨(p : ℕ) / 64, by omega⟩ from Fin.ext e1, show x = ⟨(p : ℕ) % 64, by omega⟩ from Fin.ext e2]
      split_ifs <;> exact hT _ _ (by simp; omega) (by simp; omega)
    · simp only [dif_neg hn]
      split_ifs <;> rfl

/-- The scores of one block of context rows under one pair of heads. -/
def scA (q : FVec Ideal S1x128x128 .f32) (kc : FVec Ideal S1x256x128 .bf16) : FVec Ideal S256x256 .f32 := k0_pay150 k0_pay1 q kc

/-- What one block of context rows stores. -/
def finA (sc : FVec Ideal S256x256 .f32) (vc : FVec Ideal S1x256x128 .bf16) (z : FVec Ideal S1x128x128 .f32) : FVec Ideal S1x128x128 .f32 :=
  k0_pay162 k0_pay1 sc vc z

/-- The softmax numerators of a row, whatever its scores. -/
theorem softA (S : FVec Ideal S256x256 .f32) (p : Fin 256) (n : Fin 256) :
    (k0_pay165 S (ix2 p n) : EReal) = Ideal.exp (HSub.hSub (α := EReal) (β := EReal) (γ := EReal) (S (ix2 p n)) (top fun n => S (ix2 p n))) := by
  pointwise [k0_pay165, top, negInf]

/-- A stored entry: the attention of its row, gated. -/
theorem finA_at (sc : FVec Ideal S256x256 .f32) (vc : FVec Ideal S1x256x128 .bf16) (z : FVec Ideal S1x128x128 .f32) (r l : Fin 128) :
    (finA sc vc z (ix3 0 r l) : EReal) = HMul.hMul (α := EReal) (β := EReal) (γ := EReal)
      (attK (fun n : Fin 256 => sc (ix2 (srow r l) n)) (fun n => vc (ix3 0 n l)))
      (HMul.hMul (α := EReal) (β := EReal) (γ := EReal) (z (ix3 0 r l)) (Ideal.ofBits .f32 0x3F000000#32 * Ideal.tanh (Ideal.ofBits .f32 0x3F000000#32 * z (ix3 0 r l)) + Ideal.ofBits .f32 0x3F000000#32)) := by
  have e : finA sc vc z = k0_pay170 (select k0_pay1
      (extractStridedSlice S128x128 ![0, 0] (mulf (matmul dot_S256x256_S256x128_S256x128_1_0_0_1_n_n none (truncf .bf16 (k0_pay165 sc) bitsLt_bf16_f32) (k0_pay164 vc) (constant S256x128 .f32 0x00000000#32)) (broadcastTo S256x128 (divf k0_pay133 (k0_pay166 sc)) broadcasts_S256x1_S256x128)) slices_S256x128_o0_0_S128x128)
      (extractStridedSlice S128x128 ![128, 0] (mulf (matmul dot_S256x256_S256x128_S256x128_1_0_0_1_n_n none (truncf .bf16 (k0_pay165 sc) bitsLt_bf16_f32) (k0_pay164 vc) (constant S256x128 .f32 0x00000000#32)) (broadcastTo S256x128 (divf k0_pay133 (k0_pay166 sc)) broadcasts_S256x1_S256x128)) slices_S256x128_o128_0_S128x128)) z := rfl
  rw [e]
  pointwise [k0_pay164, k0_pay133, k0_pay166, k0_pay170, k0_pay1, attK, den, srow, softA]
  rw [selLt l (by omega)]
  split <;> rfl

/-- The scores of a row of the stacked block: the products with the context keys. -/
theorem scA_at (q : FVec Ideal S1x128x128 .f32) (kc : FVec Ideal S1x256x128 .bf16) (p : Fin 256) (n : Fin 256) :
    (scA q kc (ix2 p n) : EReal) =
      (∑ d : Fin 64, HMul.hMul (α := EReal) (β := EReal) (γ := EReal) (HMul.hMul (α := EReal) (β := EReal) (γ := EReal) (q (ix3 0 ⟨p % 128, by omega⟩ ⟨p / 128 * 64 + d, by omega⟩)) (Ideal.ofBits .f32 0x3E000000#32))
        (kc (ix3 0 n ⟨p / 128 * 64 + d, by omega⟩))) := by
  pointwise [scA, k0_pay150, k0_pay1]
  simp only [selLt _ (Nat.lt_trans (Fin.isLt _) (by decide : 128 < 4096))]
  refine Eq.trans ?_ (masked p (fun x => HMul.hMul (α := EReal) (β := EReal) (γ := EReal) (q (ix3 0 ⟨p % 128, by omega⟩ x)) (Ideal.ofBits .f32 0x3E000000#32))
      (fun x => HMul.hMul (α := EReal) (β := EReal) (γ := EReal) (q (ix3 0 ⟨p % 128, by omega⟩ x)) (Ideal.ofBits .f32 0x3E000000#32)) (fun x => kc (ix3 0 n x))
      (fun x => HMul.hMul (α := EReal) (β := EReal) (γ := EReal) (q (ix3 0 ⟨p % 128, by omega⟩ x)) (Ideal.ofBits .f32 0x3E000000#32)) (fun _ _ => rfl) (fun _ _ => rfl))
  change (_ : EReal) = (_ : EReal)
  refine Finset.sum_congr rfl fun x _ => Ideal.mul_congr ?_ rfl
  by_cases h : (p : ℕ) < 128
  · rw [dif_pos h, if_pos h]
    rw [show (⟨p % 128, by omega⟩ : Fin 128) = ⟨p, h⟩ from Fin.ext (Nat.mod_eq_of_lt h)]
  · rw [dif_neg h, if_neg h]
    rw [show (⟨p % 128, by omega⟩ : Fin 128) = ⟨p - 128, by omega⟩ from Fin.ext (by simp only []; omega)]

end Cert.NattenIdeal.Value

end

end
-- ==== Proof.NaHost.lean ====
/- What the host operations before the attention leave in its operands. -/
module

public import proofs.«01_k».proof.Proof.Gen.NattenIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NattenIdeal.Value

open Cert.NattenIdeal Cert.NattenIdeal.Gen

variable (m : (ℓ : Loc nD τ sig) → Buf (Elt Ideal) ℓ)

/-- The projections reach the call unchanged. -/
theorem arg0 (c : Dev nD) : V m c main_arg0 = m ((c : Thread nD τ).loc main_arg0) := by
  unfold V
  simp only [hostOps0, hostOps0_1, hostOps0_2, hostOps0_3, hostOps0_4, List.flatten_cons, List.flatten_nil, List.append_nil, List.cons_append, List.nil_append, StableHlo.TRef.binary, StableHlo.TRef.unary, StableHlo.TRef.ternary, StableHlo.TRef.toBuf, StableHlo.TRef.ofBuf, cast_eq]
  after_results_simp

/-- The keys and values reach the call unchanged. -/
theorem arg1 (c : Dev nD) : V m c main_arg1 = m ((c : Thread nD τ).loc main_arg1) := by
  unfold V
  simp only [hostOps0, hostOps0_1, hostOps0_2, hostOps0_3, hostOps0_4, List.flatten_cons, List.flatten_nil, List.append_nil, List.cons_append, List.nil_append, StableHlo.TRef.binary, StableHlo.TRef.unary, StableHlo.TRef.ternary, StableHlo.TRef.toBuf, StableHlo.TRef.ofBuf, cast_eq]
  after_results_simp

theorem idx : ∀ t : Fin cfg0.N, win0_0.index t = ![t.val / 17, t.val % 17, 4]
    ∧ win0_1.index t = ![t.val / 17, 0, 0]
    ∧ win0_2.index t = ![t.val / 17, t.val % 17, 5]
    ∧ win0_3.index t = ![0, 0, 0, 0, 0]
    ∧ win0_4.index t = ![t.val / 17, t.val % 17, 0] :=
  (by decide +kernel : ∀ t : Fin grid0.N, _)

/-- An entry of the queries' block. -/
theorem qread (c : Dev nD) (t : Fin cfg0.N) (r : Fin 256) (k : Fin 384) (b : Fin 4) (i : Fin 4352) (hb : (b : ℕ) = t.val / 17)
    (hi : (i : ℕ) = t.val % 17 * 256 + r) : iblk m c 0 t (ix3 0 r k) = m ((c : Thread nD τ).loc main_arg0) (ix3 b i ⟨1536 + k, by omega⟩) := by
  refine Eq.trans ?_ (congrFun (arg0 m c) _)
  blk_ext [iblk, idx t]

/-- An entry of the gates' block. -/
theorem zread (c : Dev nD) (t : Fin cfg0.N) (r : Fin 256) (k : Fin 384) (b : Fin 4) (i : Fin 4352) (hb : (b : ℕ) = t.val / 17)
    (hi : (i : ℕ) = t.val % 17 * 256 + r) : iblk m c 2 t (ix3 0 r k) = m ((c : Thread nD τ).loc main_arg0) (ix3 b i ⟨1920 + k, by omega⟩) := by
  refine Eq.trans ?_ (congrFun (arg0 m c) _)
  blk_ext [iblk, idx t]

/-- An entry of the keys and values' block. -/
theorem kvread (c : Dev nD) (t : Fin cfg0.N) (i : Fin 4352) (k : Fin 768) (b : Fin 4) (hb : (b : ℕ) = t.val / 17) :
    iblk m c 1 t (ix3 0 i k) = m ((c : Thread nD τ).loc main_arg1) (ix3 b i k) := by
  refine Eq.trans ?_ (congrFun (arg1 m c) _)
  blk_ext [iblk, idx t]

/-- A row of bias tables: the bias of the offset inside the query's columns, and no weight elsewhere. -/
def tabR (B : FVec Ideal S4x6x15x31 .f32) (h : Fin 6) (x : Fin 16) (j k : Fin 64) : EReal :=
  if H : (x : ℕ) < 15 ∧ (min ((j : ℕ) - 8) 48 ≤ k ∧ (k : ℕ) < min ((j : ℕ) - 8) 48 + 16)
    then B (ix4 0 h ⟨x, H.1⟩ ⟨k + 15 - j, by omega⟩) else ⊥

theorem negInf' : Ideal.ofBits .f32 0xFF800000#32 = ⊥ := by simp [Ideal.ofBits, Ideal.ieee]

/-- The mask of the columns inside a query's window. -/
theorem inside : ∀ j k : Fin 64, IntOp.andi
    (IntOp.cmpi .sge (BitVec.ofNat 32 k) (IntOp.minsi 48#32 (IntOp.maxsi 0#32 (IntOp.subi (BitVec.ofNat 32 j) 8#32))))
    (IntOp.cmpi .slt (BitVec.ofNat 32 k) (IntOp.addi (IntOp.minsi 48#32 (IntOp.maxsi 0#32 (IntOp.subi (BitVec.ofNat 32 j) 8#32))) 16#32))
    = if min ((j : ℕ) - 8) 48 ≤ k ∧ (k : ℕ) < min ((j : ℕ) - 8) 48 + 16 then 1#1 else 0#1 := by
  decide +kernel

/-- The one place of the offset between a query's column and a key's. -/
theorem onehot : ∀ (x : Fin 31) (j k : Fin 64), IntOp.cmpi .eq (BitVec.ofNat 32 x)
    (IntOp.subi (IntOp.addi (IntOp.subi (BitVec.ofNat 32 k) (BitVec.ofNat 32 j)) 16#32) 1#32) = if (x : ℕ) + j = k + 15 then 1#1 else 0#1 := by
  decide +kernel

/-- An entry of the table: the bias of the offset inside the window, and no weight outside. -/
theorem entry (A : Fin 31 → EReal) (j k : Fin 64) : Scalar.select (IntOp.andi
    (IntOp.cmpi .sge (BitVec.ofNat 32 k) (IntOp.minsi 48#32 (IntOp.maxsi 0#32 (IntOp.subi (BitVec.ofNat 32 j) 8#32))))
    (IntOp.cmpi .slt (BitVec.ofNat 32 k) (IntOp.addi (IntOp.minsi 48#32 (IntOp.maxsi 0#32 (IntOp.subi (BitVec.ofNat 32 j) 8#32))) 16#32)))
    (∑ x : Fin 31, A x * (FloatOps.uitofp (F := Ideal) .f32 (IntOp.cmpi .eq (BitVec.ofNat 32 x)
      (IntOp.subi (IntOp.addi (IntOp.subi (BitVec.ofNat 32 k) (BitVec.ofNat 32 j)) 16#32) 1#32)) : EReal)) (Ideal.ofBits .f32 0xFF800000#32)
    = if H : min ((j : ℕ) - 8) 48 ≤ k ∧ (k : ℕ) < min ((j : ℕ) - 8) 48 + 16 then A ⟨k + 15 - j, by omega⟩ else ⊥ := by
  rw [inside, negInf']
  by_cases H : min ((j : ℕ) - 8) 48 ≤ k ∧ (k : ℕ) < min ((j : ℕ) - 8) 48 + 16
  · rw [if_pos H, dif_pos H]
    refine Eq.trans (b := ∑ x : Fin 31, A x * (FloatOps.uitofp (F := Ideal) .f32 (IntOp.cmpi .eq (BitVec.ofNat 32 x)
      (IntOp.subi (IntOp.addi (IntOp.subi (BitVec.ofNat 32 k) (BitVec.ofNat 32 j)) 16#32) 1#32)) : EReal)) rfl ?_
    have h1 : (FloatOps.uitofp (F := Ideal) .f32 1#1 : EReal) = 1 := by simp [FloatOps.uitofp]
    have h0 : (FloatOps.uitofp (F := Ideal) .f32 0#1 : EReal) = 0 := by simp [FloatOps.uitofp]
    rw [Finset.sum_eq_single (⟨k + 15 - j, by omega⟩ : Fin 31)]
    · rw [onehot, if_pos (by simp only []; omega), h1, mul_one]
    · intro x _ hx
      rw [onehot, if_neg (fun e => hx (Fin.ext (by simp only []; omega))), h0, mul_zero]
    · exact fun h => absurd (Finset.mem_univ _) h
  · rw [if_neg H, dif_neg H]
    rfl

set_option maxHeartbeats 2000000 in
theorem table (c : Dev nD) (h : Fin 6) (x : Fin 16) (j : Fin 64) (l : Fin 128) :
    (V m c main_v39 (ix5 0 h x j l) : EReal) = tabR (m ((c : Thread nD τ).loc main_arg2)) h x j ⟨l % 64, by omega⟩ := by
  unfold V
  simp only [hostOps0, hostOps0_1, hostOps0_2, hostOps0_3, hostOps0_4, List.flatten_cons, List.flatten_nil, List.append_nil, List.cons_append, List.nil_append, StableHlo.TRef.binary, StableHlo.TRef.unary, StableHlo.TRef.ternary, StableHlo.TRef.toBuf, StableHlo.TRef.ofBuf, cast_eq]
  after_results_simp
  pointwise
  after_results_simp
  pointwise
  have key : ∀ k : Fin 64, (k : ℕ) = (l : ℕ) % 64 → ∀ hx : (x : ℕ) < 15,
      (if H : min ((j : ℕ) - 8) 48 ≤ k ∧ (k : ℕ) < min ((j : ℕ) - 8) 48 + 16
        then m ((c : Thread nD τ).loc main_arg2) (ix4 0 h ⟨x, hx⟩ ⟨k + 15 - j, by omega⟩) else (⊥ : EReal))
      = tabR (m ((c : Thread nD τ).loc main_arg2)) h x j ⟨(l : ℕ) % 64, by omega⟩ := by
    intro k hk hx
    rw [show k = ⟨(l : ℕ) % 64, by omega⟩ from Fin.ext hk]
    unfold tabR
    simp only [hx, true_and]
  have pad : ¬(x : ℕ) < 15 → Ideal.ofBits .f32 0xFF800000#32 = tabR (m ((c : Thread nD τ).loc main_arg2)) h x j ⟨(l : ℕ) % 64, by omega⟩ := by
    intro hx
    unfold tabR
    rw [dif_neg (fun H => hx H.1), negInf']
  split
  next hl =>
    split
    next hx => exact (entry (fun y => m ((c : Thread nD τ).loc main_arg2) (ix4 0 h ⟨x, hx⟩ y)) j ⟨l, hl⟩).trans (key ⟨l, hl⟩ (by simp only []; omega) hx)
    next hx => exact pad hx
  next hl =>
    split
    next hx => exact (entry (fun y => m ((c : Thread nD τ).loc main_arg2) (ix4 0 h ⟨x, hx⟩ y)) j ⟨(l : ℕ) - 64, by omega⟩).trans (key _ (by simp only []; omega) hx)
    next hx => exact pad hx

theorem tread (c : Dev nD) (t : Fin cfg0.N) (h : Fin 6) (x : Fin 16) (j : Fin 64) (l : Fin 128) :
    (iblk m c 3 t (ix5 0 h x j l) : EReal) = tabR (m ((c : Thread nD τ).loc main_arg2)) h x j ⟨l % 64, by omega⟩ := by
  refine Eq.trans ?_ (table m c h x j l)
  blk_ext [iblk, idx t]

end Cert.NattenIdeal.Value

end

end
-- ==== Proof.NaOff.lean ====
/- Where the attention kernel reads the keys, the values and the bias tables of one block of latents. -/
module

public import proofs.«01_k».proof.Proof.Gen.NattenIdeal.Value
public import Idealize.ShloMosaic.Lib.Pipeline.ValueKit

@[expose] public section

set_option maxRecDepth 16384

noncomputable section

open Idealize.ShloMosaic Idealize.ShloMosaic.TcCoe Idealize.SL.Sem

namespace Cert.NattenIdeal.Value

open Cert.NattenIdeal Cert.NattenIdeal.Gen

/-- The table read for half block `b` under the pair of heads `s`. -/
def offT (s : Fin 3) (b : Fin 4) (i : grid0.Coords) (g n : BitVec 32) : Fin 5 → ℕ :=
  match s, b with
  | 0, 0 => k0_off4 i g n n n | 0, 1 => k0_off5 i g n n n | 0, 2 => k0_off6 i g n n n | 0, 3 => k0_off7 i g n n n
  | 1, 0 => k0_off8 i g n n n | 1, 1 => k0_off9 i g n n n | 1, 2 => k0_off10 i g n n n | 1, 3 => k0_off11 i g n n n
  | 2, 0 => k0_off12 i g n n n | 2, 1 => k0_off13 i g n n n | 2, 2 => k0_off14 i g n n n | 2, 3 => k0_off15 i g n n n

/-- The window of keys for the pair of heads `s`. -/
def offK (s : Fin 3) (i : grid0.Coords) (g : BitVec 32) : Fin 3 → ℕ :=
  match s with | 0 => k0_off1 i g | 1 => k0_off2 i g | 2 => k0_off3 i g

/-- The window of values for the pair of heads `s`. -/
def offV (s : Fin 3) (i : grid0.Coords) (g : BitVec 32) : Fin 3 → ℕ :=
  match s with | 0 => k0_off16 i g | 1 => k0_off17 i g | 2 => k0_off18 i g

/-- The first row of latents of a block's window. -/
def start (j g : ℕ) : ℕ := min (4 * (j - 1) + 2 * g - 4) 54

/-- The table row for row `n` of the window and the block's row `e`. -/
def trow (j g e n : ℕ) : ℕ :=
  if min (4 * (j - 1) + 2 * g + e - 4) 56 ≤ start j g + n ∧ start j g + n < min (4 * (j - 1) + 2 * g + e - 4) 56 + 8
    then start j g + n + 7 - (4 * (j - 1) + 2 * g + e) else 15

theorem coord : ∀ t : Fin cfg0.N, (grid0.coords t 1 : ℕ) = t.val % 17 := (by decide +kernel : ∀ t : Fin grid0.N, _)

theorem off4_two : ∀ (t : Fin cfg0.N) (g : Fin 2) (n : Fin 10), t.val % 17 ≠ 0 →
    k0_off4 (grid0.coords t) (BitVec.ofNat 32 g) (BitVec.ofNat 32 n) (BitVec.ofNat 32 n) (BitVec.ofNat 32 n) 2 = trow (t.val % 17) g 0 n :=
  (by decide +kernel : ∀ (t : Fin grid0.N) (g : Fin 2) (n : Fin 10), _)

theorem off5_two : ∀ (t : Fin cfg0.N) (g : Fin 2) (n : Fin 10), t.val % 17 ≠ 0 →
    k0_off5 (grid0.coords t) (BitVec.ofNat 32 g) (BitVec.ofNat 32 n) (BitVec.ofNat 32 n) (BitVec.ofNat 32 n) 2 = trow (t.val % 17) g 1 n :=
  (by decide +kernel : ∀ (t : Fin grid0.N) (g : Fin 2) (n : Fin 10), _)

theorem off1_one : ∀ (t : Fin cfg0.N) (g : Fin 2), t.val % 17 ≠ 0 →
    k0_off1 (grid0.coords t) (BitVec.ofNat 32 g) 1 = 256 + start (t.val % 17) g * 64 :=
  (by decide +kernel : ∀ (t : Fin grid0.N) (g : Fin 2), _)

theorem offK_eq (s : Fin 3) (t : Fin cfg0.N) (g : Fin 2) (h : t.val % 17 ≠ 0) :
    offK s (grid0.coords t) (BitVec.ofNat 32 g) = ![0, 256 + start (t.val % 17) g * 64, (s : ℕ) * 128] := by
  rw [← off1_one t g h]
  match s with | 0 | 1 | 2 => rfl

theorem offV_eq (s : Fin 3) (t : Fin cfg0.N) (g : Fin 2) (h : t.val % 17 ≠ 0) :
    offV s (grid0.coords t) (BitVec.ofNat 32 g) = ![0, 256 + start (t.val % 17) g * 64, 384 + (s : ℕ) * 128] := by
  rw [← off1_one t g h]
  match s with | 0 | 1 | 2 => rfl

theorem offT_shape (s : Fin 3) (b : Fin 4) (i : grid0.Coords) (g n : BitVec 32) :
    offT s b i g n = ![0, 2 * (s : ℕ) + (b : ℕ) / 2, offT s b i g n 2, 0, 0] := by
  funext a
  match a with
  | 0 | 3 | 4 => match s, b with
    | 0, 0 | 0, 2 | 1, 0 | 1, 2 | 2, 0 | 2, 2 | 0, 1 | 0, 3 | 1, 1 | 1, 3 | 2, 1 | 2, 3 => rfl
  | 1 => match s, b with
    | 0, 0 | 0, 2 | 1, 0 | 1, 2 | 2, 0 | 2, 2 | 0, 1 | 0, 3 | 1, 1 | 1, 3 | 2, 1 | 2, 3 => rfl
  | 2 => rfl

theorem offT_two (s : Fin 3) (b : Fin 4) (i : grid0.Coords) (g n : BitVec 32) :
    offT s b i g n 2 = if (b : ℕ) % 2 = 0 then k0_off4 i g n n n 2 else k0_off5 i g n n n 2 := by
  match s, b with
  | 0, 0 | 0, 2 | 1, 0 | 1, 2 | 2, 0 | 2, 2 => exact (if_pos rfl).symm
  | 0, 1 | 0, 3 | 1, 1 | 1, 3 | 2, 1 | 2, 3 => exact (if_neg (by decide)).symm

theorem offT_eq (s : Fin 3) (b : Fin 4) (t : Fin cfg0.N) (g : Fin 2) (n : Fin 10) (h : t.val % 17 ≠ 0) :
    offT s b (grid0.coords t) (BitVec.ofNat 32 g) (BitVec.ofNat 32 n) = ![0, 2 * (s : ℕ) + (b : ℕ) / 2, trow (t.val % 17) g ((b : ℕ) % 2) n, 0, 0] := by
  rw [offT_shape, offT_two, off4_two t g n h, off5_two t g n h]
  rcases Nat.mod_two_eq_zero_or_one b with e | e <;> simp [e]

theorem trow_lt (j g e n : ℕ) (hn : n < 10) : trow j g e n < 16 := by
  unfold trow start
  split <;> omega

end Cert.NattenIdeal.Value

end

end
-- ==== Proof.NaRefScore.lean ====
module

public import proofs.«01_k».proof.Proof.Gen.NattenRefIdeal.Run
public import proofs.«01_k».proof.Proof.NaMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.NattenRefIdeal.Value

open Cert.NattenRefIdeal Cert.NattenRefIdeal.Gen

/-- The gather of the tokens: the row its index names. -/
theorem gatherTok (x : FVec Ideal S4x4096x6x64 .f32) (idx : IVec S4096x128x1 32) (b : Fin 4) (i : Fin 4096) (n : Fin 128) (h : Fin 6) (d : Fin 64)
    (k : Fin 4096) (hk : min (idx (ix3 i n 0)).toInt.toNat 4095 = k) :
    Host.gather gather_S4x4096x6x64_S4096x128x1_S4x4096x128x6x64_034_1_n_n_1_2_41664 x idx (ix5 b i n h d) = x (ix4 b k h d) := by
  unfold Host.gather
  refine congrArg x (funext fun a => Fin.ext ?_)
  match a with
  | ⟨0, _⟩ => exact Nat.zero_add _
  | ⟨1, _⟩ =>
    have hs : gather_S4x4096x6x64_S4096x128x1_S4x4096x128x6x64_034_1_n_n_1_2_41664.siIdx (ix5 b i n h d) ⟨0, by decide⟩ = ix3 i n 0 := by
      funext b'
      refine Fin.ext ?_
      match b' with
      | ⟨0, _⟩ => rfl
      | ⟨1, _⟩ => rfl
      | ⟨2, _⟩ => rfl
    rw [← hs] at hk
    exact hk
  | ⟨2, _⟩ => exact Nat.zero_add _
  | ⟨3, _⟩ => exact Nat.zero_add _

/-- The gather of the biases: the row and the column its two indices name. -/
theorem gatherBias (x : FVec Ideal S6x15x31 .f32) (idx : IVec S64x64x8x16x2 32) (h : Fin 6) (r j : Fin 64) (a : Fin 8) (b : Fin 16)
    (p : Fin 15) (q : Fin 31) (hp : min (idx (ix5 r j a b 0)).toInt.toNat 14 = p) (hq : min (idx (ix5 r j a b 1)).toInt.toNat 30 = q) :
    Host.gather gather_S6x15x31_S64x64x8x16x2_S6x64x64x8x16_0_12_n_n_12_4_611 x idx (ix5 h r j a b) = x (ix3 h p q) := by
  unfold Host.gather
  refine congrArg x (funext fun a' => Fin.ext ?_)
  match a' with
  | ⟨0, _⟩ => exact Nat.zero_add _
  | ⟨1, _⟩ =>
    have hs : gather_S6x15x31_S64x64x8x16x2_S6x64x64x8x16_0_12_n_n_12_4_611.siIdx (ix5 h r j a b) ⟨0, by decide⟩ = ix5 r j a b 0 := by
      funext b'
      refine Fin.ext ?_
      match b' with
      | ⟨0, _⟩ => rfl
      | ⟨1, _⟩ => rfl
      | ⟨2, _⟩ => rfl
      | ⟨3, _⟩ => rfl
      | ⟨4, _⟩ => rfl
    rw [← hs] at hp
    exact hp
  | ⟨2, _⟩ =>
    have hs : gather_S6x15x31_S64x64x8x16x2_S6x64x64x8x16_0_12_n_n_12_4_611.siIdx (ix5 h r j a b) ⟨1, by decide⟩ = ix5 r j a b 1 := by
      funext b'
      refine Fin.ext ?_
      match b' with
      | ⟨0, _⟩ => rfl
      | ⟨1, _⟩ => rfl
      | ⟨2, _⟩ => rfl
      | ⟨3, _⟩ => rfl
      | ⟨4, _⟩ => rfl
    rw [← hs] at hq
    exact hq

/-- The first row of the window of a row of the grid. -/
abbrev rs (r : ℕ) : ℕ := min (r - 4) 56

/-- The first column of the window of a column of the grid. -/
abbrev cs (j : ℕ) : ℕ := min (j - 8) 48

theorem rowStart : ∀ r : Fin 64, (IntOp.minsi 56#32 (IntOp.maxsi 0#32 (IntOp.subi (BitVec.ofNat 32 r) 4#32))) = BitVec.ofNat 32 (rs r) := by
  decide +kernel

theorem colStart : ∀ r : Fin 64, (IntOp.minsi 48#32 (IntOp.maxsi 0#32 (IntOp.subi (BitVec.ofNat 32 r) 8#32))) = BitVec.ofNat 32 (cs r) := by
  decide +kernel

variable (V : Valuation τ sig (Elt Ideal))

theorem rows30 (r : Fin 64) (a : Fin 8) : res_main_v30 (F := Ideal) V (ix2 r a) = BitVec.ofNat 32 (rs r + a) := by
  pointwise [res_main_v30]
  show IntOp.addi (IntOp.minsi 56#32 (IntOp.maxsi 0#32 (IntOp.subi (BitVec.ofNat 32 r) 4#32))) _ = _
  rw [rowStart]
  exact (BitVec.ofNat_add _ _).symm

theorem cols36 (r : Fin 64) (a : Fin 16) : res_main_v36 (F := Ideal) V (ix2 r a) = BitVec.ofNat 32 (cs r + a) := by
  pointwise [res_main_v36]
  show IntOp.addi (IntOp.minsi 48#32 (IntOp.maxsi 0#32 (IntOp.subi (BitVec.ofNat 32 r) 8#32))) _ = _
  rw [colStart]
  exact (BitVec.ofNat_add _ _).symm

theorem tok56 (i : Fin 4096) (n : Fin 128) :
    res_main_v56 (F := Ideal) V (ix2 i n) = BitVec.ofNat 32 ((rs ((i : ℕ) / 64) + (n : ℕ) / 16) * 64 + (cs ((i : ℕ) % 64) + (n : ℕ) % 16)) := by
  pointwise [res_main_v56]
  rw [rows30 V ⟨(i : ℕ) / 64, by omega⟩ ⟨(n : ℕ) / 16, by omega⟩, cols36 V ⟨(i : ℕ) % 64, by omega⟩ ⟨(n : ℕ) % 16, by omega⟩]
  show (BitVec.ofNat 32 _ * BitVec.ofNat 32 64) + BitVec.ofNat 32 _ = _
  rw [← BitVec.ofNat_mul, ← BitVec.ofNat_add]

/-- A number below a table's size, wrapped as an index into it, is itself. -/
theorem wrapTok : ∀ v : Fin 4096, min (Scalar.select (IntOp.cmpi CmpIPredicate.slt (BitVec.ofNat 32 v) 0#32)
    (IntOp.addi (BitVec.ofNat 32 v) 4096#32) (BitVec.ofNat 32 v)).toInt.toNat 4095 = (v : ℕ) := by
  decide +kernel

theorem wrapRow : ∀ (r : Fin 64) (a : Fin 8), min (Scalar.select
      (IntOp.cmpi CmpIPredicate.slt (IntOp.addi (IntOp.subi (BitVec.ofNat 32 (rs r + a)) (BitVec.ofNat 32 r)) 7#32) 0#32)
      (IntOp.addi (IntOp.addi (IntOp.subi (BitVec.ofNat 32 (rs r + a)) (BitVec.ofNat 32 r)) 7#32) 15#32)
      (IntOp.addi (IntOp.subi (BitVec.ofNat 32 (rs r + a)) (BitVec.ofNat 32 r)) 7#32)).toInt.toNat 14 = rs r + a + 7 - r := by
  decide +kernel

theorem wrapCol : ∀ (r : Fin 64) (a : Fin 16), min (Scalar.select
      (IntOp.cmpi CmpIPredicate.slt (IntOp.addi (IntOp.subi (BitVec.ofNat 32 (cs r + a)) (BitVec.ofNat 32 r)) 15#32) 0#32)
      (IntOp.addi (IntOp.addi (IntOp.subi (BitVec.ofNat 32 (cs r + a)) (BitVec.ofNat 32 r)) 15#32) 31#32)
      (IntOp.addi (IntOp.subi (BitVec.ofNat 32 (cs r + a)) (BitVec.ofNat 32 r)) 15#32)).toInt.toNat 30 = cs r + a + 15 - r := by
  decide +kernel

abbrev aP : FVec Ideal S4x4352x2688 .f32 := V (Proc.devRef .tc main_arg0)
abbrev aKV : FVec Ideal S4x4352x768 .bf16 := V (Proc.devRef .tc main_arg1)
abbrev aB : FVec Ideal S4x6x15x31 .f32 := V (Proc.devRef .tc main_arg2)

/-- The token a place of a query's window is on. -/
abbrev tokN (i n : ℕ) : ℕ := (rs (i / 64) + n / 16) * 64 + (cs (i % 64) + n % 16)

theorem tokN_lt (i n : ℕ) (hn : n < 128) : tokN i n < 4096 := by
  unfold tokN rs cs
  omega

/-- The product of a latent's query with a key, over the head. -/
def dotq (b : Fin 4) (i j : Fin 4352) (h : Fin 6) (P : FVec Ideal S4x4352x2688 .f32) (KV : FVec Ideal S4x4352x768 .bf16) : EReal :=
  ∑ x : Fin 64, (HMul.hMul (α := EReal) (β := EReal) (γ := EReal) (HMul.hMul (α := EReal) (β := EReal) (γ := EReal) (P (ix3 b i ⟨1536 + (h * 64 + x), by omega⟩)) (Ideal.ofBits FTy.f32 1040187392#32))
    (KV (ix3 b j ⟨h * 64 + x, by omega⟩)))

/-- A latent's scores: its window's keys with their biases, then the context's keys. -/
def scoreR (b : Fin 4) (i : Fin 4096) (h : Fin 6) (n : Fin 384) (P : FVec Ideal S4x4352x2688 .f32) (KV : FVec Ideal S4x4352x768 .bf16)
    (B : FVec Ideal S4x6x15x31 .f32) : EReal :=
  if hn : (n : ℕ) < 128 then
    HAdd.hAdd (α := EReal) (β := EReal) (γ := EReal) (dotq b ⟨256 + i, by omega⟩ ⟨256 + tokN i n, by have := tokN_lt i n hn; omega⟩ h P KV)
      (B (ix4 0 h ⟨rs ((i : ℕ) / 64) + (n : ℕ) / 16 + 7 - (i : ℕ) / 64, by simp only [rs]; omega⟩ ⟨cs ((i : ℕ) % 64) + (n : ℕ) % 16 + 15 - (i : ℕ) % 64, by simp only [cs]; omega⟩))
  else dotq b ⟨256 + i, by omega⟩ ⟨n - 128, by omega⟩ h P KV

/-- What the reference's scores are. -/
theorem score97 (b : Fin 4) (i : Fin 4096) (h : Fin 6) (n : Fin 384) :
    (res_main_v97 (F := Ideal) V (ix4 b i h n) : EReal) = scoreR b i h n (aP V) (aKV V) (aB V) := by
  pointwise [res_main_v97, res_main_v16, scoreR]
  by_cases hn : (n : ℕ) < 128
  · rw [dif_pos hn, dif_pos hn]
    refine Ideal.add_congr (Finset.sum_congr rfl fun x _ => Ideal.mul_congr ?_ ?_) ?_
    · pointwise [res_main_v1]
    · rw [gatherTok _ _ b i ⟨n, hn⟩ h x ⟨tokN i n, tokN_lt i n hn⟩ (by
        pointwise
        rw [tok56]
        exact wrapTok ⟨tokN i n, tokN_lt i n hn⟩)]
      pointwise [res_main_v5, res_main_v3]
    · rw [gatherBias _ _ h ⟨(i : ℕ) / 64, by omega⟩ ⟨(i : ℕ) % 64, by omega⟩ ⟨(n : ℕ) / 16, by omega⟩ ⟨(n : ℕ) % 16, by omega⟩
        ⟨rs ((i : ℕ) / 64) + (n : ℕ) / 16 + 7 - (i : ℕ) / 64, by simp only [rs]; omega⟩ ⟨cs ((i : ℕ) % 64) + (n : ℕ) % 16 + 15 - (i : ℕ) % 64, by simp only [cs]; omega⟩
        (by
          pointwise [res_main_v57]
          rw [rows30]
          exact wrapRow ⟨(i : ℕ) / 64, by omega⟩ ⟨(n : ℕ) / 16, by omega⟩)
        (by
          pointwise [res_main_v58]
          rw [cols36]
          exact wrapCol ⟨(i : ℕ) % 64, by omega⟩ ⟨(n : ℕ) % 16, by omega⟩)]
      pointwise
  · rw [dif_neg hn, dif_neg hn]
    change (_ : EReal) = (_ : EReal)
    refine Finset.sum_congr rfl fun x _ => ?_
    refine (mul_comm _ _).trans (Ideal.mul_congr ?_ ?_)
    · pointwise [res_main_v1]
    · pointwise [res_main_v5, res_main_v3]

end Cert.NattenRefIdeal.Value

end

end
-- ==== Proof.NaRefRow.lean ====
module

public import proofs.«01_k».proof.Proof.NaRefScore

@[expose] public section

set_option maxRecDepth 16384

noncomputable section

open Idealize.ShloMosaic Idealize.ShloMosaic.TcCoe Idealize.SL.Sem

namespace Cert.NattenRefIdeal.Value

open Cert.NattenRefIdeal Cert.NattenRefIdeal.Gen Cert.NaMath

theorem negInf : Ideal.ofBits .f32 0xFF800000#32 = ⊥ := by simp [Ideal.ofBits, Ideal.ieee]

/-- The largest element of each row. -/
theorem maxRow {n0 n1 n2 n3 : ℕ} (hr : (⟨4, ![n0, n1, n2, n3]⟩ : Shape).ReducesTo [3] ⟨3, ![n0, n1, n2]⟩) {u : Shape} (hu : 0 < u.numel)
    (x : FVec Ideal ⟨4, ![n0, n1, n2, n3]⟩ .f32) (init : FVec Ideal u .f32) (hi : ∀ k, init k = (⊥ : EReal)) (b : Fin n0) (i : Fin n1) (h : Fin n2) :
    Host.reduce FloatOps.maximumf x init hr hu (ix3 b i h) = top fun n => x (ix4 b i h n) := by
  refine (Host.reduce_eq_fold _ x init hr hu _).trans ?_
  rw [hi]
  exact Shape.ReducesTo.fold_fiber_r4_a3 hr (ix3 b i h) max ⊥ x

theorem subL (X : FVec Ideal S4x4096x6x384 .f32) (M : FVec Ideal S4x4096x6 .f32) (b : Fin 4) (i : Fin 4096) (h : Fin 6) (n : Fin 384) :
    (Host.exp (subf X (broadcastInDim S4x4096x6x384 ![0, 1, 2, 3] bcast_S4x4096x6x1_S4x4096x6x384_0_1_2_3 (broadcastInDim S4x4096x6x1 ![0, 1, 2] bcast_S4x4096x6_S4x4096x6x1_0_1_2
      (maximumf (broadcastInDim S4x4096x6 ![] bcast_S_S4x4096x6 (constant S_ .f32 0xFF800000#32)) M)))) (ix4 b i h n) : EReal)
    = Ideal.exp (HSub.hSub (α := EReal) (β := EReal) (γ := EReal) (X (ix4 b i h n)) (max (Ideal.ofBits .f32 0xFF800000#32) (M (ix3 b i h)))) := by
  pointwise

theorem subC (X : FVec Ideal S4x6x256x256 .f32) (M : FVec Ideal S4x6x256 .f32) (b : Fin 4) (h : Fin 6) (i n : Fin 256) :
    (Host.exp (subf X (broadcastInDim S4x6x256x256 ![0, 1, 2, 3] bcast_S4x6x256x1_S4x6x256x256_0_1_2_3 (broadcastInDim S4x6x256x1 ![0, 1, 2] bcast_S4x6x256_S4x6x256x1_0_1_2
      (maximumf (broadcastInDim S4x6x256 ![] bcast_S_S4x6x256 (constant S_ .f32 0xFF800000#32)) M)))) (ix4 b h i n) : EReal)
    = Ideal.exp (HSub.hSub (α := EReal) (β := EReal) (γ := EReal) (X (ix4 b h i n)) (max (Ideal.ofBits .f32 0xFF800000#32) (M (ix3 b h i)))) := by
  pointwise

theorem divL (E : FVec Ideal S4x4096x6x384 .f32) (b : Fin 4) (i : Fin 4096) (h : Fin 6) (n : Fin 384) :
    (Host.divf E (broadcastInDim S4x4096x6x384 ![0, 1, 2, 3] bcast_S4x4096x6x1_S4x4096x6x384_0_1_2_3 (broadcastInDim S4x4096x6x1 ![0, 1, 2] bcast_S4x4096x6_S4x4096x6x1_0_1_2
      (Host.reduceAdd E (constant S_ .f32 0x00000000#32) reducesTo_S4x4096x6x384_S4x4096x6_d3 h_S_))) (ix4 b i h n) : EReal)
    = Ideal.div (E (ix4 b i h n)) (∑ k : Fin 384, E (ix4 b i h k)) := by
  pointwise

theorem divC (E : FVec Ideal S4x6x256x256 .f32) (b : Fin 4) (h : Fin 6) (i n : Fin 256) :
    (Host.divf E (broadcastInDim S4x6x256x256 ![0, 1, 2, 3] bcast_S4x6x256x1_S4x6x256x256_0_1_2_3 (broadcastInDim S4x6x256x1 ![0, 1, 2] bcast_S4x6x256_S4x6x256x1_0_1_2
      (Host.reduceAdd E (constant S_ .f32 0x00000000#32) reducesTo_S4x6x256x256_S4x6x256_d3 h_S_))) (ix4 b h i n) : EReal)
    = Ideal.div (E (ix4 b h i n)) (∑ k : Fin 256, E (ix4 b h i k)) := by
  pointwise

variable (V : Valuation τ sig (Elt Ideal))

theorem exp104 (b : Fin 4) (i : Fin 4096) (h : Fin 6) (n : Fin 384) :
    (res_main_v104 (F := Ideal) V (ix4 b i h n) : EReal) = Ideal.exp (HSub.hSub (α := EReal) (β := EReal) (γ := EReal)
      (scoreR b i h n (aP V) (aKV V) (aB V)) (top fun n => scoreR b i h n (aP V) (aKV V) (aB V))) := by
  refine (subL (res_main_v97 V) _ b i h n).trans ?_
  rw [(maxRow (n0 := 4) (n1 := 4096) (n2 := 6) (n3 := 384) reducesTo_S4x4096x6x384_S4x4096x6_d3 h_S_ (res_main_v97 V) (constant S_ .f32 0xFF800000#32)
    (fun _ => negInf) b i h), negInf, max_eq_right bot_le]
  simp only [score97]

theorem weight108 (b : Fin 4) (i : Fin 4096) (h : Fin 6) (n : Fin 384) :
    (res_main_v108 (F := Ideal) V (ix4 b i h n) : EReal) = Ideal.div (Ideal.exp (HSub.hSub (α := EReal) (β := EReal) (γ := EReal)
      (scoreR b i h n (aP V) (aKV V) (aB V)) (top fun n => scoreR b i h n (aP V) (aKV V) (aB V)))) (den fun n => scoreR b i h n (aP V) (aKV V) (aB V)) := by
  refine (divL (res_main_v104 V) b i h n).trans ?_
  simp only [exp104]
  rfl

/-- The scores of a context token. -/
theorem score120 (b : Fin 4) (i : Fin 256) (h : Fin 6) (n : Fin 256) :
    (res_main_v120 (F := Ideal) V (ix4 b h i n) : EReal) = dotq b ⟨i, by omega⟩ ⟨n, by omega⟩ h (aP V) (aKV V) := by
  pointwise [res_main_v120, dotq]
  change (_ : EReal) = (_ : EReal)
  refine Finset.sum_congr rfl fun x _ => Ideal.mul_congr ?_ ?_
  · pointwise [res_main_v1]
  · pointwise [res_main_v5, res_main_v3]

theorem exp127 (b : Fin 4) (i : Fin 256) (h : Fin 6) (n : Fin 256) :
    (res_main_v127 (F := Ideal) V (ix4 b h i n) : EReal) = Ideal.exp (HSub.hSub (α := EReal) (β := EReal) (γ := EReal)
      (dotq b ⟨i, by omega⟩ ⟨n, by omega⟩ h (aP V) (aKV V)) (top fun n : Fin 256 => dotq b ⟨i, by omega⟩ ⟨n, by omega⟩ h (aP V) (aKV V))) := by
  refine (subC (res_main_v120 V) _ b h i n).trans ?_
  rw [(maxRow (n0 := 4) (n1 := 6) (n2 := 256) (n3 := 256) reducesTo_S4x6x256x256_S4x6x256_d3 h_S_ (res_main_v120 V) (constant S_ .f32 0xFF800000#32)
    (fun _ => negInf) b h i), negInf, max_eq_right bot_le]
  simp only [score120]

/-- The gate of a token. -/
def gateR (z : EReal) : EReal := z * Ideal.div 1 (1 + Ideal.exp (-z))

/-- The attention of a context token, gated, from its weights. -/
theorem ctxRow (Vv : FVec Ideal S4x4352x6x64 .f32) (W : FVec Ideal S4x6x256x256 .f32) (Z : FVec Ideal S4x256x384 .f32) (b : Fin 4) (i : Fin 256) (c : Fin 384) :
    (mulf (shapeCast _ (transpose S4x256x6x64 [0, 3, 1, 2] (Host.dotGeneral dot_S4x256x6x64_S4x6x256x256_S4x6x64x256_1_3_3_2_02_01 none
      (extractStridedSlice S4x256x6x64 ![0, 0, 0, 0] Vv slices_S4x4352x6x64_S4x256x6x64_0_0_0_0) W) transposes_S4x6x64x256_S4x256x6x64_0_3_1_2) shapeCasts_S4x256x6x64_S4x256x384)
      (mulf Z (Host.divf (broadcastInDim S4x256x384 ![] bcast_S_S4x256x384 (constant S_ .f32 0x3F800000#32))
        (addf (broadcastInDim S4x256x384 ![] bcast_S_S4x256x384 (constant S_ .f32 0x3F800000#32)) (Host.exp (Host.negf Z))))) (ix3 b i c) : EReal)
    = (∑ n : Fin 256, HMul.hMul (α := EReal) (β := EReal) (γ := EReal) (Vv (ix4 b ⟨n, by omega⟩ ⟨c / 64, by omega⟩ ⟨c % 64, by omega⟩)) (W (ix4 b ⟨c / 64, by omega⟩ i n)))
      * gateR (Z (ix3 b i c)) := by
  pointwise [gateR]

/-- The attention of a latent token, gated, from its weights. -/
theorem latRow (Vv : FVec Ideal S4x4352x6x64 .f32) (W : FVec Ideal S4x4096x6x384 .f32) (Gv : FVec Ideal S4x4096x128x6x64 .f32) (Z : FVec Ideal S4x4096x384 .f32) (b : Fin 4) (i : Fin 4096) (c : Fin 384) :
    (mulf (shapeCast _ (addf (Host.dotGeneral dot_S4x4096x6x128_S4x4096x128x6x64_S4x4096x6x64_3_2_n_4_012_013 none
      (extractStridedSlice S4x4096x6x128 ![0, 0, 0, 0] W slices_S4x4096x6x384_S4x4096x6x128_0_0_0_0) Gv)
      (transpose S4x4096x6x64 [0, 3, 1, 2] (Host.dotGeneral dot_S4x256x6x64_S4x4096x6x256_S4x6x64x4096_1_3_3_1_02_02 none
        (extractStridedSlice S4x256x6x64 ![0, 0, 0, 0] Vv slices_S4x4352x6x64_S4x256x6x64_0_0_0_0)
        (extractStridedSlice S4x4096x6x256 ![0, 0, 0, 128] W slices_S4x4096x6x384_S4x4096x6x256_0_0_0_128)) transposes_S4x6x64x4096_S4x4096x6x64_0_3_1_2)) shapeCasts_S4x4096x6x64_S4x4096x384)
      (mulf Z (Host.divf (broadcastInDim S4x4096x384 ![] bcast_S_S4x4096x384 (constant S_ .f32 0x3F800000#32))
        (addf (broadcastInDim S4x4096x384 ![] bcast_S_S4x4096x384 (constant S_ .f32 0x3F800000#32)) (Host.exp (Host.negf Z))))) (ix3 b i c) : EReal)
    = (HAdd.hAdd (α := EReal) (β := EReal) (γ := EReal)
        (∑ n : Fin 128, HMul.hMul (α := EReal) (β := EReal) (γ := EReal) (W (ix4 b i ⟨c / 64, by omega⟩ ⟨n, by omega⟩)) (Gv (ix5 b i n ⟨c / 64, by omega⟩ ⟨c % 64, by omega⟩)))
        (∑ n : Fin 256, HMul.hMul (α := EReal) (β := EReal) (γ := EReal) (Vv (ix4 b ⟨n, by omega⟩ ⟨c / 64, by omega⟩ ⟨c % 64, by omega⟩)) (W (ix4 b i ⟨c / 64, by omega⟩ ⟨128 + n, by omega⟩))))
      * gateR (Z (ix3 b i c)) := by
  pointwise [gateR]

/-- The context's rows, then the latents'. -/
theorem rows_at (X : FVec Ideal S4x256x384 .f32) (Y : FVec Ideal S4x4096x384 .f32) (b : Fin 4) (i : Fin 4352) (c : Fin 384) :
    (concatenate S4x4352x384 1 [⟨S4x256x384, X⟩, ⟨S4x4096x384, Y⟩] concatenates_S4x256x384_S4x4096x384_S4x4352x384_d1 (ix3 b i c) : EReal)
    = if h : (i : ℕ) < 256 then X (ix3 b ⟨i, h⟩ c) else Y (ix3 b ⟨i - 256, by omega⟩ c) := by
  pointwise

/-- The value of a place of a latent token's window, then of the context. -/
def valR (b : Fin 4) (i : Fin 4096) (n : Fin 384) (c : Fin 384) (KV : FVec Ideal S4x4352x768 .bf16) : EReal :=
  if hn : (n : ℕ) < 128 then KV (ix3 b ⟨256 + tokN i n, by have := tokN_lt i n hn; omega⟩ ⟨384 + c, by omega⟩)
  else KV (ix3 b ⟨n - 128, by omega⟩ ⟨384 + c, by omega⟩)

/-- What the reference's attention is: of a context token over the context, of a latent token over its window and the context. -/
def naR (P : FVec Ideal S4x4352x2688 .f32) (KV : FVec Ideal S4x4352x768 .bf16) (B : FVec Ideal S4x6x15x31 .f32) (b : Fin 4) (i : Fin 4352) (c : Fin 384) : EReal :=
  if hi : (i : ℕ) < 256 then
    att (fun n : Fin 256 => dotq b i ⟨n, by omega⟩ ⟨c / 64, by omega⟩ P KV) (fun n : Fin 256 => KV (ix3 b ⟨n, by omega⟩ ⟨384 + c, by omega⟩))
      * gateR (P (ix3 b i ⟨1920 + c, by omega⟩))
  else
    att (fun n : Fin 384 => scoreR b ⟨i - 256, by omega⟩ ⟨c / 64, by omega⟩ n P KV B) (fun n : Fin 384 => valR b ⟨i - 256, by omega⟩ n c KV)
      * gateR (P (ix3 b i ⟨1920 + c, by omega⟩))

/-- The values, by head. -/
theorem val7 (b : Fin 4) (i : Fin 4352) (h : Fin 6) (d : Fin 64) :
    (res_main_v7 (F := Ideal) V (ix4 b i h d) : EReal) = aKV V (ix3 b i ⟨384 + (h * 64 + d), by omega⟩) := by
  pointwise [res_main_v7, res_main_v3]

/-- A sum over the window and the context is their two sums. -/
theorem split384 (f : Fin 384 → EReal) : ∑ n : Fin 384, f n = ∑ n : Fin 128, f ⟨n, by omega⟩ + ∑ n : Fin 256, f ⟨128 + n, by omega⟩ :=
  Fin.sum_univ_add (a := 128) (b := 256) f

set_option maxHeartbeats 2000000 in
/-- The reference's result, row by row. -/
theorem ref_row : val3 (F := Ideal) V (Proc.devRef .tc main_v142) = fun j => naR (aP V) (aKV V) (aB V) (j 0) (j 1) (j 2) := by
  refine (val3_main_v142 V).trans ?_
  funext j
  idx_vars j
  refine (rows_at _ _ j0 j1 j2).trans ?_
  change (_ : EReal) = naR (aP V) (aKV V) (aB V) j0 j1 j2
  unfold naR
  by_cases hi : (j1 : ℕ) < 256
  · rw [dif_pos hi, dif_pos hi]
    refine (ctxRow _ _ _ j0 ⟨j1, hi⟩ j2).trans (Ideal.mul_congr ?_ ?_)
    · change (_ : EReal) = (_ : EReal)
      refine Finset.sum_congr rfl fun n _ => ?_
      refine (mul_comm _ _).trans (Ideal.mul_congr ?_ ?_)
      · refine (divC (res_main_v127 V) _ _ _ _).trans ?_
        simp only [exp127]
        rfl
      · refine (val7 V _ _ _ _).trans (congrArg (fun x => aKV V (ix3 j0 _ x)) (Fin.ext ?_))
        simp only []
        omega
    · refine congrArg gateR ?_
      pointwise [res_main_v135, res_main_v2]
  · rw [dif_neg hi, dif_neg hi]
    refine (latRow _ _ _ _ j0 ⟨(j1 : ℕ) - 256, by omega⟩ j2).trans (Ideal.mul_congr ?_ ?_)
    · refine Eq.trans ?_ (split384 _).symm
      refine Ideal.add_congr ?_ ?_
      · change (_ : EReal) = (_ : EReal)
        refine Finset.sum_congr rfl fun n _ => Ideal.mul_congr (weight108 V _ _ _ _) ?_
        unfold valR
        refine Eq.trans ?_ (dif_pos n.isLt).symm
        rw [gatherTok _ _ j0 ⟨(j1 : ℕ) - 256, by omega⟩ n ⟨(j2 : ℕ) / 64, by omega⟩ ⟨(j2 : ℕ) % 64, by omega⟩ ⟨tokN ((j1 : ℕ) - 256) n, tokN_lt _ n n.isLt⟩ (by
          pointwise
          rw [tok56]
          exact wrapTok ⟨tokN ((j1 : ℕ) - 256) n, tokN_lt _ n n.isLt⟩)]
        pointwise [val7]
        refine congrArg (fun x => aKV V (ix3 j0 _ x)) (Fin.ext ?_)
        simp only []
        omega
      · change (_ : EReal) = (_ : EReal)
        refine Finset.sum_congr rfl fun n _ => ?_
        refine (mul_comm _ _).trans (Ideal.mul_congr (weight108 V _ _ _ _) ?_)
        unfold valR
        refine Eq.trans ?_ (dif_neg (by simp only []; omega)).symm
        refine (val7 V _ _ _ _).trans ?_
        congr 2 <;> refine Fin.ext ?_ <;> simp only [] <;> omega
    · refine congrArg gateR ?_
      pointwise [res_main_v139, res_main_v2]
      exact congrArg (fun x => aP V (ix3 j0 x _)) (Fin.ext (by simp only []; omega))

end Cert.NattenRefIdeal.Value

end

end
-- ==== Proof.NaStore.lean ====
/- What one block stores is the reference's attention, gated: the keys of a query's window sit inside the block's, and the block's
   other keys have no weight. -/
module

public import proofs.«01_k».proof.Proof.NaKern
public import proofs.«01_k».proof.Proof.NaHost
public import proofs.«01_k».proof.Proof.NaOff
public import proofs.«01_k».proof.Proof.NaRefRow
public import proofs.«01_k».proof.Proof.OutMath

@[expose] public section

set_option maxRecDepth 16384

noncomputable section

open Idealize.ShloMosaic Idealize.ShloMosaic.TcCoe Idealize.SL.Sem

namespace Cert.NattenIdeal.Value

open Cert.NattenIdeal Cert.NattenIdeal.Gen Cert.NaMath
open Cert.NattenRefIdeal.Value (naR dotq scoreR valR rs cs tokN tokN_lt gateR)

/-- The queries, the keys and the biases are finite. -/
structure FiniteIn (P : FVec Ideal S4x4352x2688 .f32) (KV : FVec Ideal S4x4352x768 .bf16) (B : FVec Ideal S4x6x15x31 .f32) : Prop where
  q : ∀ (b : Fin 4) (i : Fin 4352) (k : Fin 384), ∃ r : ℝ, (P (ix3 b i ⟨1536 + k, by omega⟩) : EReal) = r
  k : ∀ (b : Fin 4) (i : Fin 4352) (k : Fin 384), ∃ r : ℝ, (KV (ix3 b i ⟨k, by omega⟩) : EReal) = r
  b : ∀ (h : Fin 6) (x : Fin 15) (y : Fin 31), ∃ r : ℝ, (B (ix4 0 h x y) : EReal) = r

theorem sum_real {n : ℕ} (f : Fin n → EReal) (h : ∀ x, ∃ r : ℝ, f x = r) : ∃ r : ℝ, (∑ x, f x) = r := by
  choose r hr using h
  refine ⟨∑ x, r x, ?_⟩
  simp only [hr]
  classical
  induction (Finset.univ : Finset (Fin n)) using Finset.induction_on with
  | empty => simp
  | insert a t ha ih => rw [Finset.sum_insert ha, Finset.sum_insert ha, ih, EReal.coe_add]

theorem eighth : Ideal.ofBits .f32 0x3E000000#32 = ((1 / 8 : ℝ) : EReal) := by
  simp [Ideal.ofBits, Ideal.ieee, -EReal.coe_mul]; norm_num

variable {P : FVec Ideal S4x4352x2688 .f32} {KV : FVec Ideal S4x4352x768 .bf16} {B : FVec Ideal S4x6x15x31 .f32}

theorem dotq_real (hf : FiniteIn P KV B) (b : Fin 4) (i j : Fin 4352) (h : Fin 6) : ∃ r : ℝ, dotq b i j h P KV = r := by
  refine sum_real _ fun x => ?_
  obtain ⟨p, hp⟩ := hf.q b i ⟨h * 64 + x, by omega⟩
  obtain ⟨k, hk⟩ := hf.k b j ⟨h * 64 + x, by omega⟩
  exact ⟨p * (1 / 8) * k, by rw [EReal.coe_mul, EReal.coe_mul]; exact Ideal.mul_congr (Ideal.mul_congr hp eighth) hk⟩

/-- The bias of a window's place: of its offset inside the query's own window, and no weight outside. -/
theorem tabR_trow (j g e a : ℕ) (hj : 1 ≤ j) (hj' : j < 17) (hg : g < 2) (he : e < 2) (ha : a < 10) (h : Fin 6) (x y : Fin 64) (gr : ℕ) (hgr : gr = 4 * (j - 1) + 2 * g + e) :
    tabR B h ⟨trow j g e a, trow_lt j g e a ha⟩ x y
    = if H : (rs gr ≤ start j g + a ∧ start j g + a < rs gr + 8) ∧ (cs x ≤ y ∧ (y : ℕ) < cs x + 16)
      then B (ix4 0 h ⟨start j g + a + 7 - gr, by unfold rs start at H; unfold start; omega⟩ ⟨y + 15 - x, by unfold cs at H; omega⟩) else ⊥ := by
  have ht : trow j g e a = if rs gr ≤ start j g + a ∧ start j g + a < rs gr + 8 then start j g + a + 7 - gr else 15 := by
    subst hgr; rfl
  unfold tabR
  by_cases H : (rs gr ≤ start j g + a ∧ start j g + a < rs gr + 8) ∧ (cs x ≤ y ∧ (y : ℕ) < cs x + 16)
  · rw [if_pos H.1] at ht
    have h15 : start j g + a + 7 - gr < 15 := by unfold rs start at H; unfold start; omega
    rw [dif_pos H, dif_pos ⟨by simp only [ht]; exact h15, H.2⟩]
    exact congrArg (fun w => B (ix4 0 h w ⟨y + 15 - x, by unfold cs at H; omega⟩)) (Fin.ext ht)
  · rw [dif_neg H, dif_neg]
    rintro ⟨h1, h2⟩
    refine H ⟨?_, h2⟩
    by_contra hn
    rw [if_neg hn] at ht
    simp only [ht] at h1
    omega

/-- What one block of latents stores. -/
theorem storeB (hf : FiniteIn P KV B) (b : Fin 4) (j : ℕ) (hj : 1 ≤ j) (hj' : j < 17) (g : Fin 2) (s : Fin 3)
    (q : FVec Ideal S1x128x128 .f32) (kw : FVec Ideal S1x640x128 .bf16) (kc : FVec Ideal S1x256x128 .bf16)
    (T : Fin 4 → Fin 10 → FVec Ideal S1x1x1x64x128 .f32) (vw : FVec Ideal S1x640x128 .bf16) (vc : FVec Ideal S1x256x128 .bf16) (z : FVec Ideal S1x128x128 .f32)
    (hq : ∀ r l : Fin 128, (q (ix3 0 r l) : EReal) = P (ix3 b ⟨j * 256 + (g * 128 + r), by omega⟩ ⟨1536 + (s * 128 + l), by omega⟩))
    (hz : ∀ r l : Fin 128, (z (ix3 0 r l) : EReal) = P (ix3 b ⟨j * 256 + (g * 128 + r), by omega⟩ ⟨1920 + (s * 128 + l), by omega⟩))
    (hkw : ∀ (n : Fin 640) (l : Fin 128), (kw (ix3 0 n l) : EReal) = KV (ix3 b ⟨256 + start j g * 64 + n, by unfold start; omega⟩ ⟨s * 128 + l, by omega⟩))
    (hvw : ∀ (n : Fin 640) (l : Fin 128), (vw (ix3 0 n l) : EReal) = KV (ix3 b ⟨256 + start j g * 64 + n, by unfold start; omega⟩ ⟨384 + (s * 128 + l), by omega⟩))
    (hkc : ∀ (n : Fin 256) (l : Fin 128), (kc (ix3 0 n l) : EReal) = KV (ix3 b ⟨n, by omega⟩ ⟨s * 128 + l, by omega⟩))
    (hvc : ∀ (n : Fin 256) (l : Fin 128), (vc (ix3 0 n l) : EReal) = KV (ix3 b ⟨n, by omega⟩ ⟨384 + (s * 128 + l), by omega⟩))
    (hT : ∀ (e : Fin 4) (a : Fin 10) (x : Fin 64) (l : Fin 128), (T e a (ix5 0 0 0 x l) : EReal)
      = tabR B ⟨2 * s + e / 2, by omega⟩ ⟨trow j g ((e : ℕ) % 2) a, trow_lt _ _ _ _ a.isLt⟩ x ⟨l % 64, by omega⟩)
    (r l : Fin 128) (i : Fin 4352) (hi : (i : ℕ) = j * 256 + (g * 128 + r)) (c : Fin 384) (hc : (c : ℕ) = s * 128 + l) :
    (finB (scB q kw kc T) vw vc z (ix3 0 r l) : EReal) = naR P KV B b i c := by
  obtain ⟨iv, hiv⟩ := i
  obtain ⟨cv, hcv⟩ := c
  simp only at hi hc
  subst hi hc
  refine (finB_at _ vw vc z r l).trans ?_
  have hge : ¬ j * 256 + ((g : ℕ) * 128 + r) < 256 := by omega
  unfold naR
  rw [dif_neg hge]
  refine Ideal.mul_congr ?_ ?_
  swap
  · refine (Cert.OutMath.silu _).trans ?_
    rw [hz r l]
    rfl
  refine (pay145_at _ vw vc r l).trans ?_
  -- the scores, by place
  have hl : (s : ℕ) * 128 + l < 384 := by omega
  have hh : ((s : ℕ) * 128 + l) / 64 < 6 := by omega
  have hsc : ∀ n : Fin 896, (scB q kw kc T (ix2 (srow r l) n) : EReal) = if hn : (n : ℕ) < 640 then
      HAdd.hAdd (α := EReal) (β := EReal) (γ := EReal) (dotq b ⟨j * 256 + (g * 128 + r), hiv⟩ ⟨256 + start j g * 64 + n, by unfold start; omega⟩ ⟨((s : ℕ) * 128 + l) / 64, hh⟩ P KV)
        (tabR B ⟨((s : ℕ) * 128 + l) / 64, hh⟩ ⟨trow j g ((r : ℕ) / 64) ((n : ℕ) / 64), trow_lt _ _ _ _ (by omega)⟩ ⟨(r : ℕ) % 64, by omega⟩ ⟨(n : ℕ) % 64, by omega⟩)
      else dotq b ⟨j * 256 + (g * 128 + r), hiv⟩ ⟨n - 640, by omega⟩ ⟨((s : ℕ) * 128 + l) / 64, hh⟩ P KV := by
    intro n
    have hp1 : (srow r l : ℕ) % 128 = r := by unfold srow; split <;> simp only [] <;> omega
    have hp2 : (srow r l : ℕ) / 128 = (l : ℕ) / 64 := by unfold srow; split <;> simp only [] <;> omega
    have hp3 : (srow r l : ℕ) / 64 = (l : ℕ) / 64 * 2 + (r : ℕ) / 64 := by unfold srow; split <;> simp only [] <;> omega
    have hp4 : (srow r l : ℕ) % 64 = (r : ℕ) % 64 := by unfold srow; split <;> simp only [] <;> omega
    refine (scB_at q kw kc T (srow r l) n).trans ?_
    have hdot : ∀ j' : Fin 4352, (∀ l', keyB kw kc l' n = KV (ix3 b j' ⟨s * 128 + l', by omega⟩)) →
        (∑ d : Fin 64, HMul.hMul (α := EReal) (β := EReal) (γ := EReal) (HMul.hMul (α := EReal) (β := EReal) (γ := EReal) (q (ix3 0 ⟨(srow r l : ℕ) % 128, by omega⟩ ⟨(srow r l : ℕ) / 128 * 64 + d, by omega⟩)) (Ideal.ofBits .f32 0x3E000000#32))
          (keyB kw kc ⟨(srow r l : ℕ) / 128 * 64 + d, by omega⟩ n)) = dotq b ⟨j * 256 + (g * 128 + r), hiv⟩ j' ⟨((s : ℕ) * 128 + l) / 64, hh⟩ P KV := by
      intro j' hk
      unfold dotq
      change (_ : EReal) = (_ : EReal)
      refine Finset.sum_congr rfl fun d _ => ?_
      rw [hk, hq]
      refine Ideal.mul_congr (Ideal.mul_congr (congrArg P ?_) rfl) (congrArg KV ?_)
      · refine congrArg₂ (ix3 b) (Fin.ext ?_) (Fin.ext ?_) <;> simp only [] <;> omega
      · refine congrArg (ix3 b j') (Fin.ext ?_)
        simp only []; omega
    by_cases hn : (n : ℕ) < 640
    · rw [dif_pos hn, dif_pos hn]
      refine Ideal.add_congr (hdot _ fun l' => ?_) ?_
      · unfold keyB
        rw [dif_pos hn, hkw]
      · rw [hT]
        have h1 : 2 * (s : ℕ) + (srow r l : ℕ) / 64 / 2 = ((s : ℕ) * 128 + l) / 64 := by omega
        have h2 : (srow r l : ℕ) / 64 % 2 = (r : ℕ) / 64 := by omega
        have h3 : (n : ℕ) % 128 % 64 = (n : ℕ) % 64 := by omega
        simp only [h1, h2, h3, hp4]
    · rw [dif_neg hn, dif_neg hn, add_zero]
      refine hdot _ fun l' => ?_
      unfold keyB
      rw [dif_neg hn, hkc]
  have hreal : ∀ j' : Fin 4352, ∃ w : ℝ, dotq b ⟨j * 256 + (g * 128 + r), hiv⟩ j' ⟨((s : ℕ) * 128 + l) / 64, hh⟩ P KV = w := fun j' => dotq_real hf b _ j' _
  -- the query's row and column
  have hI : j * 256 + ((g : ℕ) * 128 + r) - 256 < 4096 := by omega
  have hrow : (j * 256 + ((g : ℕ) * 128 + r) - 256) / 64 = 4 * (j - 1) + 2 * g + (r : ℕ) / 64 := by omega
  have hcol : (j * 256 + ((g : ℕ) * 128 + r) - 256) % 64 = (r : ℕ) % 64 := by omega
  generalize hgr : 4 * (j - 1) + 2 * (g : ℕ) + (r : ℕ) / 64 = gr at hrow
  have hrs : start j g ≤ rs gr ∧ rs gr ≤ start j g + 2 := by
    rw [← hgr]; unfold start rs; omega
  have hcs : cs ((r : ℕ) % 64) + 15 ≤ 63 := by unfold cs; omega
  have htok : ∀ k, tokN (j * 256 + ((g : ℕ) * 128 + r) - 256) k = (rs gr + k / 16) * 64 + (cs ((r : ℕ) % 64) + k % 16) := by
    intro k
    unfold tokN
    rw [hrow, hcol]
  have htab : ∀ (n : Fin 896) (hn : (n : ℕ) < 640),
      tabR B ⟨((s : ℕ) * 128 + l) / 64, hh⟩ ⟨trow j g ((r : ℕ) / 64) ((n : ℕ) / 64), trow_lt _ _ _ _ (by omega)⟩ ⟨(r : ℕ) % 64, by omega⟩ ⟨(n : ℕ) % 64, by omega⟩ = _ :=
    fun n hn => tabR_trow (B := B) j g ((r : ℕ) / 64) ((n : ℕ) / 64) hj hj' g.isLt (by omega) (by omega) ⟨((s : ℕ) * 128 + l) / 64, hh⟩ ⟨(r : ℕ) % 64, by omega⟩ ⟨(n : ℕ) % 64, by omega⟩ gr hgr.symm
  let e : Fin 384 → Fin 896 := fun k => if hk : (k : ℕ) < 128 then ⟨(rs gr + k / 16 - start j g) * 64 + (cs ((r : ℕ) % 64) + k % 16), by omega⟩ else ⟨640 + (k - 128), by omega⟩
  have he1 : ∀ k : Fin 384, (k : ℕ) < 128 → (e k : ℕ) = (rs gr + k / 16 - start j g) * 64 + (cs ((r : ℕ) % 64) + k % 16) := by
    intro k hk
    simp only [e, dif_pos hk]
  have he2 : ∀ k : Fin 384, ¬(k : ℕ) < 128 → (e k : ℕ) = 640 + (k - 128) := by
    intro k hk
    simp only [e, dif_neg hk]
  have hs : ∀ k : Fin 384, (scB q kw kc T (ix2 (srow r l) (e k)) : EReal)
      = scoreR b ⟨j * 256 + (g * 128 + r) - 256, hI⟩ ⟨((s : ℕ) * 128 + l) / 64, hh⟩ k P KV B := by
    intro k
    refine (hsc (e k)).trans ?_
    unfold scoreR
    have hib : (⟨256 + (j * 256 + ((g : ℕ) * 128 + r) - 256), by omega⟩ : Fin 4352) = ⟨j * 256 + (g * 128 + r), hiv⟩ := Fin.ext (by simp only []; omega)
    by_cases hk : (k : ℕ) < 128
    · have e1 := he1 k hk
      have hn : (e k : ℕ) < 640 := by omega
      rw [dif_pos hn, dif_pos hk, htab (e k) hn, dif_pos (by simp only []; omega)]
      refine Ideal.add_congr ?_ (congrArg B ?_)
      · simp only [hib]
        refine congrArg (fun w => dotq b _ w _ P KV) (Fin.ext ?_)
        have := htok k
        simp only [this]
        omega
      · refine congrArg₂ (ix4 0 _) (Fin.ext ?_) (Fin.ext ?_) <;> simp only [hrow, hcol] <;> omega
    · have e2 := he2 k hk
      have hn : ¬(e k : ℕ) < 640 := by omega
      rw [dif_neg hn, dif_neg hk]
      simp only [hib]
      refine congrArg (fun w => dotq b _ w _ P KV) (Fin.ext ?_)
      simp only []; omega
  have hv : ∀ k : Fin 384, keyB vw vc l (e k) = valR b ⟨j * 256 + (g * 128 + r) - 256, hI⟩ k ⟨(s : ℕ) * 128 + l, hcv⟩ KV := by
    intro k
    unfold keyB valR
    by_cases hk : (k : ℕ) < 128
    · have e1 := he1 k hk
      have hn : (e k : ℕ) < 640 := by omega
      rw [dif_pos hn, dif_pos hk, hvw]
      refine congrArg (fun w => KV (ix3 b w _)) (Fin.ext ?_)
      have := htok k
      simp only [this]
      omega
    · have e2 := he2 k hk
      have hn : ¬(e k : ℕ) < 640 := by omega
      rw [dif_neg hn, dif_neg hk, hvc]
      refine congrArg (fun w => KV (ix3 b w _)) (Fin.ext ?_)
      simp only []; omega
  have hoff : ∀ n : Fin 896, (∀ k, e k ≠ n) → (scB q kw kc T (ix2 (srow r l) n) : EReal) = ⊥ := by
    intro n hne
    have hn : (n : ℕ) < 640 := by
      by_contra hn
      have hlt : ¬ (128 + ((n : ℕ) - 640)) < 128 := by omega
      refine hne ⟨128 + (n - 640), by omega⟩ (Fin.ext ((he2 _ hlt).trans ?_))
      simp only []; omega
    refine (hsc n).trans ?_
    rw [dif_pos hn, htab n hn, dif_neg, EReal.add_bot]
    rintro ⟨h1, h2⟩
    simp only [] at h2
    have hlt : ((start j g + (n : ℕ) / 64 - rs gr) * 16 + ((n : ℕ) % 64 - cs ((r : ℕ) % 64))) < 128 := by omega
    refine hne ⟨(start j g + (n : ℕ) / 64 - rs gr) * 16 + ((n : ℕ) % 64 - cs ((r : ℕ) % 64)), by omega⟩ (Fin.ext ((he1 _ hlt).trans ?_))
    simp only []; omega
  have hsr : ∀ k : Fin 384, ∃ w : ℝ, scoreR b ⟨j * 256 + (g * 128 + r) - 256, hI⟩ ⟨((s : ℕ) * 128 + l) / 64, hh⟩ k P KV B = w := by
    intro k
    unfold scoreR
    split
    · obtain ⟨w, hw⟩ := dotq_real hf b ⟨256 + (j * 256 + (g * 128 + r) - 256), by omega⟩ ⟨256 + tokN (j * 256 + (g * 128 + r) - 256) k, by have := tokN_lt (j * 256 + (g * 128 + r) - 256) k (by assumption); omega⟩ ⟨((s : ℕ) * 128 + l) / 64, hh⟩
      obtain ⟨u, hu⟩ := hf.b ⟨((s : ℕ) * 128 + l) / 64, hh⟩ ⟨rs ((j * 256 + ((g : ℕ) * 128 + r) - 256) / 64) + (k : ℕ) / 16 + 7 - (j * 256 + ((g : ℕ) * 128 + r) - 256) / 64, by simp only [rs]; omega⟩ ⟨cs ((j * 256 + ((g : ℕ) * 128 + r) - 256) % 64) + (k : ℕ) % 16 + 15 - (j * 256 + ((g : ℕ) * 128 + r) - 256) % 64, by simp only [cs]; omega⟩
      exact ⟨w + u, by rw [EReal.coe_add]; exact Ideal.add_congr hw hu⟩
    · exact dotq_real hf _ _ _ _
  have hst : ∀ n : Fin 896, (scB q kw kc T (ix2 (srow r l) n) : EReal) ≠ ⊤ := by
    intro n
    by_cases hk : ∃ k, e k = n
    · obtain ⟨k, rfl⟩ := hk
      obtain ⟨w, hw⟩ := hsr k
      rw [hs k, hw]
      exact EReal.coe_ne_top w
    · rw [hoff n fun k hk' => hk ⟨k, hk'⟩]
      exact bot_ne_top
  have h0 : scoreR b ⟨j * 256 + (g * 128 + r) - 256, hI⟩ ⟨((s : ℕ) * 128 + l) / 64, hh⟩ 0 P KV B ≠ ⊥ := by
    obtain ⟨w, hw⟩ := hsr 0
    rw [hw]
    exact EReal.coe_ne_bot w
  have hinj : Function.Injective e := by
    intro k k' hkk
    have h1 := congrArg Fin.val hkk
    refine Fin.ext ?_
    by_cases hk : (k : ℕ) < 128 <;> by_cases hk' : (k' : ℕ) < 128
    · rw [he1 k hk, he1 k' hk'] at h1; omega
    · rw [he1 k hk, he2 k' hk'] at h1; omega
    · rw [he2 k hk, he1 k' hk'] at h1; omega
    · rw [he2 k hk, he2 k' hk'] at h1; omega
  refine (attK_eq _ _ (e 0) (by rw [hs 0]; exact h0) hst).trans ?_
  refine att_embed _ _ _ _ e hinj hs hv hoff 0 h0 fun k => ?_
  obtain ⟨w, hw⟩ := hsr k
  rw [hw]
  exact EReal.coe_ne_top w

/-- What one block of context rows stores. -/
theorem storeA (hf : FiniteIn P KV B) (b : Fin 4) (g : Fin 2) (s : Fin 3)
    (q : FVec Ideal S1x128x128 .f32) (kc vc : FVec Ideal S1x256x128 .bf16) (z : FVec Ideal S1x128x128 .f32)
    (hq : ∀ r l : Fin 128, (q (ix3 0 r l) : EReal) = P (ix3 b ⟨g * 128 + r, by omega⟩ ⟨1536 + (s * 128 + l), by omega⟩))
    (hz : ∀ r l : Fin 128, (z (ix3 0 r l) : EReal) = P (ix3 b ⟨g * 128 + r, by omega⟩ ⟨1920 + (s * 128 + l), by omega⟩))
    (hkc : ∀ (n : Fin 256) (l : Fin 128), (kc (ix3 0 n l) : EReal) = KV (ix3 b ⟨n, by omega⟩ ⟨s * 128 + l, by omega⟩))
    (hvc : ∀ (n : Fin 256) (l : Fin 128), (vc (ix3 0 n l) : EReal) = KV (ix3 b ⟨n, by omega⟩ ⟨384 + (s * 128 + l), by omega⟩))
    (r l : Fin 128) (i : Fin 4352) (hi : (i : ℕ) = g * 128 + r) (c : Fin 384) (hc : (c : ℕ) = s * 128 + l) :
    (finA (scA q kc) vc z (ix3 0 r l) : EReal) = naR P KV B b i c := by
  obtain ⟨iv, hiv⟩ := i
  obtain ⟨cv, hcv⟩ := c
  simp only at hi hc
  subst hi hc
  refine (finA_at _ vc z r l).trans ?_
  have hlt : (g : ℕ) * 128 + r < 256 := by omega
  unfold naR
  rw [dif_pos hlt]
  refine Ideal.mul_congr ?_ ?_
  swap
  · refine (Cert.OutMath.silu _).trans ?_
    rw [hz r l]
    rfl
  have hh : ((s : ℕ) * 128 + l) / 64 < 6 := by omega
  have hp1 : (srow r l : ℕ) % 128 = r := by unfold srow; split <;> simp only [] <;> omega
  have hp2 : (srow r l : ℕ) / 128 = (l : ℕ) / 64 := by unfold srow; split <;> simp only [] <;> omega
  have hsc : ∀ n : Fin 256, (scA q kc (ix2 (srow r l) n) : EReal) = dotq b ⟨g * 128 + r, hiv⟩ ⟨n, by omega⟩ ⟨((s : ℕ) * 128 + l) / 64, hh⟩ P KV := by
    intro n
    refine (scA_at q kc (srow r l) n).trans ?_
    unfold dotq
    change (_ : EReal) = (_ : EReal)
    refine Finset.sum_congr rfl fun d _ => ?_
    rw [hkc, hq]
    refine Ideal.mul_congr (Ideal.mul_congr (congrArg P ?_) rfl) (congrArg KV ?_)
    · refine congrArg₂ (ix3 b) (Fin.ext ?_) (Fin.ext ?_) <;> simp only [] <;> omega
    · refine congrArg (ix3 b _) (Fin.ext ?_)
      simp only []; omega
  have hfin : ∀ n : Fin 256, ∃ w : ℝ, (scA q kc (ix2 (srow r l) n) : EReal) = w := fun n => by
    obtain ⟨w, hw⟩ := dotq_real hf b ⟨g * 128 + r, hiv⟩ ⟨n, by omega⟩ ⟨((s : ℕ) * 128 + l) / 64, hh⟩
    exact ⟨w, (hsc n).trans hw⟩
  refine (attK_eq _ _ 0 ?_ fun n => ?_).trans ?_
  · obtain ⟨w, hw⟩ := hfin 0
    rw [hw]
    exact EReal.coe_ne_bot w
  · obtain ⟨w, hw⟩ := hfin n
    rw [hw]
    exact EReal.coe_ne_top w
  · exact congrArg₂ att (funext hsc) (funext fun n => hvc n l)

end Cert.NattenIdeal.Value

end

end
-- ==== Proof.NaValue.lean ====
/- The attention kernel's result: every block of its output is the reference's attention, gated. -/
module

public import proofs.«01_k».proof.Proof.NaStore
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NattenIdeal.Value

open Cert.NattenIdeal Cert.NattenIdeal.Gen Cert.NaMath
open Cert.NattenRefIdeal.Value (naR)

variable (m : (ℓ : Loc nD τ sig) → Buf (Elt Ideal) ℓ)

/-- The inputs of one chip are finite where the scores come from. -/
def Finite (c : Dev nD) : Prop := FiniteIn (m ((c : Thread nD τ).loc main_arg0)) (m ((c : Thread nD τ).loc main_arg1)) (m ((c : Thread nD τ).loc main_arg2))

/-- The reference's result of one chip's inputs. -/
def RES (c : Dev nD) : S4x4352x384.Idx → EReal := fun j =>
  naR (m ((c : Thread nD τ).loc main_arg0)) (m ((c : Thread nD τ).loc main_arg1)) (m ((c : Thread nD τ).loc main_arg2)) (j 0) (j 1) (j 2)

theorem tN (t : Fin cfg0.N) : t.val < 68 := t.isLt

theorem ix_eta (x : S1x128x128.Idx) : x = ix3 0 (x 1) (x 2) :=
  funext fun a => match a with | 0 => Fin.ext (Nat.lt_one_iff.1 (x 0).isLt) | 1 => rfl | 2 => rfl

/-- A block of latents' store, from its loads. -/
theorem cellB (c : Dev nD) (hf : Finite m c) (t : Fin cfg0.N) (h : ¬t.val % 17 = 0) (g : Fin 2) (s : Fin 3)
    (i1 : ∀ a, (![0, (g : ℕ) * 128, (s : ℕ) * 128] : Fin 3 → ℕ) a + S1x128x128.size a ≤ S1x256x384.size a)
    (i2 : ∀ a, offK s (grid0.coords t) (BitVec.ofNat 32 g) a + S1x640x128.size a ≤ S1x4352x768.size a)
    (i3 : ∀ a, offV s (grid0.coords t) (BitVec.ofNat 32 g) a + S1x640x128.size a ≤ S1x4352x768.size a)
    (i4 : ∀ a, (![0, 0, (s : ℕ) * 128] : Fin 3 → ℕ) a + S1x256x128.size a ≤ S1x4352x768.size a)
    (i5 : ∀ a, (![0, 0, 384 + (s : ℕ) * 128] : Fin 3 → ℕ) a + S1x256x128.size a ≤ S1x4352x768.size a)
    (i6 : ∀ (e : Fin 4) (n : Fin 10), ∀ a, offT s e (grid0.coords t) (BitVec.ofNat 32 g) (BitVec.ofNat 32 n) a + S1x1x1x64x128.size a ≤ S1x6x16x64x128.size a)
    (x : S1x128x128.Idx) (j : S4x4352x384.Idx) (hj0 : (j 0 : ℕ) = t.val / 17) (hj1 : (j 1 : ℕ) = t.val % 17 * 256 + (g * 128 + x 1)) (hj2 : (j 2 : ℕ) = s * 128 + x 2) :
    (finB (scB (View.ld (iblk m c 0 t) (Rect.unit (s := S1x256x384) ![0, (g : ℕ) * 128, (s : ℕ) * 128] S1x128x128.size i1))
        (View.ld (iblk m c 1 t) (Rect.unit (s := S1x4352x768) (offK s (grid0.coords t) (BitVec.ofNat 32 g)) S1x640x128.size i2))
        (View.ld (iblk m c 1 t) (Rect.unit (s := S1x4352x768) ![0, 0, (s : ℕ) * 128] S1x256x128.size i4))
        (fun e n => View.ld (iblk m c 3 t) (Rect.unit (s := S1x6x16x64x128) (offT s e (grid0.coords t) (BitVec.ofNat 32 g) (BitVec.ofNat 32 n)) S1x1x1x64x128.size (i6 e n))))
      (View.ld (iblk m c 1 t) (Rect.unit (s := S1x4352x768) (offV s (grid0.coords t) (BitVec.ofNat 32 g)) S1x640x128.size i3))
      (View.ld (iblk m c 1 t) (Rect.unit (s := S1x4352x768) ![0, 0, 384 + (s : ℕ) * 128] S1x256x128.size i5))
      (View.ld (iblk m c 2 t) (Rect.unit (s := S1x256x384) ![0, (g : ℕ) * 128, (s : ℕ) * 128] S1x128x128.size i1)) x : EReal) = RES m c j := by
  have ht := tN t
  have hK := offK_eq s t g h
  have hV := offV_eq s t g h
  refine (congrArg (finB _ _ _ _) (ix_eta x)).trans ?_
  refine (storeB hf (j 0) (t.val % 17) (by omega) (Nat.mod_lt _ (by decide)) g s _ _ _ _ _ _ _ ?_ ?_ ?_ ?_ ?_ ?_ ?_ (x 1) (x 2) (j 1) hj1 (j 2) hj2)
  · intro r l
    refine (View.ld_unit_apply_of _ _ _ _ _ (ix3 0 ⟨g * 128 + r, by omega⟩ ⟨s * 128 + l, by omega⟩) fun a => ?_).trans
      (qread m c t _ _ (j 0) _ hj0 (by simp only []))
    match a with | 0 | 1 | 2 => rfl
  · intro r l
    refine (View.ld_unit_apply_of _ _ _ _ _ (ix3 0 ⟨g * 128 + r, by omega⟩ ⟨s * 128 + l, by omega⟩) fun a => ?_).trans
      (zread m c t _ _ (j 0) _ hj0 (by simp only []))
    match a with | 0 | 1 | 2 => rfl
  · intro n l
    refine (View.ld_unit_apply_of _ _ _ _ _ (ix3 0 ⟨256 + start (t.val % 17) g * 64 + n, by unfold start; omega⟩ ⟨s * 128 + l, by omega⟩) fun a => ?_).trans
      (kvread m c t _ _ (j 0) hj0)
    refine Eq.trans ?_ (congrArg (· + _) (congrFun hK a).symm)
    match a with | 0 | 1 | 2 => rfl
  · intro n l
    refine (View.ld_unit_apply_of _ _ _ _ _ (ix3 0 ⟨256 + start (t.val % 17) g * 64 + n, by unfold start; omega⟩ ⟨384 + (s * 128 + l), by omega⟩) fun a => ?_).trans
      (kvread m c t _ _ (j 0) hj0)
    refine Eq.trans ?_ (congrArg (· + _) (congrFun hV a).symm)
    match a with | 0 | 1 => rfl | 2 => exact (Nat.add_assoc _ _ _).symm
  · intro n l
    refine (View.ld_unit_apply_of _ _ _ _ _ (ix3 0 ⟨n, by omega⟩ ⟨s * 128 + l, by omega⟩) fun a => ?_).trans
      (kvread m c t _ _ (j 0) hj0)
    match a with | 0 | 2 => rfl | 1 => exact (Nat.zero_add _).symm
  · intro n l
    refine (View.ld_unit_apply_of _ _ _ _ _ (ix3 0 ⟨n, by omega⟩ ⟨384 + (s * 128 + l), by omega⟩) fun a => ?_).trans
      (kvread m c t _ _ (j 0) hj0)
    match a with | 0 => rfl | 1 => exact (Nat.zero_add _).symm | 2 => exact (Nat.add_assoc _ _ _).symm
  · intro e n x l
    have hO := offT_eq s e t g n h
    refine (View.ld_unit_apply_of _ _ _ _ _ (ix5 0 ⟨2 * s + e / 2, by omega⟩ ⟨trow (t.val % 17) g ((e : ℕ) % 2) n, trow_lt _ _ _ _ n.isLt⟩ x l) fun a => ?_).trans
      (tread m c t _ _ x l)
    refine Eq.trans ?_ (congrArg (· + _) (congrFun hO a).symm)
    match a with | 0 | 1 | 2 => rfl | 3 | 4 => exact (Nat.zero_add _).symm

/-- A block of context rows' store, from its loads. -/
theorem cellA (c : Dev nD) (hf : Finite m c) (t : Fin cfg0.N) (h : t.val % 17 = 0) (g : Fin 2) (s : Fin 3)
    (i1 : ∀ a, (![0, (g : ℕ) * 128, (s : ℕ) * 128] : Fin 3 → ℕ) a + S1x128x128.size a ≤ S1x256x384.size a)
    (i4 : ∀ a, (![0, 0, (s : ℕ) * 128] : Fin 3 → ℕ) a + S1x256x128.size a ≤ S1x4352x768.size a)
    (i5 : ∀ a, (![0, 0, 384 + (s : ℕ) * 128] : Fin 3 → ℕ) a + S1x256x128.size a ≤ S1x4352x768.size a)
    (x : S1x128x128.Idx) (j : S4x4352x384.Idx) (hj0 : (j 0 : ℕ) = t.val / 17) (hj1 : (j 1 : ℕ) = g * 128 + x 1) (hj2 : (j 2 : ℕ) = s * 128 + x 2) :
    (finA (scA (View.ld (iblk m c 0 t) (Rect.unit (s := S1x256x384) ![0, (g : ℕ) * 128, (s : ℕ) * 128] S1x128x128.size i1))
        (View.ld (iblk m c 1 t) (Rect.unit (s := S1x4352x768) ![0, 0, (s : ℕ) * 128] S1x256x128.size i4)))
      (View.ld (iblk m c 1 t) (Rect.unit (s := S1x4352x768) ![0, 0, 384 + (s : ℕ) * 128] S1x256x128.size i5))
      (View.ld (iblk m c 2 t) (Rect.unit (s := S1x256x384) ![0, (g : ℕ) * 128, (s : ℕ) * 128] S1x128x128.size i1)) x : EReal) = RES m c j := by
  have ht := tN t
  refine (congrArg (finA _ _ _) (ix_eta x)).trans ?_
  refine (storeA hf (j 0) g s _ _ _ _ ?_ ?_ ?_ ?_ (x 1) (x 2) (j 1) hj1 (j 2) hj2)
  · intro r l
    refine (View.ld_unit_apply_of _ _ _ _ _ (ix3 0 ⟨g * 128 + r, by omega⟩ ⟨s * 128 + l, by omega⟩) fun a => ?_).trans
      (qread m c t _ _ (j 0) _ hj0 (by simp only [h]; omega))
    match a with | 0 | 1 | 2 => rfl
  · intro r l
    refine (View.ld_unit_apply_of _ _ _ _ _ (ix3 0 ⟨g * 128 + r, by omega⟩ ⟨s * 128 + l, by omega⟩) fun a => ?_).trans
      (zread m c t _ _ (j 0) _ hj0 (by simp only [h]; omega))
    match a with | 0 | 1 | 2 => rfl
  · intro n l
    refine (View.ld_unit_apply_of _ _ _ _ _ (ix3 0 ⟨n, by omega⟩ ⟨s * 128 + l, by omega⟩) fun a => ?_).trans
      (kvread m c t _ _ (j 0) hj0)
    match a with | 0 | 2 => rfl | 1 => exact (Nat.zero_add _).symm
  · intro n l
    refine (View.ld_unit_apply_of _ _ _ _ _ (ix3 0 ⟨n, by omega⟩ ⟨384 + (s * 128 + l), by omega⟩) fun a => ?_).trans
      (kvread m c t _ _ (j 0) hj0)
    match a with | 0 => rfl | 1 => exact (Nat.zero_add _).symm | 2 => exact (Nat.add_assoc _ _ _).symm

theorem inbK (s : Fin 3) (t : Fin cfg0.N) (h : ¬t.val % 17 = 0) (g : Fin 2) :
    ∀ a, offK s (grid0.coords t) (BitVec.ofNat 32 g) a + S1x640x128.size a ≤ S1x4352x768.size a := by
  have ht := tN t
  have hk : 256 + start (t.val % 17) g * 64 + 640 ≤ 4352 := by unfold start; omega
  have hs : (s : ℕ) * 128 + 128 ≤ 768 := by omega
  intro a
  refine le_of_eq_of_le (congrArg (· + _) (congrFun (offK_eq s t g h) a)) ?_
  match a with | 0 => exact le_rfl | 1 => exact hk | 2 => exact hs

theorem inbV (s : Fin 3) (t : Fin cfg0.N) (h : ¬t.val % 17 = 0) (g : Fin 2) :
    ∀ a, offV s (grid0.coords t) (BitVec.ofNat 32 g) a + S1x640x128.size a ≤ S1x4352x768.size a := by
  have ht := tN t
  have hk : 256 + start (t.val % 17) g * 64 + 640 ≤ 4352 := by unfold start; omega
  have hs : 384 + (s : ℕ) * 128 + 128 ≤ 768 := by omega
  intro a
  refine le_of_eq_of_le (congrArg (· + _) (congrFun (offV_eq s t g h) a)) ?_
  match a with | 0 => exact le_rfl | 1 => exact hk | 2 => exact hs

theorem inbT (s : Fin 3) (t : Fin cfg0.N) (h : ¬t.val % 17 = 0) (g : Fin 2) (e : Fin 4) (n : Fin 10) :
    ∀ a, offT s e (grid0.coords t) (BitVec.ofNat 32 g) (BitVec.ofNat 32 n) a + S1x1x1x64x128.size a ≤ S1x6x16x64x128.size a := by
  have hr := trow_lt (t.val % 17) g ((e : ℕ) % 2) n n.isLt
  have hs : 2 * (s : ℕ) + (e : ℕ) / 2 + 1 ≤ 6 := by omega
  intro a
  refine le_of_eq_of_le (congrArg (· + _) (congrFun (offT_eq s e t g n h) a)) ?_
  match a with | 0 | 3 | 4 => exact le_rfl | 1 => exact hs | 2 => exact hr

end Cert.NattenIdeal.Value

end

end
-- ==== Proof.NaFinal.lean ====
/- The attention kernel's stores, read back: what the run leaves in its output. -/
module

public import proofs.«01_k».proof.Proof.NaValue

@[expose] public section

set_option maxRecDepth 16384

noncomputable section

open Idealize.ShloMosaic Idealize.ShloMosaic.TcCoe Idealize.SL.Sem
open Idealize.ShloMosaic.Pipeline (Dat)

namespace Cert.NattenIdeal.Value

open Cert.NattenIdeal Cert.NattenIdeal.Gen Cert.NaMath

variable (m : (ℓ : Loc nD τ sig) → Buf (Elt Ideal) ℓ)

set_option maxHeartbeats 4000000 in
/-- What the run leaves in the output. -/
theorem final4 (c : Dev nD) (hf : Finite m c) : (dats m 0 c).arrAt 4 (cfgs 0).N = RES m c := by
  refine (dats m 0 c).arrAt_eq_of_covers 4 _ (by decide +kernel) fun t _ y => ?_
  blk_simp
  rw [after0_4]
  by_cases h : t.val % 17 = 0
  · rw [outsAt0_A m c t (by omega) h]
    unfold out0_A_4
    frame_out
    canon_tiles x hx using View.cover_of_tiledBy _ ![1, 128, 128] (by sl_kernel_rfl) y
    on_goal 6 => refine Eq.trans ?_ (cellA m c hf t h 0 0 (by decide) (by decide) (by decide) x _ ?_ ?_ ?_)
    on_goal 5 => refine Eq.trans ?_ (cellA m c hf t h 0 1 (by decide) (by decide) (by decide) x _ ?_ ?_ ?_)
    on_goal 4 => refine Eq.trans ?_ (cellA m c hf t h 0 2 (by decide) (by decide) (by decide) x _ ?_ ?_ ?_)
    on_goal 3 => refine Eq.trans ?_ (cellA m c hf t h 1 0 (by decide) (by decide) (by decide) x _ ?_ ?_ ?_)
    on_goal 2 => refine Eq.trans ?_ (cellA m c hf t h 1 1 (by decide) (by decide) (by decide) x _ ?_ ?_ ?_)
    on_goal 1 => refine Eq.trans ?_ (cellA m c hf t h 1 2 (by decide) (by decide) (by decide) x _ ?_ ?_ ?_)
    all_goals first
      | (show (_ : ℕ) = _; blk_simp [idx t] <;> omega)
      | rfl
  · rw [outsAt0_B m c t (by omega) h]
    unfold out0_B_4
    frame_out
    canon_tiles x hx using View.cover_of_tiledBy _ ![1, 128, 128] (by sl_kernel_rfl) y
    on_goal 6 => refine Eq.trans ?_ (cellB m c hf t h 0 0 (by decide) (inbK 0 t h 0) (inbV 0 t h 0) (by decide) (by decide) (inbT 0 t h 0) x _ ?_ ?_ ?_)
    on_goal 5 => refine Eq.trans ?_ (cellB m c hf t h 0 1 (by decide) (inbK 1 t h 0) (inbV 1 t h 0) (by decide) (by decide) (inbT 1 t h 0) x _ ?_ ?_ ?_)
    on_goal 4 => refine Eq.trans ?_ (cellB m c hf t h 0 2 (by decide) (inbK 2 t h 0) (inbV 2 t h 0) (by decide) (by decide) (inbT 2 t h 0) x _ ?_ ?_ ?_)
    on_goal 3 => refine Eq.trans ?_ (cellB m c hf t h 1 0 (by decide) (inbK 0 t h 1) (inbV 0 t h 1) (by decide) (by decide) (inbT 0 t h 1) x _ ?_ ?_ ?_)
    on_goal 2 => refine Eq.trans ?_ (cellB m c hf t h 1 1 (by decide) (inbK 1 t h 1) (inbV 1 t h 1) (by decide) (by decide) (inbT 1 t h 1) x _ ?_ ?_ ?_)
    on_goal 1 => refine Eq.trans ?_ (cellB m c hf t h 1 2 (by decide) (inbK 2 t h 1) (inbV 2 t h 1) (by decide) (by decide) (inbT 2 t h 1) x _ ?_ ?_ ?_)
    all_goals try (show (_ : ℕ) = _; blk_simp [idx t] <;> omega)
    all_goals
      generalize hX : View.read (Elt Ideal) (ms0_3 t).view (Memref.IsWhole.unread (hs0_3 t) (iblk m c 3 t)) = X'
      have hX' : X' = iblk m c 3 t := hX.symm.trans (Memref.IsWhole.read_unread _ _)
      subst hX'
      clear hX
      dsimp only [finB, scB, rowB, offT, offK, offV,
        k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67, k0_pay68, k0_pay69, k0_pay70, k0_pay71,
        k0_pay72, k0_pay73, k0_pay74, k0_pay75, k0_pay76, k0_pay77, k0_pay78, k0_pay79, k0_pay80, k0_pay81, k0_pay82, k0_pay83, k0_pay84, k0_pay85, k0_pay86, k0_pay87, k0_pay88,
        k0_pay89, k0_pay90, k0_pay91, k0_pay92, k0_pay93, k0_pay94, k0_pay95, k0_pay96, k0_pay97, k0_pay98, k0_pay99, k0_pay100, k0_pay101, k0_pay102, k0_pay103, k0_pay104,
        k0_pay105, k0_pay106, k0_pay107, k0_pay108, k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130, k0_pay131, k0_pay132, k0_pay133, k0_pay134,
        k0_pay135, k0_pay136, k0_pay137, k0_pay138, k0_pay139, k0_pay140, k0_pay141, k0_pay142, k0_pay143, k0_pay144, k0_pay145, k0_pay146, k0_pay147, k0_pay148, k0_pay149]
    all_goals rfl

end Cert.NattenIdeal.Value

end

end
-- ==== Proof.NaClaim.lean ====
/- The value claim of the attention call, its precondition read, and its reference's frame. -/
module

public import proofs.«01_k».proof.Defs
public import proofs.«01_k».proof.Proof.NaFinal
public import proofs.«01_k».proof.Proof.NaRefRow
public import proofs.«01_k».proof.Proof.Precond
public import proofs.«01_k».proof.Proof.Gen.NattenIdeal.Value
public import proofs.«01_k».proof.Proof.Gen.NattenRefIdeal.Run
public import Idealize.ShloMosaic.Lib.ReduceAll
public import Idealize.ShloMosaic.Lib.Claim

@[expose] public section

set_option maxRecDepth 16384

noncomputable section

namespace Cert.Proof

open Idealize.ShloMosaic Idealize.ShloMosaic.TcCoe Idealize.SL.Sem

/-- The shape relations of the precondition of the attention call. -/
theorem scores_facts : Cert.Pre_finite_scores.Facts :=
  ⟨by decide +kernel, by decide +kernel, by decide +kernel, by decide +kernel, by decide +kernel, by decide +kernel,
    by decide +kernel, by decide +kernel, by decide +kernel, by decide +kernel⟩

attribute [local instance] Cert.NattenIdeal.Gen.facts Cert.NattenRefIdeal.Gen.facts scores_facts

/-- A number between the infinities is real. -/
theorem real_of_ends (x : EReal) (h : x ≠ ⊥ ∧ x ≠ ⊤) : ∃ r : ℝ, x = r :=
  ⟨x.toReal, (EReal.coe_toReal h.2 h.1).symm⟩

/-- Two bits whose conjunction is set are set. -/
theorem and_bits (a b : BitVec 1) (h : IntOp.andi a b = 1#1) : a = 1#1 ∧ b = 1#1 := by
  revert a b; decide

/-- The attention call's precondition gives finite queries, keys and biases. -/
theorem natten_finite (m : (ℓ : Loc Cert.NattenIdeal.nD Cert.NattenIdeal.τ Cert.NattenIdeal.sig) → Buf (Elt Ideal) ℓ)
    (h : Cert.Pre_NattenIdeal_finite_scores m) (c : Dev Cert.NattenIdeal.nD) : Cert.NattenIdeal.Value.Finite m c := by
  haveI : Subsingleton Cert.Pre_finite_scores.S_.Idx := ⟨fun a b => funext fun k => k.elim0⟩
  have h0 := congrFun (h c) (fun k => k.elim0)
  obtain ⟨h1, hb⟩ := and_bits _ _ h0
  obtain ⟨hq, hk⟩ := and_bits _ _ h1
  refine ⟨fun b i k => ?_, fun b i k => ?_, fun g x y => ?_⟩
  · have e := real_of_ends _ (finite_of_olt _ (Host.reduce_andi_all _ _ _ _ (fun k => k.elim0) hq (ix3 b i k)))
    refine e.imp fun r hr => Eq.trans ?_ hr
    refine congrArg (m _) (funext fun a => Fin.ext ?_)
    fin_cases a <;> simp [ix3]
  · have e := real_of_ends _ (finite_of_olt _ (Host.reduce_andi_all _ _ _ _ (fun k => k.elim0) hk (ix3 b i k)))
    refine e.imp fun r hr => Eq.trans ?_ hr
    refine congrArg (m _) (funext fun a => Fin.ext ?_)
    fin_cases a <;> simp [ix3]
  · have e := real_of_ends _ (finite_of_olt _ (Host.reduce_andi_all _ _ _ _ (fun k => k.elim0) hb (ix3 g x y)))
    refine e.imp fun r hr => Eq.trans ?_ hr
    pointwise

/-- The reference of the attention call returns, its arguments unchanged. -/
theorem natten_ref_quiescent : Cert.quiescent_NattenRefIdeal (hNattenRefIdeal := Cert.NattenRefIdeal.Gen.facts) := fun m g _ =>
  (θ_run Cert.NattenRefIdeal.defs _ _).mono (fun r h => ⟨fun c => (h c).2, sem_eq_zero_of_no_sems (by decide) r.2⟩)
    (Cert.NattenRefIdeal.Value.run (F := Ideal) m g)

set_option maxHeartbeats 4000000 in
/-- The kernel and the reference of the attention call end with equal results. -/
theorem natten_algebraic : Cert.algebraic_NattenIdeal_NattenRefIdeal_pre_finite_scores (hNattenIdeal := Cert.NattenIdeal.Gen.facts)
    (hNattenRefIdeal := Cert.NattenRefIdeal.Gen.facts) (hPre_finite_scores := scores_facts) := by
  intro m g m' g' hp hm
  refine ⟨fun c => Cert.NattenIdeal.Value.RES m c, ?_, ?_⟩
  · run_from Cert.NattenIdeal.Value.run_blocks m g
    exact Cert.NattenIdeal.Value.final4 m _ (natten_finite m hp _)
  · run_from Cert.NattenRefIdeal.Value.run m' g'
    unfold Cert.NattenIdeal.Value.RES
    rw [← (hm c).1, ← (hm c).2.1, ← (hm c).2.2]
    exact (Cert.NattenRefIdeal.Value.val3_main_v142 _).symm.trans (Cert.NattenRefIdeal.Value.ref_row _)

end Cert.Proof

end

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.InRefIdeal.Run
public import proofs.«01_k».proof.Proof.Gen.InProjIdeal.Value
public import proofs.«01_k».proof.Proof.InClaim
public import proofs.«01_k».proof.Proof.OutClaim
public import proofs.«01_k».proof.Proof.LastClaim
public import proofs.«01_k».proof.Proof.NaClaim
public import proofs.«01_k».proof.Proof.Gen.Natten
public import proofs.«01_k».proof.Proof.Gen.Natten.Frame
public import proofs.«01_k».proof.Proof.Gen.NattenIdeal
public import proofs.«01_k».proof.Proof.Gen.NattenIdeal.Frame
public import proofs.«01_k».proof.Proof.Gen.NattenIdeal.Value
public import proofs.«01_k».proof.Proof.Gen.NattenRefIdeal
public import proofs.«01_k».proof.Proof.Gen.NattenRefIdeal.Run
public import proofs.«01_k».proof.Proof.Gen.OutIn
public import proofs.«01_k».proof.Proof.Gen.OutIn.Frame
public import proofs.«01_k».proof.Proof.Gen.OutInIdeal
public import proofs.«01_k».proof.Proof.Gen.OutInIdeal.Frame
public import proofs.«01_k».proof.Proof.Gen.OutInIdeal.Value
public import proofs.«01_k».proof.Proof.Gen.OutInRefIdeal
public import proofs.«01_k».proof.Proof.Gen.OutInRefIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import Idealize.ShloMosaic.Adequacy
public import Idealize.ShloMosaic.Init

@[expose] public section

noncomputable section

namespace Cert.Proof

open Idealize.ShloMosaic Idealize.SL.Sem

theorem claim : Cert.Claim :=
  ⟨Cert.InProj.Gen.facts, Cert.InProjIdeal.Gen.facts, Cert.InRefIdeal.Gen.facts,
    Cert.OutIn.Gen.facts, Cert.OutInIdeal.Gen.facts, Cert.OutInRefIdeal.Gen.facts,
    Cert.Last.Gen.facts, Cert.LastIdeal.Gen.facts, Cert.LastRefIdeal.Gen.facts,
    Cert.Natten.Gen.facts, Cert.NattenIdeal.Gen.facts, Cert.NattenRefIdeal.Gen.facts, delta_facts, last_facts, scores_facts,
    fun m ρ _ => Cert.InProj.Gen.frame m ρ,
    fun m ρ _ => Cert.InProjIdeal.Gen.frame m ρ,
    in_ref_quiescent,
    fun m ρ _ => Cert.OutIn.Gen.frame m ρ,
    fun m ρ _ => Cert.OutInIdeal.Gen.frame m ρ,
    fun m ρ _ => Cert.OutInIdeal.Gen.frame m ρ,
    out_ref_quiescent,
    fun m ρ _ => out_ref_quiescent m ρ trivial,
    fun m ρ _ => Cert.Last.Gen.frame m ρ,
    fun m ρ _ => Cert.LastIdeal.Gen.frame m ρ,
    fun m ρ _ => Cert.LastIdeal.Gen.frame m ρ,
    last_ref_quiescent,
    fun m ρ _ => last_ref_quiescent m ρ trivial,
    fun m ρ _ => Cert.Natten.Gen.frame m ρ,
    fun m ρ _ => Cert.NattenIdeal.Gen.frame m ρ,
    fun m ρ _ => Cert.NattenIdeal.Gen.frame m ρ,
    natten_ref_quiescent,
    fun m ρ _ => natten_ref_quiescent m ρ trivial,
    trivial,
    in_algebraic,
    trivial,
    out_algebraic,
    trivial,
    last_algebraic,
    trivial,
    natten_algebraic⟩

end Cert.Proof

end
